-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_categories [hPre_categories : Cert.Pre_categories.Facts] (m : (ℓ : Loc Cert.KernelIdeal.nD Cert.KernelIdeal.τ Cert.KernelIdeal.sig) → Buf (Elt Ideal) ℓ) : Prop :=
  ∀ c : Dev Cert.KernelIdeal.nD,
    (Cert.Pre_categories.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_categories [hPre_categories : Cert.Pre_categories.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_categories.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_categories [hKernelIdeal : Cert.KernelIdeal.Facts] [hPre_categories : Cert.Pre_categories.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_categories m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_categories [hReferenceIdeal : Cert.ReferenceIdeal.Facts] [hPre_categories : Cert.Pre_categories.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_categories m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal_pre_categories [hKernelIdeal : Cert.KernelIdeal.Facts] [hReferenceIdeal : Cert.ReferenceIdeal.Facts] [hPre_categories : Cert.Pre_categories.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_categories m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v126)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v126) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v367) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_categories : Cert.Pre_categories.Facts),
    quiescent_Kernel (hKernel := hKernel)
    ∧ quiescent_KernelIdeal (hKernelIdeal := hKernelIdeal)
    ∧ quiescent_KernelIdeal_pre_categories (hKernelIdeal := hKernelIdeal) (hPre_categories := hPre_categories)
    ∧ quiescent_ReferenceIdeal (hReferenceIdeal := hReferenceIdeal)
    ∧ quiescent_ReferenceIdeal_pre_categories (hReferenceIdeal := hReferenceIdeal) (hPre_categories := hPre_categories)
    ∧ preserves_Kernel_KernelIdeal
    ∧ algebraic_KernelIdeal_ReferenceIdeal_pre_categories (hKernelIdeal := hKernelIdeal) (hReferenceIdeal := hReferenceIdeal) (hPre_categories := hPre_categories)
-- ==== Pre_categories.lean ====
abbrev S16x100000 : Shape := ⟨2, ![16, 100000]⟩
abbrev S100000x4 : Shape := ⟨2, ![100000, 4]⟩
abbrev S16x100000x4 : Shape := ⟨3, ![16, 100000, 4]⟩
abbrev S16 : Shape := ⟨1, ![16]⟩
abbrev S_ : Shape := ⟨0, ![]⟩

class Facts : Prop where
  bcast_S_S16x100000 : S_.BroadcastsInDim S16x100000 (![] : Fin 0 → Fin S16x100000.rank)

variable [Facts]

def fn {F : FTy → Type} [FloatOps F] (main_arg0 : IVec S16x100000 32) (main_arg1 : FVec F S100000x4 .f32) (main_arg2 : FVec F S16x100000x4 .f32) (main_arg3 : FVec F S16x100000x4 .f32) (main_arg4 : FVec F S16 .f32) (main_arg5 : FVec F S16 .f32) : IVec S16x100000 1 :=
  let main_c : IVec S_ 32 := constantI S_ 32 0#32
  let main_v0 : IVec S16x100000 32 := broadcastInDim S16x100000 ![] bcast_S_S16x100000 main_c
  let main_v1 : IVec S16x100000 1 := cmpi .sge main_arg0 main_v0
  let main_c_0 : IVec S_ 32 := constantI S_ 32 4#32
  let main_v2 : IVec S16x100000 32 := broadcastInDim S16x100000 ![] bcast_S_S16x100000 main_c_0
  let main_v3 : IVec S16x100000 1 := cmpi .slt main_arg0 main_v2
  let main_v4 : IVec S16x100000 1 := andi main_v1 main_v3
  main_v4
-- ==== Kernel.lean ====
abbrev S16x100000 : Shape := ⟨2, ![16, 100000]⟩
abbrev S100000x4 : Shape := ⟨2, ![100000, 4]⟩
abbrev S16x100000x4 : Shape := ⟨3, ![16, 100000, 4]⟩
abbrev S16 : Shape := ⟨1, ![16]⟩
abbrev S4x16x100000 : Shape := ⟨3, ![4, 16, 100000]⟩
abbrev S_ : Shape := ⟨0, ![]⟩
abbrev S8x100000 : Shape := ⟨2, ![8, 100000]⟩
abbrev S4x100000 : Shape := ⟨2, ![4, 100000]⟩
abbrev S1 : Shape := ⟨1, ![1]⟩
abbrev S16x1 : Shape := ⟨2, ![16, 1]⟩
abbrev S16x8192 : Shape := ⟨2, ![16, 8192]⟩
abbrev S8x8192 : Shape := ⟨2, ![8, 8192]⟩
abbrev S4x16x8192 : Shape := ⟨3, ![4, 16, 8192]⟩
abbrev S16x128 : Shape := ⟨2, ![16, 128]⟩
abbrev S1x8192 : Shape := ⟨2, ![1, 8192]⟩
abbrev S1x16x8192 : Shape := ⟨3, ![1, 16, 8192]⟩
abbrev S16x8 : Shape := ⟨2, ![16, 8]⟩
abbrev S16x4 : Shape := ⟨2, ![16, 4]⟩
abbrev S16x2 : Shape := ⟨2, ![16, 2]⟩
abbrev S1x100000 : Shape := ⟨2, ![1, 100000]⟩
abbrev S100000 : Shape := ⟨1, ![100000]⟩
abbrev S100000x1 : Shape := ⟨2, ![100000, 1]⟩
abbrev S100000x2 : Shape := ⟨2, ![100000, 2]⟩
abbrev S1x100000x4 : Shape := ⟨3, ![1, 100000, 4]⟩

abbrev nBuf : Space → Nat
  | .hbm => 169
  | .vmem => 40
  | .smem => 0
  | _ => 0

abbrev hbmTy0_0 (i : Nat) : BufTy := match i % 128 with
  | 0 => ⟨S16x100000, .i32⟩
  | 1 => ⟨S100000x4, .f32⟩
  | 2 => ⟨S16x100000x4, .f32⟩
  | 3 => ⟨S16x100000x4, .f32⟩
  | 4 => ⟨S16, .f32⟩
  | 5 => ⟨S16, .f32⟩
  | 6 => ⟨S4x16x100000, .f32⟩
  | 7 => ⟨S4x16x100000, .f32⟩
  | 8 => ⟨S_, .f32⟩
  | 9 => ⟨S8x100000, .f32⟩
  | 10 => ⟨S4x100000, .f32⟩
  | 11 => ⟨S_, .i32⟩
  | 12 => ⟨S1, .i32⟩
  | 13 => ⟨S8x100000, .f32⟩
  | 14 => ⟨S_, .f32⟩
  | 15 => ⟨S16x1, .f32⟩
  | 16 => ⟨S16x100000, .i32⟩
  | 17 => ⟨S16x1, .f32⟩
  | 18 => ⟨S16x1, .f32⟩
  | 19 => ⟨S1x100000, .i32⟩
  | 20 => ⟨S100000, .i32⟩
  | 21 => ⟨S_, .f32⟩
  | 22 => ⟨S16x100000x4, .f32⟩
  | 23 => ⟨S100000, .i32⟩
  | 24 => ⟨S_, .i32⟩
  | 25 => ⟨S100000, .i32⟩
  | 26 => ⟨S100000, .i1⟩
  | 27 => ⟨S_, .i32⟩
  | 28 => ⟨S100000, .i32⟩
  | 29 => ⟨S100000, .i32⟩
  | 30 => ⟨S100000, .i32⟩
  | 31 => ⟨S_, .i32⟩
  | 32 => ⟨S100000, .i32⟩
  | 33 => ⟨S100000, .i1⟩
  | 34 => ⟨S_, .i32⟩
  | 35 => ⟨S100000, .i32⟩
  | 36 => ⟨S100000, .i32⟩
  | 37 => ⟨S100000, .i32⟩
  | 38 => ⟨S100000x1, .i32⟩
  | 39 => ⟨S100000x1, .i32⟩
  | 40 => ⟨S100000x2, .i32⟩
  | 41 => ⟨S_, .f32⟩
  | 42 => ⟨S16x100000, .f32⟩
  | 43 => ⟨S16x100000x4, .f32⟩
  | 44 => ⟨S1x100000x4, .f32⟩
  | 45 => ⟨S16x100000x4, .f32⟩
  | 46 => ⟨S16x100000x4, .f32⟩
  | 47 => ⟨S_, .f32⟩
  | 48 => ⟨S16, .f32⟩
  | 49 => ⟨S1x100000, .i32⟩
  | 50 => ⟨S100000, .i32⟩
  | 51 => ⟨S_, .f32⟩
  | 52 => ⟨S16x100000x4, .f32⟩
  | 53 => ⟨S100000, .i32⟩
  | 54 => ⟨S_, .i32⟩
  | 55 => ⟨S100000, .i32⟩
  | 56 => ⟨S100000, .i1⟩
  | 57 => ⟨S_, .i32⟩
  | 58 => ⟨S100000, .i32⟩
  | 59 => ⟨S100000, .i32⟩
  | 60 => ⟨S100000, .i32⟩
  | 61 => ⟨S_, .i32⟩
  | 62 => ⟨S100000, .i32⟩
  | 63 => ⟨S100000, .i1⟩
  | 64 => ⟨S_, .i32⟩
  | 65 => ⟨S100000, .i32⟩
  | 66 => ⟨S100000, .i32⟩
  | 67 => ⟨S100000, .i32⟩
  | 68 => ⟨S100000x1, .i32⟩
  | 69 => ⟨S100000x1, .i32⟩
  | 70 => ⟨S100000x2, .i32⟩
  | 71 => ⟨S_, .f32⟩
  | 72 => ⟨S16x100000, .f32⟩
  | 73 => ⟨S16x100000x4, .f32⟩
  | 74 => ⟨S1x100000x4, .f32⟩
  | 75 => ⟨S16x100000x4, .f32⟩
  | 76 => ⟨S16x100000x4, .f32⟩
  | 77 => ⟨S_, .f32⟩
  | 78 => ⟨S16, .f32⟩
  | 79 => ⟨S16, .f32⟩
  | 80 => ⟨S16, .f32⟩
  | 81 => ⟨S16, .f32⟩
  | 82 => ⟨S16, .f32⟩
  | 83 => ⟨S16, .f32⟩
  | 84 => ⟨S16, .f32⟩
  | 85 => ⟨S16, .i1⟩
  | 86 => ⟨S16, .f32⟩
  | 87 => ⟨S16x1, .f32⟩
  | 88 => ⟨S16x100000, .i32⟩
  | 89 => ⟨S16x1, .f32⟩
  | 90 => ⟨S16x1, .f32⟩
  | 91 => ⟨S1, .f32⟩
  | 92 => ⟨S_, .f32⟩
  | 93 => ⟨S_, .f32⟩
  | 94 => ⟨S_, .i1⟩
  | 95 => ⟨S1x100000, .i32⟩
  | 96 => ⟨S100000, .i32⟩
  | 97 => ⟨S1x100000, .i32⟩
  | 98 => ⟨S100000, .i32⟩
  | 99 => ⟨S100000, .i32⟩
  | 100 => ⟨S1x100000, .i32⟩
  | 101 => ⟨S100000, .i32⟩
  | 102 => ⟨S_, .f32⟩
  | 103 => ⟨S16x100000x4, .f32⟩
  | 104 => ⟨S100000, .i32⟩
  | 105 => ⟨S_, .i32⟩
  | 106 => ⟨S100000, .i32⟩
  | 107 => ⟨S100000, .i1⟩
  | 108 => ⟨S_, .i32⟩
  | 109 => ⟨S100000, .i32⟩
  | 110 => ⟨S100000, .i32⟩
  | 111 => ⟨S100000, .i32⟩
  | 112 => ⟨S_, .i32⟩
  | 113 => ⟨S100000, .i32⟩
  | 114 => ⟨S100000, .i1⟩
  | 115 => ⟨S_, .i32⟩
  | 116 => ⟨S100000, .i32⟩
  | 117 => ⟨S100000, .i32⟩
  | 118 => ⟨S100000, .i32⟩
  | 119 => ⟨S100000x1, .i32⟩
  | 120 => ⟨S100000x1, .i32⟩
  | 121 => ⟨S100000x2, .i32⟩
  | 122 => ⟨S_, .f32⟩
  | 123 => ⟨S16x100000, .f32⟩
  | 124 => ⟨S16x100000x4, .f32⟩
  | 125 => ⟨S1x100000x4, .f32⟩
  | 126 => ⟨S16x100000x4, .f32⟩
  | 127 => ⟨S16x100000x4, .f32⟩
  | _ => ⟨S16x100000, .i32⟩

abbrev hbmTy0_1 (i : Nat) : BufTy := match i % 128 with
  | 0 => ⟨S_, .f32⟩
  | 1 => ⟨S16, .f32⟩
  | 2 => ⟨S_, .f32⟩
  | 3 => ⟨S16x100000x4, .f32⟩
  | 4 => ⟨S100000, .i32⟩
  | 5 => ⟨S_, .i32⟩
  | 6 => ⟨S100000, .i32⟩
  | 7 => ⟨S100000, .i1⟩
  | 8 => ⟨S_, .i32⟩
  | 9 => ⟨S100000, .i32⟩
  | 10 => ⟨S100000, .i32⟩
  | 11 => ⟨S100000, .i32⟩
  | 12 => ⟨S_, .i32⟩
  | 13 => ⟨S100000, .i32⟩
  | 14 => ⟨S100000, .i1⟩
  | 15 => ⟨S_, .i32⟩
  | 16 => ⟨S100000, .i32⟩
  | 17 => ⟨S100000, .i32⟩
  | 18 => ⟨S100000, .i32⟩
  | 19 => ⟨S100000x1, .i32⟩
  | 20 => ⟨S100000x1, .i32⟩
  | 21 => ⟨S100000x2, .i32⟩
  | 22 => ⟨S_, .f32⟩
  | 23 => ⟨S16x100000, .f32⟩
  | 24 => ⟨S16x100000x4, .f32⟩
  | 25 => ⟨S1x100000x4, .f32⟩
  | 26 => ⟨S16x100000x4, .f32⟩
  | 27 => ⟨S16x100000x4, .f32⟩
  | 28 => ⟨S_, .f32⟩
  | 29 => ⟨S16, .f32⟩
  | 30 => ⟨S16, .f32⟩
  | 31 => ⟨S16, .f32⟩
  | 32 => ⟨S16, .f32⟩
  | 33 => ⟨S16, .f32⟩
  | 34 => ⟨S16, .f32⟩
  | 35 => ⟨S16, .f32⟩
  | 36 => ⟨S16, .i1⟩
  | 37 => ⟨S16, .f32⟩
  | 38 => ⟨S16x1, .f32⟩
  | 39 => ⟨S16x1, .f32⟩
  | 40 => ⟨S16x100000, .i32⟩
  | _ => ⟨S16x100000, .i32⟩

abbrev hbmTy (i : Nat) : BufTy := match i / 128 with
  | 0 => hbmTy0_0 i
  | 1 => hbmTy0_1 i
  | _ => ⟨S16x100000, .i32⟩

abbrev bufTy : (tb : Table) → Fin (tcTables nBuf tb) → BufTy
  | .hbm, ⟨i, _⟩ => hbmTy i
  | .local _ .vmem, ⟨0, _⟩ => ⟨S16x8192, .i32⟩
  | .local _ .vmem, ⟨1, _⟩ => ⟨S16x8192, .i32⟩
  | .local _ .vmem, ⟨2, _⟩ => ⟨S16x8192, .i32⟩
  | .local _ .vmem, ⟨3, _⟩ => ⟨S16x8192, .i32⟩
  | .local _ .vmem, ⟨4, _⟩ => ⟨S16x1, .f32⟩
  | .local _ .vmem, ⟨5, _⟩ => ⟨S8x8192, .f32⟩
  | .local _ .vmem, ⟨6, _⟩ => ⟨S8x8192, .f32⟩
  | .local _ .vmem, ⟨7, _⟩ => ⟨S4x16x8192, .f32⟩
  | .local _ .vmem, ⟨8, _⟩ => ⟨S4x16x8192, .f32⟩
  | .local _ .vmem, ⟨9, _⟩ => ⟨S16x8192, .i32⟩
  | .local _ .vmem, ⟨10, _⟩ => ⟨S16x8192, .i32⟩
  | .local _ .vmem, ⟨11, _⟩ => ⟨S16x1, .f32⟩
  | .local _ .vmem, ⟨12, _⟩ => ⟨S16x1, .f32⟩
  | .local _ .vmem, ⟨13, _⟩ => ⟨S16x128, .f32⟩
  | .local _ .vmem, ⟨14, _⟩ => ⟨S16x128, .f32⟩
  | .local _ .vmem, ⟨15, _⟩ => ⟨S16x8192, .i32⟩
  | .local _ .vmem, ⟨16, _⟩ => ⟨S16x8192, .i32⟩
  | .local _ .vmem, ⟨17, _⟩ => ⟨S16x8192, .i32⟩
  | .local _ .vmem, ⟨18, _⟩ => ⟨S16x8192, .i32⟩
  | .local _ .vmem, ⟨19, _⟩ => ⟨S16x1, .f32⟩
  | .local _ .vmem, ⟨20, _⟩ => ⟨S8x8192, .f32⟩
  | .local _ .vmem, ⟨21, _⟩ => ⟨S8x8192, .f32⟩
  | .local _ .vmem, ⟨22, _⟩ => ⟨S4x16x8192, .f32⟩
  | .local _ .vmem, ⟨23, _⟩ => ⟨S4x16x8192, .f32⟩
  | .local _ .vmem, ⟨24, _⟩ => ⟨S16x8192, .i32⟩
  | .local _ .vmem, ⟨25, _⟩ => ⟨S16x8192, .i32⟩
  | .local _ .vmem, ⟨26, _⟩ => ⟨S16x1, .f32⟩
  | .local _ .vmem, ⟨27, _⟩ => ⟨S16x1, .f32⟩
  | .local _ .vmem, ⟨28, _⟩ => ⟨S16x128, .f32⟩
  | .local _ .vmem, ⟨29, _⟩ => ⟨S16x128, .f32⟩
  | .local _ .vmem, ⟨30, _⟩ => ⟨S16x8192, .i32⟩
  | .local _ .vmem, ⟨31, _⟩ => ⟨S16x8192, .i32⟩
  | .local _ .vmem, ⟨32, _⟩ => ⟨S16x8192, .i32⟩
  | .local _ .vmem, ⟨33, _⟩ => ⟨S16x8192, .i32⟩
  | .local _ .vmem, ⟨34, _⟩ => ⟨S16x1, .f32⟩
  | .local _ .vmem, ⟨35, _⟩ => ⟨S16x8192, .i32⟩
  | .local _ .vmem, ⟨36, _⟩ => ⟨S16x8192, .i32⟩
  | .local _ .vmem, ⟨37, _⟩ => ⟨S16x1, .f32⟩
  | .local _ .vmem, ⟨38, _⟩ => ⟨S16x8192, .i32⟩
  | .local _ .vmem, ⟨39, _⟩ => ⟨S16x8192, .i32⟩
  | _, _ => ⟨S16x100000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_v4 : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7_0 : Ref sig .tc := ⟨.hbm, 16, rfl⟩
abbrev main_v7_1 : Ref sig .tc := ⟨.hbm, 17, rfl⟩
abbrev main_v7_2 : Ref sig .tc := ⟨.hbm, 18, rfl⟩
abbrev main_v8 : Ref sig .tc := ⟨.hbm, 19, rfl⟩
abbrev main_v9 : Ref sig .tc := ⟨.hbm, 20, rfl⟩
abbrev main_cst_1 : Ref sig .tc := ⟨.hbm, 21, rfl⟩
abbrev main_v10 : Ref sig .tc := ⟨.hbm, 22, rfl⟩
abbrev main_v11 : Ref sig .tc := ⟨.hbm, 23, rfl⟩
abbrev main_c_2 : Ref sig .tc := ⟨.hbm, 24, rfl⟩
abbrev main_v12 : Ref sig .tc := ⟨.hbm, 25, rfl⟩
abbrev main_v13 : Ref sig .tc := ⟨.hbm, 26, rfl⟩
abbrev main_c_3 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_c_4 : Ref sig .tc := ⟨.hbm, 31, rfl⟩
abbrev main_v17 : Ref sig .tc := ⟨.hbm, 32, rfl⟩
abbrev main_v18 : Ref sig .tc := ⟨.hbm, 33, rfl⟩
abbrev main_c_5 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_cst_6 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_cst_7 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_cst_8 : Ref sig .tc := ⟨.hbm, 51, rfl⟩
abbrev main_v33 : Ref sig .tc := ⟨.hbm, 52, rfl⟩
abbrev main_v34 : Ref sig .tc := ⟨.hbm, 53, rfl⟩
abbrev main_c_9 : Ref sig .tc := ⟨.hbm, 54, rfl⟩
abbrev main_v35 : Ref sig .tc := ⟨.hbm, 55, rfl⟩
abbrev main_v36 : Ref sig .tc := ⟨.hbm, 56, rfl⟩
abbrev main_c_10 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_c_11 : Ref sig .tc := ⟨.hbm, 61, rfl⟩
abbrev main_v40 : Ref sig .tc := ⟨.hbm, 62, rfl⟩
abbrev main_v41 : Ref sig .tc := ⟨.hbm, 63, rfl⟩
abbrev main_c_12 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_cst_13 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_cst_14 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63_0 : Ref sig .tc := ⟨.hbm, 88, rfl⟩
abbrev main_v63_1 : Ref sig .tc := ⟨.hbm, 89, rfl⟩
abbrev main_v63_2 : Ref sig .tc := ⟨.hbm, 90, rfl⟩
abbrev main_v64 : Ref sig .tc := ⟨.hbm, 91, rfl⟩
abbrev main_v65 : Ref sig .tc := ⟨.hbm, 92, rfl⟩
abbrev main_cst_15 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_cst_16 : Ref sig .tc := ⟨.hbm, 102, rfl⟩
abbrev main_v74 : Ref sig .tc := ⟨.hbm, 103, rfl⟩
abbrev main_v75 : Ref sig .tc := ⟨.hbm, 104, rfl⟩
abbrev main_c_17 : Ref sig .tc := ⟨.hbm, 105, rfl⟩
abbrev main_v76 : Ref sig .tc := ⟨.hbm, 106, rfl⟩
abbrev main_v77 : Ref sig .tc := ⟨.hbm, 107, rfl⟩
abbrev main_c_18 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_c_19 : Ref sig .tc := ⟨.hbm, 112, rfl⟩
abbrev main_v81 : Ref sig .tc := ⟨.hbm, 113, rfl⟩
abbrev main_v82 : Ref sig .tc := ⟨.hbm, 114, rfl⟩
abbrev main_c_20 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_cst_21 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_cst_22 : Ref sig .tc := ⟨.hbm, 128, rfl⟩
abbrev main_v94 : Ref sig .tc := ⟨.hbm, 129, rfl⟩
abbrev main_cst_23 : Ref sig .tc := ⟨.hbm, 130, rfl⟩
abbrev main_v95 : Ref sig .tc := ⟨.hbm, 131, rfl⟩
abbrev main_v96 : Ref sig .tc := ⟨.hbm, 132, rfl⟩
abbrev main_c_24 : Ref sig .tc := ⟨.hbm, 133, rfl⟩
abbrev main_v97 : Ref sig .tc := ⟨.hbm, 134, rfl⟩
abbrev main_v98 : Ref sig .tc := ⟨.hbm, 135, rfl⟩
abbrev main_c_25 : Ref sig .tc := ⟨.hbm, 136, rfl⟩
abbrev main_v99 : Ref sig .tc := ⟨.hbm, 137, rfl⟩
abbrev main_v100 : Ref sig .tc := ⟨.hbm, 138, rfl⟩
abbrev main_v101 : Ref sig .tc := ⟨.hbm, 139, rfl⟩
abbrev main_c_26 : Ref sig .tc := ⟨.hbm, 140, rfl⟩
abbrev main_v102 : Ref sig .tc := ⟨.hbm, 141, rfl⟩
abbrev main_v103 : Ref sig .tc := ⟨.hbm, 142, rfl⟩
abbrev main_c_27 : Ref sig .tc := ⟨.hbm, 143, rfl⟩
abbrev main_v104 : Ref sig .tc := ⟨.hbm, 144, rfl⟩
abbrev main_v105 : Ref sig .tc := ⟨.hbm, 145, rfl⟩
abbrev main_v106 : Ref sig .tc := ⟨.hbm, 146, rfl⟩
abbrev main_v107 : Ref sig .tc := ⟨.hbm, 147, rfl⟩
abbrev main_v108 : Ref sig .tc := ⟨.hbm, 148, rfl⟩
abbrev main_v109 : Ref sig .tc := ⟨.hbm, 149, rfl⟩
abbrev main_cst_28 : Ref sig .tc := ⟨.hbm, 150, rfl⟩
abbrev main_v110 : Ref sig .tc := ⟨.hbm, 151, rfl⟩
abbrev main_v111 : Ref sig .tc := ⟨.hbm, 152, rfl⟩
abbrev main_v112 : Ref sig .tc := ⟨.hbm, 153, rfl⟩
abbrev main_v113 : Ref sig .tc := ⟨.hbm, 154, rfl⟩
abbrev main_v114 : Ref sig .tc := ⟨.hbm, 155, rfl⟩
abbrev main_cst_29 : Ref sig .tc := ⟨.hbm, 156, rfl⟩
abbrev main_v115 : Ref sig .tc := ⟨.hbm, 157, rfl⟩
abbrev main_v116 : Ref sig .tc := ⟨.hbm, 158, rfl⟩
abbrev main_v117 : Ref sig .tc := ⟨.hbm, 159, rfl⟩
abbrev main_v118 : Ref sig .tc := ⟨.hbm, 160, rfl⟩
abbrev main_v119 : Ref sig .tc := ⟨.hbm, 161, rfl⟩
abbrev main_v120 : Ref sig .tc := ⟨.hbm, 162, rfl⟩
abbrev main_v121 : Ref sig .tc := ⟨.hbm, 163, rfl⟩
abbrev main_v122 : Ref sig .tc := ⟨.hbm, 164, rfl⟩
abbrev main_v123 : Ref sig .tc := ⟨.hbm, 165, rfl⟩
abbrev main_v124 : Ref sig .tc := ⟨.hbm, 166, rfl⟩
abbrev main_v125 : Ref sig .tc := ⟨.hbm, 167, rfl⟩
abbrev main_v126 : Ref sig .tc := ⟨.hbm, 168, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_scratch0 : Ref sig .tc := ⟨.vmem, 13, rfl⟩
abbrev cc0_scratch1 : Ref sig .tc := ⟨.vmem, 14, rfl⟩
abbrev cc1_stg0_0 : Ref sig .tc := ⟨.vmem, 15, rfl⟩
abbrev cc1_stg0_1 : Ref sig .tc := ⟨.vmem, 16, rfl⟩
abbrev cc1_stg1_0 : Ref sig .tc := ⟨.vmem, 17, rfl⟩
abbrev cc1_stg1_1 : Ref sig .tc := ⟨.vmem, 18, rfl⟩
abbrev cc1_stg2_0 : Ref sig .tc := ⟨.vmem, 19, rfl⟩
abbrev cc1_stg3_0 : Ref sig .tc := ⟨.vmem, 20, rfl⟩
abbrev cc1_stg3_1 : Ref sig .tc := ⟨.vmem, 21, rfl⟩
abbrev cc1_stg4_0 : Ref sig .tc := ⟨.vmem, 22, rfl⟩
abbrev cc1_stg4_1 : Ref sig .tc := ⟨.vmem, 23, rfl⟩
abbrev cc1_stg5_0 : Ref sig .tc := ⟨.vmem, 24, rfl⟩
abbrev cc1_stg5_1 : Ref sig .tc := ⟨.vmem, 25, rfl⟩
abbrev cc1_stg6_0 : Ref sig .tc := ⟨.vmem, 26, rfl⟩
abbrev cc1_stg7_0 : Ref sig .tc := ⟨.vmem, 27, rfl⟩
abbrev cc1_scratch0 : Ref sig .tc := ⟨.vmem, 28, rfl⟩
abbrev cc1_scratch1 : Ref sig .tc := ⟨.vmem, 29, rfl⟩
abbrev cc2_stg0_0 : Ref sig .tc := ⟨.vmem, 30, rfl⟩
abbrev cc2_stg0_1 : Ref sig .tc := ⟨.vmem, 31, rfl⟩
abbrev cc2_stg1_0 : Ref sig .tc := ⟨.vmem, 32, rfl⟩
abbrev cc2_stg1_1 : Ref sig .tc := ⟨.vmem, 33, rfl⟩
abbrev cc2_stg2_0 : Ref sig .tc := ⟨.vmem, 34, rfl⟩
abbrev cc2_stg3_0 : Ref sig .tc := ⟨.vmem, 35, rfl⟩
abbrev cc2_stg3_1 : Ref sig .tc := ⟨.vmem, 36, rfl⟩
abbrev cc2_stg4_0 : Ref sig .tc := ⟨.vmem, 37, rfl⟩
abbrev cc2_stg5_0 : Ref sig .tc := ⟨.vmem, 38, rfl⟩
abbrev cc2_stg5_1 : Ref sig .tc := ⟨.vmem, 39, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc1_sem0_0 : DmaSem sig := 13
abbrev cc1_sem0_1 : DmaSem sig := 14
abbrev cc1_sem1_0 : DmaSem sig := 15
abbrev cc1_sem1_1 : DmaSem sig := 16
abbrev cc1_sem2_0 : DmaSem sig := 17
abbrev cc1_sem3_0 : DmaSem sig := 18
abbrev cc1_sem3_1 : DmaSem sig := 19
abbrev cc1_sem4_0 : DmaSem sig := 20
abbrev cc1_sem4_1 : DmaSem sig := 21
abbrev cc1_sem5_0 : DmaSem sig := 22
abbrev cc1_sem5_1 : DmaSem sig := 23
abbrev cc1_sem6_0 : DmaSem sig := 24
abbrev cc1_sem7_0 : DmaSem sig := 25
abbrev cc2_sem0_0 : DmaSem sig := 26
abbrev cc2_sem0_1 : DmaSem sig := 27
abbrev cc2_sem1_0 : DmaSem sig := 28
abbrev cc2_sem1_1 : DmaSem sig := 29
abbrev cc2_sem2_0 : DmaSem sig := 30
abbrev cc2_sem3_0 : DmaSem sig := 31
abbrev cc2_sem3_1 : DmaSem sig := 32
abbrev cc2_sem4_0 : DmaSem sig := 33
abbrev cc2_sem5_0 : DmaSem sig := 34
abbrev cc2_sem5_1 : DmaSem sig := 35

abbrev nD : Nat := 1
abbrev τ : Topo := Topo.v7x

variable {F : FTy → Type} [FloatOps F]

abbrev grid0 : Pipeline.Grid := ⟨1, ![13], ![false]⟩

def k0_cond2 (i : grid0.Coords) : BitVec 1 :=
  let arg0 : BitVec 32 := BitVec.ofNat 32 (i 0).val
  let c12_i32 : BitVec 32 := 12#32
  let v502 : BitVec 1 := Scalar.cmpi .eq arg0 c12_i32
  let v503 : BitVec 32 := Scalar.extui v502
  let c0_i32_65 : BitVec 32 := 0#32
  let v504 : BitVec 1 := Scalar.cmpi .ne v503 c0_i32_65
  v504

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S16x8192 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x8192 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S16x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S8x8192 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4x16x8192 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S16x8192 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S16x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S16x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev grid1 : Pipeline.Grid := ⟨1, ![13], ![false]⟩

def k1_cond2 (i : grid1.Coords) : BitVec 1 :=
  let arg0 : BitVec 32 := BitVec.ofNat 32 (i 0).val
  let c12_i32 : BitVec 32 := 12#32
  let v503 : BitVec 1 := Scalar.cmpi .eq arg0 c12_i32
  let v504 : BitVec 32 := Scalar.extui v503
  let c0_i32_65 : BitVec 32 := 0#32
  let v505 : BitVec 1 := Scalar.cmpi .ne v504 c0_i32_65
  v505

def cc1_transform_0 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_4 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S16x8192 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S16x8192 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S16x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S8x8192 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S4x16x8192 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S16x8192 .i32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 1 → Memref sig .tc .vmem S16x1 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S16x1 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev grid2 : Pipeline.Grid := ⟨1, ![13], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_1 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage2_0 : Fin 2 → Memref sig .tc .vmem S16x8192 .i32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S16x8192 .i32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S16x1 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S16x8192 .i32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 1 → Memref sig .tc .vmem S16x1 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S16x8192 .i32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]
-- ==== ReferenceIdeal.lean ====
abbrev S16x100000 : Shape := ⟨2, ![16, 100000]⟩
abbrev S100000x4 : Shape := ⟨2, ![100000, 4]⟩
abbrev S16x100000x4 : Shape := ⟨3, ![16, 100000, 4]⟩
abbrev S16 : Shape := ⟨1, ![16]⟩
abbrev S_ : Shape := ⟨0, ![]⟩
abbrev S16x1x1 : Shape := ⟨3, ![16, 1, 1]⟩
abbrev S100000 : Shape := ⟨1, ![100000]⟩
abbrev S1x100000 : Shape := ⟨2, ![1, 100000]⟩
abbrev S100000x1 : Shape := ⟨2, ![100000, 1]⟩
abbrev S100000x2 : Shape := ⟨2, ![100000, 2]⟩
abbrev S1x100000x4 : Shape := ⟨3, ![1, 100000, 4]⟩
abbrev S4 : Shape := ⟨1, ![4]⟩
abbrev S1x4 : Shape := ⟨2, ![1, 4]⟩
abbrev S1x100000x1 : Shape := ⟨3, ![1, 100000, 1]⟩
abbrev S16x100000x1 : Shape := ⟨3, ![16, 100000, 1]⟩
abbrev S1x1x4 : Shape := ⟨3, ![1, 1, 4]⟩
abbrev S16x1 : Shape := ⟨2, ![16, 1]⟩

abbrev nBuf : Space → Nat
  | .hbm => 549
  | .vmem => 0
  | .smem => 0
  | _ => 0

abbrev hbmTy0_0 (i : Nat) : BufTy := match i % 128 with
  | 0 => ⟨S16x100000, .i32⟩
  | 1 => ⟨S100000x4, .f32⟩
  | 2 => ⟨S16x100000x4, .f32⟩
  | 3 => ⟨S16x100000x4, .f32⟩
  | 4 => ⟨S16, .f32⟩
  | 5 => ⟨S16, .f32⟩
  | 6 => ⟨S16, .i32⟩
  | 7 => ⟨S_, .i32⟩
  | 8 => ⟨S16, .i32⟩
  | 9 => ⟨S16, .i1⟩
  | 10 => ⟨S16x1x1, .i1⟩
  | 11 => ⟨S_, .f32⟩
  | 12 => ⟨S16x100000x4, .f32⟩
  | 13 => ⟨S100000, .i32⟩
  | 14 => ⟨S1x100000, .i32⟩
  | 15 => ⟨S100000, .i32⟩
  | 16 => ⟨S_, .i32⟩
  | 17 => ⟨S100000, .i32⟩
  | 18 => ⟨S100000, .i1⟩
  | 19 => ⟨S_, .i32⟩
  | 20 => ⟨S100000, .i32⟩
  | 21 => ⟨S100000, .i32⟩
  | 22 => ⟨S100000, .i32⟩
  | 23 => ⟨S_, .i32⟩
  | 24 => ⟨S100000, .i32⟩
  | 25 => ⟨S100000, .i1⟩
  | 26 => ⟨S_, .i32⟩
  | 27 => ⟨S100000, .i32⟩
  | 28 => ⟨S100000, .i32⟩
  | 29 => ⟨S100000, .i32⟩
  | 30 => ⟨S100000x1, .i32⟩
  | 31 => ⟨S100000x1, .i32⟩
  | 32 => ⟨S100000x2, .i32⟩
  | 33 => ⟨S_, .f32⟩
  | 34 => ⟨S16x100000, .f32⟩
  | 35 => ⟨S16x100000x4, .f32⟩
  | 36 => ⟨S1x100000x4, .f32⟩
  | 37 => ⟨S16x100000x4, .f32⟩
  | 38 => ⟨S16x100000x4, .f32⟩
  | 39 => ⟨S_, .f32⟩
  | 40 => ⟨S16, .f32⟩
  | 41 => ⟨S_, .f32⟩
  | 42 => ⟨S_, .f32⟩
  | 43 => ⟨S_, .f32⟩
  | 44 => ⟨S16, .f32⟩
  | 45 => ⟨S16x100000x4, .f32⟩
  | 46 => ⟨S16x100000x4, .f32⟩
  | 47 => ⟨S16x100000x4, .f32⟩
  | 48 => ⟨S_, .f32⟩
  | 49 => ⟨S16x100000x4, .f32⟩
  | 50 => ⟨S16x100000x4, .f32⟩
  | 51 => ⟨S_, .f32⟩
  | 52 => ⟨S16x100000x4, .f32⟩
  | 53 => ⟨S16x100000x4, .f32⟩
  | 54 => ⟨S1x100000x4, .f32⟩
  | 55 => ⟨S100000x4, .f32⟩
  | 56 => ⟨S1x100000, .i32⟩
  | 57 => ⟨S100000, .i32⟩
  | 58 => ⟨S100000x1, .i32⟩
  | 59 => ⟨S4, .i32⟩
  | 60 => ⟨S1x4, .i32⟩
  | 61 => ⟨S100000x4, .i32⟩
  | 62 => ⟨S100000x4, .i32⟩
  | 63 => ⟨S100000x4, .i1⟩
  | 64 => ⟨S_, .f32⟩
  | 65 => ⟨S_, .f32⟩
  | 66 => ⟨S100000x4, .f32⟩
  | 67 => ⟨S100000x4, .f32⟩
  | 68 => ⟨S_, .f32⟩
  | 69 => ⟨S100000, .f32⟩
  | 70 => ⟨S1x100000x1, .f32⟩
  | 71 => ⟨S16x100000x4, .f32⟩
  | 72 => ⟨S16x100000x4, .f32⟩
  | 73 => ⟨S_, .f32⟩
  | 74 => ⟨S16x100000x4, .f32⟩
  | 75 => ⟨S_, .f32⟩
  | 76 => ⟨S16x100000x4, .f32⟩
  | 77 => ⟨S16x100000x4, .f32⟩
  | 78 => ⟨S1x100000, .i32⟩
  | 79 => ⟨S100000, .i32⟩
  | 80 => ⟨S100000x1, .i32⟩
  | 81 => ⟨S4, .i32⟩
  | 82 => ⟨S1x4, .i32⟩
  | 83 => ⟨S100000x4, .i32⟩
  | 84 => ⟨S100000x4, .i32⟩
  | 85 => ⟨S100000x4, .i1⟩
  | 86 => ⟨S1x100000x4, .i1⟩
  | 87 => ⟨S16x100000x4, .i1⟩
  | 88 => ⟨S16x100000x4, .i1⟩
  | 89 => ⟨S16x100000x4, .i1⟩
  | 90 => ⟨S_, .f32⟩
  | 91 => ⟨S_, .f32⟩
  | 92 => ⟨S16x100000x4, .f32⟩
  | 93 => ⟨S16x100000x4, .f32⟩
  | 94 => ⟨S16x100000x4, .f32⟩
  | 95 => ⟨S16x100000x4, .f32⟩
  | 96 => ⟨S_, .f32⟩
  | 97 => ⟨S16x100000, .f32⟩
  | 98 => ⟨S16x100000x1, .f32⟩
  | 99 => ⟨S16x100000x4, .f32⟩
  | 100 => ⟨S16x100000x4, .i1⟩
  | 101 => ⟨S4, .i32⟩
  | 102 => ⟨S_, .i32⟩
  | 103 => ⟨S_, .i32⟩
  | 104 => ⟨S16x100000x4, .i32⟩
  | 105 => ⟨S16x100000x4, .i32⟩
  | 106 => ⟨S16x100000x4, .i32⟩
  | 107 => ⟨S_, .i32⟩
  | 108 => ⟨S16x100000, .i32⟩
  | 109 => ⟨S_, .f32⟩
  | 110 => ⟨S16x100000, .f32⟩
  | 111 => ⟨S_, .f32⟩
  | 112 => ⟨S16x100000, .f32⟩
  | 113 => ⟨S16x100000, .f32⟩
  | 114 => ⟨S16x100000x1, .f32⟩
  | 115 => ⟨S16x100000x4, .f32⟩
  | 116 => ⟨S16x100000x4, .f32⟩
  | 117 => ⟨S16x100000x4, .f32⟩
  | 118 => ⟨S_, .f32⟩
  | 119 => ⟨S16x100000, .f32⟩
  | 120 => ⟨S16x100000x1, .f32⟩
  | 121 => ⟨S16x100000x1, .f32⟩
  | 122 => ⟨S16x100000x4, .f32⟩
  | 123 => ⟨S16x100000x4, .f32⟩
  | 124 => ⟨S16x100000x1, .i32⟩
  | 125 => ⟨S4, .i32⟩
  | 126 => ⟨S1x1x4, .i32⟩
  | 127 => ⟨S16x100000x4, .i32⟩
  | _ => ⟨S16x100000, .i32⟩

abbrev hbmTy0_1 (i : Nat) : BufTy := match i % 128 with
  | 0 => ⟨S16x100000x4, .i32⟩
  | 1 => ⟨S16x100000x4, .i1⟩
  | 2 => ⟨S_, .f32⟩
  | 3 => ⟨S_, .f32⟩
  | 4 => ⟨S16x100000x4, .f32⟩
  | 5 => ⟨S16x100000x4, .f32⟩
  | 6 => ⟨S_, .f32⟩
  | 7 => ⟨S16x100000, .f32⟩
  | 8 => ⟨S_, .f32⟩
  | 9 => ⟨S16, .f32⟩
  | 10 => ⟨S_, .f32⟩
  | 11 => ⟨S16x100000x4, .f32⟩
  | 12 => ⟨S100000, .i32⟩
  | 13 => ⟨S1x100000, .i32⟩
  | 14 => ⟨S100000, .i32⟩
  | 15 => ⟨S_, .i32⟩
  | 16 => ⟨S100000, .i32⟩
  | 17 => ⟨S100000, .i1⟩
  | 18 => ⟨S_, .i32⟩
  | 19 => ⟨S100000, .i32⟩
  | 20 => ⟨S100000, .i32⟩
  | 21 => ⟨S100000, .i32⟩
  | 22 => ⟨S_, .i32⟩
  | 23 => ⟨S100000, .i32⟩
  | 24 => ⟨S100000, .i1⟩
  | 25 => ⟨S_, .i32⟩
  | 26 => ⟨S100000, .i32⟩
  | 27 => ⟨S100000, .i32⟩
  | 28 => ⟨S100000, .i32⟩
  | 29 => ⟨S100000x1, .i32⟩
  | 30 => ⟨S100000x1, .i32⟩
  | 31 => ⟨S100000x2, .i32⟩
  | 32 => ⟨S_, .f32⟩
  | 33 => ⟨S16x100000, .f32⟩
  | 34 => ⟨S16x100000x4, .f32⟩
  | 35 => ⟨S1x100000x4, .f32⟩
  | 36 => ⟨S16x100000x4, .f32⟩
  | 37 => ⟨S16x100000x4, .f32⟩
  | 38 => ⟨S_, .f32⟩
  | 39 => ⟨S16, .f32⟩
  | 40 => ⟨S_, .f32⟩
  | 41 => ⟨S_, .f32⟩
  | 42 => ⟨S_, .f32⟩
  | 43 => ⟨S16, .f32⟩
  | 44 => ⟨S16x100000x4, .f32⟩
  | 45 => ⟨S16x100000x4, .f32⟩
  | 46 => ⟨S16x100000x4, .f32⟩
  | 47 => ⟨S_, .f32⟩
  | 48 => ⟨S16x100000x4, .f32⟩
  | 49 => ⟨S16x100000x4, .f32⟩
  | 50 => ⟨S_, .f32⟩
  | 51 => ⟨S16x100000x4, .f32⟩
  | 52 => ⟨S16x100000x4, .f32⟩
  | 53 => ⟨S1x100000x4, .f32⟩
  | 54 => ⟨S100000x4, .f32⟩
  | 55 => ⟨S1x100000, .i32⟩
  | 56 => ⟨S100000, .i32⟩
  | 57 => ⟨S100000x1, .i32⟩
  | 58 => ⟨S4, .i32⟩
  | 59 => ⟨S1x4, .i32⟩
  | 60 => ⟨S100000x4, .i32⟩
  | 61 => ⟨S100000x4, .i32⟩
  | 62 => ⟨S100000x4, .i1⟩
  | 63 => ⟨S_, .f32⟩
  | 64 => ⟨S_, .f32⟩
  | 65 => ⟨S100000x4, .f32⟩
  | 66 => ⟨S100000x4, .f32⟩
  | 67 => ⟨S_, .f32⟩
  | 68 => ⟨S100000, .f32⟩
  | 69 => ⟨S1x100000x1, .f32⟩
  | 70 => ⟨S16x100000x4, .f32⟩
  | 71 => ⟨S16x100000x4, .f32⟩
  | 72 => ⟨S_, .f32⟩
  | 73 => ⟨S16x100000x4, .f32⟩
  | 74 => ⟨S_, .f32⟩
  | 75 => ⟨S16x100000x4, .f32⟩
  | 76 => ⟨S16x100000x4, .f32⟩
  | 77 => ⟨S1x100000, .i32⟩
  | 78 => ⟨S100000, .i32⟩
  | 79 => ⟨S100000x1, .i32⟩
  | 80 => ⟨S4, .i32⟩
  | 81 => ⟨S1x4, .i32⟩
  | 82 => ⟨S100000x4, .i32⟩
  | 83 => ⟨S100000x4, .i32⟩
  | 84 => ⟨S100000x4, .i1⟩
  | 85 => ⟨S1x100000x4, .i1⟩
  | 86 => ⟨S16x100000x4, .i1⟩
  | 87 => ⟨S16x100000x4, .i1⟩
  | 88 => ⟨S16x100000x4, .i1⟩
  | 89 => ⟨S_, .f32⟩
  | 90 => ⟨S_, .f32⟩
  | 91 => ⟨S16x100000x4, .f32⟩
  | 92 => ⟨S16x100000x4, .f32⟩
  | 93 => ⟨S16x100000x4, .f32⟩
  | 94 => ⟨S_, .f32⟩
  | 95 => ⟨S16x100000, .f32⟩
  | 96 => ⟨S_, .f32⟩
  | 97 => ⟨S16x100000, .f32⟩
  | 98 => ⟨S16x100000, .f32⟩
  | 99 => ⟨S16x100000x1, .f32⟩
  | 100 => ⟨S16x100000x4, .f32⟩
  | 101 => ⟨S16x100000x4, .f32⟩
  | 102 => ⟨S16x100000x4, .f32⟩
  | 103 => ⟨S_, .f32⟩
  | 104 => ⟨S16x100000, .f32⟩
  | 105 => ⟨S16x100000x1, .f32⟩
  | 106 => ⟨S16x100000x1, .f32⟩
  | 107 => ⟨S16x100000x4, .f32⟩
  | 108 => ⟨S16x100000x4, .f32⟩
  | 109 => ⟨S16x100000x1, .i32⟩
  | 110 => ⟨S4, .i32⟩
  | 111 => ⟨S1x1x4, .i32⟩
  | 112 => ⟨S16x100000x4, .i32⟩
  | 113 => ⟨S16x100000x4, .i32⟩
  | 114 => ⟨S16x100000x4, .i1⟩
  | 115 => ⟨S_, .f32⟩
  | 116 => ⟨S_, .f32⟩
  | 117 => ⟨S16x100000x4, .f32⟩
  | 118 => ⟨S16x100000x4, .f32⟩
  | 119 => ⟨S_, .f32⟩
  | 120 => ⟨S16x100000, .f32⟩
  | 121 => ⟨S_, .f32⟩
  | 122 => ⟨S16, .f32⟩
  | 123 => ⟨S1x100000x4, .f32⟩
  | 124 => ⟨S16x100000x4, .f32⟩
  | 125 => ⟨S16x100000x4, .f32⟩
  | 126 => ⟨S_, .f32⟩
  | 127 => ⟨S16, .f32⟩
  | _ => ⟨S16x100000, .i32⟩

abbrev hbmTy0_2 (i : Nat) : BufTy := match i % 128 with
  | 0 => ⟨S1x100000x4, .f32⟩
  | 1 => ⟨S16x100000x4, .f32⟩
  | 2 => ⟨S16x100000x4, .f32⟩
  | 3 => ⟨S_, .f32⟩
  | 4 => ⟨S16, .f32⟩
  | 5 => ⟨S16, .f32⟩
  | 6 => ⟨S16, .f32⟩
  | 7 => ⟨S16, .f32⟩
  | 8 => ⟨S16, .f32⟩
  | 9 => ⟨S16, .i1⟩
  | 10 => ⟨S16, .f32⟩
  | 11 => ⟨S16x100000, .f32⟩
  | 12 => ⟨S16x1, .f32⟩
  | 13 => ⟨S16x100000, .f32⟩
  | 14 => ⟨S16x100000, .f32⟩
  | 15 => ⟨S16x100000, .f32⟩
  | 16 => ⟨S16x1, .f32⟩
  | 17 => ⟨S_, .f32⟩
  | 18 => ⟨S16x1, .f32⟩
  | 19 => ⟨S16x1, .f32⟩
  | 20 => ⟨S16x100000, .f32⟩
  | 21 => ⟨S16x100000, .f32⟩
  | 22 => ⟨S16x100000, .f32⟩
  | 23 => ⟨S16x100000, .i32⟩
  | 24 => ⟨S_, .f32⟩
  | 25 => ⟨S16x100000x4, .f32⟩
  | 26 => ⟨S100000, .i32⟩
  | 27 => ⟨S1x100000, .i32⟩
  | 28 => ⟨S100000, .i32⟩
  | 29 => ⟨S_, .i32⟩
  | 30 => ⟨S100000, .i32⟩
  | 31 => ⟨S100000, .i1⟩
  | 32 => ⟨S_, .i32⟩
  | 33 => ⟨S100000, .i32⟩
  | 34 => ⟨S100000, .i32⟩
  | 35 => ⟨S100000, .i32⟩
  | 36 => ⟨S_, .i32⟩
  | 37 => ⟨S100000, .i32⟩
  | 38 => ⟨S100000, .i1⟩
  | 39 => ⟨S_, .i32⟩
  | 40 => ⟨S100000, .i32⟩
  | 41 => ⟨S100000, .i32⟩
  | 42 => ⟨S100000, .i32⟩
  | 43 => ⟨S100000x1, .i32⟩
  | 44 => ⟨S100000x1, .i32⟩
  | 45 => ⟨S100000x2, .i32⟩
  | 46 => ⟨S_, .f32⟩
  | 47 => ⟨S16x100000, .f32⟩
  | 48 => ⟨S16x100000x4, .f32⟩
  | 49 => ⟨S1x100000x4, .f32⟩
  | 50 => ⟨S16x100000x4, .f32⟩
  | 51 => ⟨S16x100000x4, .f32⟩
  | 52 => ⟨S_, .f32⟩
  | 53 => ⟨S16, .f32⟩
  | 54 => ⟨S_, .f32⟩
  | 55 => ⟨S_, .f32⟩
  | 56 => ⟨S_, .f32⟩
  | 57 => ⟨S16, .f32⟩
  | 58 => ⟨S16x100000x4, .f32⟩
  | 59 => ⟨S16x100000x4, .f32⟩
  | 60 => ⟨S16x100000x4, .f32⟩
  | 61 => ⟨S_, .f32⟩
  | 62 => ⟨S16x100000x4, .f32⟩
  | 63 => ⟨S16x100000x4, .f32⟩
  | 64 => ⟨S_, .f32⟩
  | 65 => ⟨S16x100000x4, .f32⟩
  | 66 => ⟨S16x100000x4, .f32⟩
  | 67 => ⟨S1x100000x4, .f32⟩
  | 68 => ⟨S100000x4, .f32⟩
  | 69 => ⟨S1x100000, .i32⟩
  | 70 => ⟨S100000, .i32⟩
  | 71 => ⟨S100000x1, .i32⟩
  | 72 => ⟨S4, .i32⟩
  | 73 => ⟨S1x4, .i32⟩
  | 74 => ⟨S100000x4, .i32⟩
  | 75 => ⟨S100000x4, .i32⟩
  | 76 => ⟨S100000x4, .i1⟩
  | 77 => ⟨S_, .f32⟩
  | 78 => ⟨S_, .f32⟩
  | 79 => ⟨S100000x4, .f32⟩
  | 80 => ⟨S100000x4, .f32⟩
  | 81 => ⟨S_, .f32⟩
  | 82 => ⟨S100000, .f32⟩
  | 83 => ⟨S1x100000x1, .f32⟩
  | 84 => ⟨S16x100000x4, .f32⟩
  | 85 => ⟨S16x100000x4, .f32⟩
  | 86 => ⟨S_, .f32⟩
  | 87 => ⟨S16x100000x4, .f32⟩
  | 88 => ⟨S_, .f32⟩
  | 89 => ⟨S16x100000x4, .f32⟩
  | 90 => ⟨S16x100000x4, .f32⟩
  | 91 => ⟨S1x100000, .i32⟩
  | 92 => ⟨S100000, .i32⟩
  | 93 => ⟨S100000x1, .i32⟩
  | 94 => ⟨S4, .i32⟩
  | 95 => ⟨S1x4, .i32⟩
  | 96 => ⟨S100000x4, .i32⟩
  | 97 => ⟨S100000x4, .i32⟩
  | 98 => ⟨S100000x4, .i1⟩
  | 99 => ⟨S1x100000x4, .i1⟩
  | 100 => ⟨S16x100000x4, .i1⟩
  | 101 => ⟨S16x100000x4, .i1⟩
  | 102 => ⟨S16x100000x4, .i1⟩
  | 103 => ⟨S_, .f32⟩
  | 104 => ⟨S_, .f32⟩
  | 105 => ⟨S16x100000x4, .f32⟩
  | 106 => ⟨S16x100000x4, .f32⟩
  | 107 => ⟨S16x100000x4, .f32⟩
  | 108 => ⟨S16x100000x4, .f32⟩
  | 109 => ⟨S_, .f32⟩
  | 110 => ⟨S16x100000, .f32⟩
  | 111 => ⟨S16x100000x1, .f32⟩
  | 112 => ⟨S16x100000x4, .f32⟩
  | 113 => ⟨S16x100000x4, .i1⟩
  | 114 => ⟨S4, .i32⟩
  | 115 => ⟨S_, .i32⟩
  | 116 => ⟨S_, .i32⟩
  | 117 => ⟨S16x100000x4, .i32⟩
  | 118 => ⟨S16x100000x4, .i32⟩
  | 119 => ⟨S16x100000x4, .i32⟩
  | 120 => ⟨S_, .i32⟩
  | 121 => ⟨S16x100000, .i32⟩
  | 122 => ⟨S_, .f32⟩
  | 123 => ⟨S16x100000, .f32⟩
  | 124 => ⟨S_, .f32⟩
  | 125 => ⟨S16x100000, .f32⟩
  | 126 => ⟨S16x100000, .f32⟩
  | 127 => ⟨S16x100000x1, .f32⟩
  | _ => ⟨S16x100000, .i32⟩

abbrev hbmTy0_3 (i : Nat) : BufTy := match i % 128 with
  | 0 => ⟨S16x100000x4, .f32⟩
  | 1 => ⟨S16x100000x4, .f32⟩
  | 2 => ⟨S16x100000x4, .f32⟩
  | 3 => ⟨S_, .f32⟩
  | 4 => ⟨S16x100000, .f32⟩
  | 5 => ⟨S16x100000x1, .f32⟩
  | 6 => ⟨S16x100000x1, .f32⟩
  | 7 => ⟨S16x100000x4, .f32⟩
  | 8 => ⟨S16x100000x4, .f32⟩
  | 9 => ⟨S16x100000x1, .i32⟩
  | 10 => ⟨S4, .i32⟩
  | 11 => ⟨S1x1x4, .i32⟩
  | 12 => ⟨S16x100000x4, .i32⟩
  | 13 => ⟨S16x100000x4, .i32⟩
  | 14 => ⟨S16x100000x4, .i1⟩
  | 15 => ⟨S_, .f32⟩
  | 16 => ⟨S_, .f32⟩
  | 17 => ⟨S16x100000x4, .f32⟩
  | 18 => ⟨S16x100000x4, .f32⟩
  | 19 => ⟨S_, .f32⟩
  | 20 => ⟨S16x100000, .f32⟩
  | 21 => ⟨S_, .f32⟩
  | 22 => ⟨S16, .f32⟩
  | 23 => ⟨S_, .f32⟩
  | 24 => ⟨S16x100000x4, .f32⟩
  | 25 => ⟨S100000, .i32⟩
  | 26 => ⟨S1x100000, .i32⟩
  | 27 => ⟨S100000, .i32⟩
  | 28 => ⟨S_, .i32⟩
  | 29 => ⟨S100000, .i32⟩
  | 30 => ⟨S100000, .i1⟩
  | 31 => ⟨S_, .i32⟩
  | 32 => ⟨S100000, .i32⟩
  | 33 => ⟨S100000, .i32⟩
  | 34 => ⟨S100000, .i32⟩
  | 35 => ⟨S_, .i32⟩
  | 36 => ⟨S100000, .i32⟩
  | 37 => ⟨S100000, .i1⟩
  | 38 => ⟨S_, .i32⟩
  | 39 => ⟨S100000, .i32⟩
  | 40 => ⟨S100000, .i32⟩
  | 41 => ⟨S100000, .i32⟩
  | 42 => ⟨S100000x1, .i32⟩
  | 43 => ⟨S100000x1, .i32⟩
  | 44 => ⟨S100000x2, .i32⟩
  | 45 => ⟨S_, .f32⟩
  | 46 => ⟨S16x100000, .f32⟩
  | 47 => ⟨S16x100000x4, .f32⟩
  | 48 => ⟨S1x100000x4, .f32⟩
  | 49 => ⟨S16x100000x4, .f32⟩
  | 50 => ⟨S16x100000x4, .f32⟩
  | 51 => ⟨S_, .f32⟩
  | 52 => ⟨S16, .f32⟩
  | 53 => ⟨S_, .f32⟩
  | 54 => ⟨S_, .f32⟩
  | 55 => ⟨S_, .f32⟩
  | 56 => ⟨S16, .f32⟩
  | 57 => ⟨S16x100000x4, .f32⟩
  | 58 => ⟨S16x100000x4, .f32⟩
  | 59 => ⟨S16x100000x4, .f32⟩
  | 60 => ⟨S_, .f32⟩
  | 61 => ⟨S16x100000x4, .f32⟩
  | 62 => ⟨S16x100000x4, .f32⟩
  | 63 => ⟨S_, .f32⟩
  | 64 => ⟨S16x100000x4, .f32⟩
  | 65 => ⟨S16x100000x4, .f32⟩
  | 66 => ⟨S1x100000x4, .f32⟩
  | 67 => ⟨S100000x4, .f32⟩
  | 68 => ⟨S1x100000, .i32⟩
  | 69 => ⟨S100000, .i32⟩
  | 70 => ⟨S100000x1, .i32⟩
  | 71 => ⟨S4, .i32⟩
  | 72 => ⟨S1x4, .i32⟩
  | 73 => ⟨S100000x4, .i32⟩
  | 74 => ⟨S100000x4, .i32⟩
  | 75 => ⟨S100000x4, .i1⟩
  | 76 => ⟨S_, .f32⟩
  | 77 => ⟨S_, .f32⟩
  | 78 => ⟨S100000x4, .f32⟩
  | 79 => ⟨S100000x4, .f32⟩
  | 80 => ⟨S_, .f32⟩
  | 81 => ⟨S100000, .f32⟩
  | 82 => ⟨S1x100000x1, .f32⟩
  | 83 => ⟨S16x100000x4, .f32⟩
  | 84 => ⟨S16x100000x4, .f32⟩
  | 85 => ⟨S_, .f32⟩
  | 86 => ⟨S16x100000x4, .f32⟩
  | 87 => ⟨S_, .f32⟩
  | 88 => ⟨S16x100000x4, .f32⟩
  | 89 => ⟨S16x100000x4, .f32⟩
  | 90 => ⟨S1x100000, .i32⟩
  | 91 => ⟨S100000, .i32⟩
  | 92 => ⟨S100000x1, .i32⟩
  | 93 => ⟨S4, .i32⟩
  | 94 => ⟨S1x4, .i32⟩
  | 95 => ⟨S100000x4, .i32⟩
  | 96 => ⟨S100000x4, .i32⟩
  | 97 => ⟨S100000x4, .i1⟩
  | 98 => ⟨S1x100000x4, .i1⟩
  | 99 => ⟨S16x100000x4, .i1⟩
  | 100 => ⟨S16x100000x4, .i1⟩
  | 101 => ⟨S16x100000x4, .i1⟩
  | 102 => ⟨S_, .f32⟩
  | 103 => ⟨S_, .f32⟩
  | 104 => ⟨S16x100000x4, .f32⟩
  | 105 => ⟨S16x100000x4, .f32⟩
  | 106 => ⟨S16x100000x4, .f32⟩
  | 107 => ⟨S_, .f32⟩
  | 108 => ⟨S16x100000, .f32⟩
  | 109 => ⟨S_, .f32⟩
  | 110 => ⟨S16x100000, .f32⟩
  | 111 => ⟨S16x100000, .f32⟩
  | 112 => ⟨S16x100000x1, .f32⟩
  | 113 => ⟨S16x100000x4, .f32⟩
  | 114 => ⟨S16x100000x4, .f32⟩
  | 115 => ⟨S16x100000x4, .f32⟩
  | 116 => ⟨S_, .f32⟩
  | 117 => ⟨S16x100000, .f32⟩
  | 118 => ⟨S16x100000x1, .f32⟩
  | 119 => ⟨S16x100000x1, .f32⟩
  | 120 => ⟨S16x100000x4, .f32⟩
  | 121 => ⟨S16x100000x4, .f32⟩
  | 122 => ⟨S16x100000x1, .i32⟩
  | 123 => ⟨S4, .i32⟩
  | 124 => ⟨S1x1x4, .i32⟩
  | 125 => ⟨S16x100000x4, .i32⟩
  | 126 => ⟨S16x100000x4, .i32⟩
  | 127 => ⟨S16x100000x4, .i1⟩
  | _ => ⟨S16x100000, .i32⟩

abbrev hbmTy0_4 (i : Nat) : BufTy := match i % 128 with
  | 0 => ⟨S_, .f32⟩
  | 1 => ⟨S_, .f32⟩
  | 2 => ⟨S16x100000x4, .f32⟩
  | 3 => ⟨S16x100000x4, .f32⟩
  | 4 => ⟨S_, .f32⟩
  | 5 => ⟨S16x100000, .f32⟩
  | 6 => ⟨S_, .f32⟩
  | 7 => ⟨S16, .f32⟩
  | 8 => ⟨S1x100000x4, .f32⟩
  | 9 => ⟨S16x100000x4, .f32⟩
  | 10 => ⟨S16x100000x4, .f32⟩
  | 11 => ⟨S_, .f32⟩
  | 12 => ⟨S16, .f32⟩
  | 13 => ⟨S1x100000x4, .f32⟩
  | 14 => ⟨S16x100000x4, .f32⟩
  | 15 => ⟨S16x100000x4, .f32⟩
  | 16 => ⟨S_, .f32⟩
  | 17 => ⟨S16, .f32⟩
  | 18 => ⟨S16, .f32⟩
  | 19 => ⟨S16, .f32⟩
  | 20 => ⟨S16, .f32⟩
  | 21 => ⟨S16, .f32⟩
  | 22 => ⟨S16, .i1⟩
  | 23 => ⟨S16, .f32⟩
  | 24 => ⟨S16x100000, .f32⟩
  | 25 => ⟨S16x1, .f32⟩
  | 26 => ⟨S16x100000, .f32⟩
  | 27 => ⟨S16x100000, .f32⟩
  | 28 => ⟨S16x100000, .f32⟩
  | 29 => ⟨S16x1, .f32⟩
  | 30 => ⟨S_, .f32⟩
  | 31 => ⟨S16x1, .f32⟩
  | 32 => ⟨S16x1, .f32⟩
  | 33 => ⟨S16x100000, .f32⟩
  | 34 => ⟨S16x100000, .f32⟩
  | 35 => ⟨S16x100000, .f32⟩
  | 36 => ⟨S16x100000, .i32⟩
  | _ => ⟨S16x100000, .i32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S16x100000, .i32⟩

abbrev bufTy : (tb : Table) → Fin (tcTables nBuf tb) → BufTy
  | .hbm, ⟨i, _⟩ => hbmTy i
  | _, _ => ⟨S16x100000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_c_0 : Ref sig .tc := ⟨.hbm, 16, rfl⟩
abbrev main_v8 : Ref sig .tc := ⟨.hbm, 17, rfl⟩
abbrev main_v9 : Ref sig .tc := ⟨.hbm, 18, rfl⟩
abbrev main_c_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_c_2 : Ref sig .tc := ⟨.hbm, 23, rfl⟩
abbrev main_v13 : Ref sig .tc := ⟨.hbm, 24, rfl⟩
abbrev main_v14 : Ref sig .tc := ⟨.hbm, 25, rfl⟩
abbrev main_c_3 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_4 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_5 : Ref sig .tc := ⟨.hbm, 39, rfl⟩
abbrev main_v26 : Ref sig .tc := ⟨.hbm, 40, rfl⟩
abbrev main_cst_6 : Ref sig .tc := ⟨.hbm, 41, rfl⟩
abbrev main_v27 : Ref sig .tc := ⟨.hbm, 42, rfl⟩
abbrev main_cst_7 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_cst_8 : Ref sig .tc := ⟨.hbm, 48, rfl⟩
abbrev main_v32 : Ref sig .tc := ⟨.hbm, 49, rfl⟩
abbrev main_v33 : Ref sig .tc := ⟨.hbm, 50, rfl⟩
abbrev main_cst_9 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_cst_10 : Ref sig .tc := ⟨.hbm, 64, rfl⟩
abbrev main_call0_v0 : Ref sig .tc := ⟨.hbm, 65, rfl⟩
abbrev main_call0_v1 : Ref sig .tc := ⟨.hbm, 66, rfl⟩
abbrev main_v46 : Ref sig .tc := ⟨.hbm, 67, rfl⟩
abbrev main_cst_11 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_cst_12 : Ref sig .tc := ⟨.hbm, 73, rfl⟩
abbrev main_v51 : Ref sig .tc := ⟨.hbm, 74, rfl⟩
abbrev main_cst_13 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_cst_14 : Ref sig .tc := ⟨.hbm, 90, rfl⟩
abbrev main_call1_v0 : Ref sig .tc := ⟨.hbm, 91, rfl⟩
abbrev main_call1_v1 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_cst_15 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_c_16 : Ref sig .tc := ⟨.hbm, 102, rfl⟩
abbrev main_call2_v0 : Ref sig .tc := ⟨.hbm, 103, rfl⟩
abbrev main_call2_v1 : Ref sig .tc := ⟨.hbm, 104, rfl⟩
abbrev main_call2_v2 : Ref sig .tc := ⟨.hbm, 105, rfl⟩
abbrev main_v74 : Ref sig .tc := ⟨.hbm, 106, rfl⟩
abbrev main_c_17 : Ref sig .tc := ⟨.hbm, 107, rfl⟩
abbrev main_v75 : Ref sig .tc := ⟨.hbm, 108, rfl⟩
abbrev main_call3_cst : Ref sig .tc := ⟨.hbm, 109, rfl⟩
abbrev main_call3_v0 : Ref sig .tc := ⟨.hbm, 110, rfl⟩
abbrev main_call3_cst_0 : Ref sig .tc := ⟨.hbm, 111, rfl⟩
abbrev main_call3_v1 : Ref sig .tc := ⟨.hbm, 112, rfl⟩
abbrev main_call3_v2 : Ref sig .tc := ⟨.hbm, 113, rfl⟩
abbrev main_call3_v3 : Ref sig .tc := ⟨.hbm, 114, rfl⟩
abbrev main_call3_v4 : Ref sig .tc := ⟨.hbm, 115, rfl⟩
abbrev main_call3_v5 : Ref sig .tc := ⟨.hbm, 116, rfl⟩
abbrev main_call3_v6 : Ref sig .tc := ⟨.hbm, 117, rfl⟩
abbrev main_call3_cst_1 : Ref sig .tc := ⟨.hbm, 118, rfl⟩
abbrev main_call3_v7 : Ref sig .tc := ⟨.hbm, 119, rfl⟩
abbrev main_call3_v8 : Ref sig .tc := ⟨.hbm, 120, rfl⟩
abbrev main_call3_v9 : Ref sig .tc := ⟨.hbm, 121, rfl⟩
abbrev main_call3_v10 : Ref sig .tc := ⟨.hbm, 122, rfl⟩
abbrev main_v76 : Ref sig .tc := ⟨.hbm, 123, rfl⟩
abbrev main_v77 : Ref sig .tc := ⟨.hbm, 124, rfl⟩
abbrev main_v78 : Ref sig .tc := ⟨.hbm, 125, rfl⟩
abbrev main_v79 : Ref sig .tc := ⟨.hbm, 126, rfl⟩
abbrev main_v80 : Ref sig .tc := ⟨.hbm, 127, rfl⟩
abbrev main_v81 : Ref sig .tc := ⟨.hbm, 128, rfl⟩
abbrev main_v82 : Ref sig .tc := ⟨.hbm, 129, rfl⟩
abbrev main_cst_18 : Ref sig .tc := ⟨.hbm, 130, rfl⟩
abbrev main_call4_v0 : Ref sig .tc := ⟨.hbm, 131, rfl⟩
abbrev main_call4_v1 : Ref sig .tc := ⟨.hbm, 132, rfl⟩
abbrev main_v83 : Ref sig .tc := ⟨.hbm, 133, rfl⟩
abbrev main_cst_19 : Ref sig .tc := ⟨.hbm, 134, rfl⟩
abbrev main_v84 : Ref sig .tc := ⟨.hbm, 135, rfl⟩
abbrev main_cst_20 : Ref sig .tc := ⟨.hbm, 136, rfl⟩
abbrev main_v85 : Ref sig .tc := ⟨.hbm, 137, rfl⟩
abbrev main_cst_21 : Ref sig .tc := ⟨.hbm, 138, rfl⟩
abbrev main_v86 : Ref sig .tc := ⟨.hbm, 139, rfl⟩
abbrev main_v87 : Ref sig .tc := ⟨.hbm, 140, rfl⟩
abbrev main_v88 : Ref sig .tc := ⟨.hbm, 141, rfl⟩
abbrev main_v89 : Ref sig .tc := ⟨.hbm, 142, rfl⟩
abbrev main_c_22 : Ref sig .tc := ⟨.hbm, 143, rfl⟩
abbrev main_v90 : Ref sig .tc := ⟨.hbm, 144, rfl⟩
abbrev main_v91 : Ref sig .tc := ⟨.hbm, 145, rfl⟩
abbrev main_c_23 : Ref sig .tc := ⟨.hbm, 146, rfl⟩
abbrev main_v92 : Ref sig .tc := ⟨.hbm, 147, rfl⟩
abbrev main_v93 : Ref sig .tc := ⟨.hbm, 148, rfl⟩
abbrev main_v94 : Ref sig .tc := ⟨.hbm, 149, rfl⟩
abbrev main_c_24 : Ref sig .tc := ⟨.hbm, 150, rfl⟩
abbrev main_v95 : Ref sig .tc := ⟨.hbm, 151, rfl⟩
abbrev main_v96 : Ref sig .tc := ⟨.hbm, 152, rfl⟩
abbrev main_c_25 : Ref sig .tc := ⟨.hbm, 153, rfl⟩
abbrev main_v97 : Ref sig .tc := ⟨.hbm, 154, rfl⟩
abbrev main_v98 : Ref sig .tc := ⟨.hbm, 155, rfl⟩
abbrev main_v99 : Ref sig .tc := ⟨.hbm, 156, rfl⟩
abbrev main_v100 : Ref sig .tc := ⟨.hbm, 157, rfl⟩
abbrev main_v101 : Ref sig .tc := ⟨.hbm, 158, rfl⟩
abbrev main_v102 : Ref sig .tc := ⟨.hbm, 159, rfl⟩
abbrev main_cst_26 : Ref sig .tc := ⟨.hbm, 160, rfl⟩
abbrev main_v103 : Ref sig .tc := ⟨.hbm, 161, rfl⟩
abbrev main_v104 : Ref sig .tc := ⟨.hbm, 162, rfl⟩
abbrev main_v105 : Ref sig .tc := ⟨.hbm, 163, rfl⟩
abbrev main_v106 : Ref sig .tc := ⟨.hbm, 164, rfl⟩
abbrev main_v107 : Ref sig .tc := ⟨.hbm, 165, rfl⟩
abbrev main_cst_27 : Ref sig .tc := ⟨.hbm, 166, rfl⟩
abbrev main_v108 : Ref sig .tc := ⟨.hbm, 167, rfl⟩
abbrev main_cst_28 : Ref sig .tc := ⟨.hbm, 168, rfl⟩
abbrev main_v109 : Ref sig .tc := ⟨.hbm, 169, rfl⟩
abbrev main_cst_29 : Ref sig .tc := ⟨.hbm, 170, rfl⟩
abbrev main_v110 : Ref sig .tc := ⟨.hbm, 171, rfl⟩
abbrev main_v111 : Ref sig .tc := ⟨.hbm, 172, rfl⟩
abbrev main_v112 : Ref sig .tc := ⟨.hbm, 173, rfl⟩
abbrev main_v113 : Ref sig .tc := ⟨.hbm, 174, rfl⟩
abbrev main_cst_30 : Ref sig .tc := ⟨.hbm, 175, rfl⟩
abbrev main_v114 : Ref sig .tc := ⟨.hbm, 176, rfl⟩
abbrev main_v115 : Ref sig .tc := ⟨.hbm, 177, rfl⟩
abbrev main_cst_31 : Ref sig .tc := ⟨.hbm, 178, rfl⟩
abbrev main_v116 : Ref sig .tc := ⟨.hbm, 179, rfl⟩
abbrev main_v117 : Ref sig .tc := ⟨.hbm, 180, rfl⟩
abbrev main_v118 : Ref sig .tc := ⟨.hbm, 181, rfl⟩
abbrev main_v119 : Ref sig .tc := ⟨.hbm, 182, rfl⟩
abbrev main_v120 : Ref sig .tc := ⟨.hbm, 183, rfl⟩
abbrev main_v121 : Ref sig .tc := ⟨.hbm, 184, rfl⟩
abbrev main_v122 : Ref sig .tc := ⟨.hbm, 185, rfl⟩
abbrev main_v123 : Ref sig .tc := ⟨.hbm, 186, rfl⟩
abbrev main_v124 : Ref sig .tc := ⟨.hbm, 187, rfl⟩
abbrev main_v125 : Ref sig .tc := ⟨.hbm, 188, rfl⟩
abbrev main_v126 : Ref sig .tc := ⟨.hbm, 189, rfl⟩
abbrev main_v127 : Ref sig .tc := ⟨.hbm, 190, rfl⟩
abbrev main_cst_32 : Ref sig .tc := ⟨.hbm, 191, rfl⟩
abbrev main_call5_v0 : Ref sig .tc := ⟨.hbm, 192, rfl⟩
abbrev main_call5_v1 : Ref sig .tc := ⟨.hbm, 193, rfl⟩
abbrev main_v128 : Ref sig .tc := ⟨.hbm, 194, rfl⟩
abbrev main_cst_33 : Ref sig .tc := ⟨.hbm, 195, rfl⟩
abbrev main_v129 : Ref sig .tc := ⟨.hbm, 196, rfl⟩
abbrev main_v130 : Ref sig .tc := ⟨.hbm, 197, rfl⟩
abbrev main_v131 : Ref sig .tc := ⟨.hbm, 198, rfl⟩
abbrev main_v132 : Ref sig .tc := ⟨.hbm, 199, rfl⟩
abbrev main_cst_34 : Ref sig .tc := ⟨.hbm, 200, rfl⟩
abbrev main_v133 : Ref sig .tc := ⟨.hbm, 201, rfl⟩
abbrev main_cst_35 : Ref sig .tc := ⟨.hbm, 202, rfl⟩
abbrev main_v134 : Ref sig .tc := ⟨.hbm, 203, rfl⟩
abbrev main_v135 : Ref sig .tc := ⟨.hbm, 204, rfl⟩
abbrev main_v136 : Ref sig .tc := ⟨.hbm, 205, rfl⟩
abbrev main_v137 : Ref sig .tc := ⟨.hbm, 206, rfl⟩
abbrev main_v138 : Ref sig .tc := ⟨.hbm, 207, rfl⟩
abbrev main_v139 : Ref sig .tc := ⟨.hbm, 208, rfl⟩
abbrev main_v140 : Ref sig .tc := ⟨.hbm, 209, rfl⟩
abbrev main_v141 : Ref sig .tc := ⟨.hbm, 210, rfl⟩
abbrev main_v142 : Ref sig .tc := ⟨.hbm, 211, rfl⟩
abbrev main_v143 : Ref sig .tc := ⟨.hbm, 212, rfl⟩
abbrev main_v144 : Ref sig .tc := ⟨.hbm, 213, rfl⟩
abbrev main_v145 : Ref sig .tc := ⟨.hbm, 214, rfl⟩
abbrev main_v146 : Ref sig .tc := ⟨.hbm, 215, rfl⟩
abbrev main_v147 : Ref sig .tc := ⟨.hbm, 216, rfl⟩
abbrev main_cst_36 : Ref sig .tc := ⟨.hbm, 217, rfl⟩
abbrev main_call6_v0 : Ref sig .tc := ⟨.hbm, 218, rfl⟩
abbrev main_call6_v1 : Ref sig .tc := ⟨.hbm, 219, rfl⟩
abbrev main_v148 : Ref sig .tc := ⟨.hbm, 220, rfl⟩
abbrev main_v149 : Ref sig .tc := ⟨.hbm, 221, rfl⟩
abbrev main_call7_cst : Ref sig .tc := ⟨.hbm, 222, rfl⟩
abbrev main_call7_v0 : Ref sig .tc := ⟨.hbm, 223, rfl⟩
abbrev main_call7_cst_0 : Ref sig .tc := ⟨.hbm, 224, rfl⟩
abbrev main_call7_v1 : Ref sig .tc := ⟨.hbm, 225, rfl⟩
abbrev main_call7_v2 : Ref sig .tc := ⟨.hbm, 226, rfl⟩
abbrev main_call7_v3 : Ref sig .tc := ⟨.hbm, 227, rfl⟩
abbrev main_call7_v4 : Ref sig .tc := ⟨.hbm, 228, rfl⟩
abbrev main_call7_v5 : Ref sig .tc := ⟨.hbm, 229, rfl⟩
abbrev main_call7_v6 : Ref sig .tc := ⟨.hbm, 230, rfl⟩
abbrev main_call7_cst_1 : Ref sig .tc := ⟨.hbm, 231, rfl⟩
abbrev main_call7_v7 : Ref sig .tc := ⟨.hbm, 232, rfl⟩
abbrev main_call7_v8 : Ref sig .tc := ⟨.hbm, 233, rfl⟩
abbrev main_call7_v9 : Ref sig .tc := ⟨.hbm, 234, rfl⟩
abbrev main_call7_v10 : Ref sig .tc := ⟨.hbm, 235, rfl⟩
abbrev main_v150 : Ref sig .tc := ⟨.hbm, 236, rfl⟩
abbrev main_v151 : Ref sig .tc := ⟨.hbm, 237, rfl⟩
abbrev main_v152 : Ref sig .tc := ⟨.hbm, 238, rfl⟩
abbrev main_v153 : Ref sig .tc := ⟨.hbm, 239, rfl⟩
abbrev main_v154 : Ref sig .tc := ⟨.hbm, 240, rfl⟩
abbrev main_v155 : Ref sig .tc := ⟨.hbm, 241, rfl⟩
abbrev main_v156 : Ref sig .tc := ⟨.hbm, 242, rfl⟩
abbrev main_cst_37 : Ref sig .tc := ⟨.hbm, 243, rfl⟩
abbrev main_call8_v0 : Ref sig .tc := ⟨.hbm, 244, rfl⟩
abbrev main_call8_v1 : Ref sig .tc := ⟨.hbm, 245, rfl⟩
abbrev main_v157 : Ref sig .tc := ⟨.hbm, 246, rfl⟩
abbrev main_cst_38 : Ref sig .tc := ⟨.hbm, 247, rfl⟩
abbrev main_v158 : Ref sig .tc := ⟨.hbm, 248, rfl⟩
abbrev main_cst_39 : Ref sig .tc := ⟨.hbm, 249, rfl⟩
abbrev main_v159 : Ref sig .tc := ⟨.hbm, 250, rfl⟩
abbrev main_v160 : Ref sig .tc := ⟨.hbm, 251, rfl⟩
abbrev main_v161 : Ref sig .tc := ⟨.hbm, 252, rfl⟩
abbrev main_v162 : Ref sig .tc := ⟨.hbm, 253, rfl⟩
abbrev main_cst_40 : Ref sig .tc := ⟨.hbm, 254, rfl⟩
abbrev main_v163 : Ref sig .tc := ⟨.hbm, 255, rfl⟩
abbrev main_v164 : Ref sig .tc := ⟨.hbm, 256, rfl⟩
abbrev main_v165 : Ref sig .tc := ⟨.hbm, 257, rfl⟩
abbrev main_v166 : Ref sig .tc := ⟨.hbm, 258, rfl⟩
abbrev main_cst_41 : Ref sig .tc := ⟨.hbm, 259, rfl⟩
abbrev main_v167 : Ref sig .tc := ⟨.hbm, 260, rfl⟩
abbrev main_v168 : Ref sig .tc := ⟨.hbm, 261, rfl⟩
abbrev main_v169 : Ref sig .tc := ⟨.hbm, 262, rfl⟩
abbrev main_v170 : Ref sig .tc := ⟨.hbm, 263, rfl⟩
abbrev main_v171 : Ref sig .tc := ⟨.hbm, 264, rfl⟩
abbrev main_v172 : Ref sig .tc := ⟨.hbm, 265, rfl⟩
abbrev main_v173 : Ref sig .tc := ⟨.hbm, 266, rfl⟩
abbrev main_v174 : Ref sig .tc := ⟨.hbm, 267, rfl⟩
abbrev main_v175 : Ref sig .tc := ⟨.hbm, 268, rfl⟩
abbrev main_v176 : Ref sig .tc := ⟨.hbm, 269, rfl⟩
abbrev main_v177 : Ref sig .tc := ⟨.hbm, 270, rfl⟩
abbrev main_v178 : Ref sig .tc := ⟨.hbm, 271, rfl⟩
abbrev main_v179 : Ref sig .tc := ⟨.hbm, 272, rfl⟩
abbrev main_cst_42 : Ref sig .tc := ⟨.hbm, 273, rfl⟩
abbrev main_v180 : Ref sig .tc := ⟨.hbm, 274, rfl⟩
abbrev main_v181 : Ref sig .tc := ⟨.hbm, 275, rfl⟩
abbrev main_v182 : Ref sig .tc := ⟨.hbm, 276, rfl⟩
abbrev main_v183 : Ref sig .tc := ⟨.hbm, 277, rfl⟩
abbrev main_v184 : Ref sig .tc := ⟨.hbm, 278, rfl⟩
abbrev main_v185 : Ref sig .tc := ⟨.hbm, 279, rfl⟩
abbrev main_cst_43 : Ref sig .tc := ⟨.hbm, 280, rfl⟩
abbrev main_v186 : Ref sig .tc := ⟨.hbm, 281, rfl⟩
abbrev main_v187 : Ref sig .tc := ⟨.hbm, 282, rfl⟩
abbrev main_v188 : Ref sig .tc := ⟨.hbm, 283, rfl⟩
abbrev main_v189 : Ref sig .tc := ⟨.hbm, 284, rfl⟩
abbrev main_c_44 : Ref sig .tc := ⟨.hbm, 285, rfl⟩
abbrev main_v190 : Ref sig .tc := ⟨.hbm, 286, rfl⟩
abbrev main_v191 : Ref sig .tc := ⟨.hbm, 287, rfl⟩
abbrev main_c_45 : Ref sig .tc := ⟨.hbm, 288, rfl⟩
abbrev main_v192 : Ref sig .tc := ⟨.hbm, 289, rfl⟩
abbrev main_v193 : Ref sig .tc := ⟨.hbm, 290, rfl⟩
abbrev main_v194 : Ref sig .tc := ⟨.hbm, 291, rfl⟩
abbrev main_c_46 : Ref sig .tc := ⟨.hbm, 292, rfl⟩
abbrev main_v195 : Ref sig .tc := ⟨.hbm, 293, rfl⟩
abbrev main_v196 : Ref sig .tc := ⟨.hbm, 294, rfl⟩
abbrev main_c_47 : Ref sig .tc := ⟨.hbm, 295, rfl⟩
abbrev main_v197 : Ref sig .tc := ⟨.hbm, 296, rfl⟩
abbrev main_v198 : Ref sig .tc := ⟨.hbm, 297, rfl⟩
abbrev main_v199 : Ref sig .tc := ⟨.hbm, 298, rfl⟩
abbrev main_v200 : Ref sig .tc := ⟨.hbm, 299, rfl⟩
abbrev main_v201 : Ref sig .tc := ⟨.hbm, 300, rfl⟩
abbrev main_v202 : Ref sig .tc := ⟨.hbm, 301, rfl⟩
abbrev main_cst_48 : Ref sig .tc := ⟨.hbm, 302, rfl⟩
abbrev main_v203 : Ref sig .tc := ⟨.hbm, 303, rfl⟩
abbrev main_v204 : Ref sig .tc := ⟨.hbm, 304, rfl⟩
abbrev main_v205 : Ref sig .tc := ⟨.hbm, 305, rfl⟩
abbrev main_v206 : Ref sig .tc := ⟨.hbm, 306, rfl⟩
abbrev main_v207 : Ref sig .tc := ⟨.hbm, 307, rfl⟩
abbrev main_cst_49 : Ref sig .tc := ⟨.hbm, 308, rfl⟩
abbrev main_v208 : Ref sig .tc := ⟨.hbm, 309, rfl⟩
abbrev main_cst_50 : Ref sig .tc := ⟨.hbm, 310, rfl⟩
abbrev main_v209 : Ref sig .tc := ⟨.hbm, 311, rfl⟩
abbrev main_cst_51 : Ref sig .tc := ⟨.hbm, 312, rfl⟩
abbrev main_v210 : Ref sig .tc := ⟨.hbm, 313, rfl⟩
abbrev main_v211 : Ref sig .tc := ⟨.hbm, 314, rfl⟩
abbrev main_v212 : Ref sig .tc := ⟨.hbm, 315, rfl⟩
abbrev main_v213 : Ref sig .tc := ⟨.hbm, 316, rfl⟩
abbrev main_cst_52 : Ref sig .tc := ⟨.hbm, 317, rfl⟩
abbrev main_v214 : Ref sig .tc := ⟨.hbm, 318, rfl⟩
abbrev main_v215 : Ref sig .tc := ⟨.hbm, 319, rfl⟩
abbrev main_cst_53 : Ref sig .tc := ⟨.hbm, 320, rfl⟩
abbrev main_v216 : Ref sig .tc := ⟨.hbm, 321, rfl⟩
abbrev main_v217 : Ref sig .tc := ⟨.hbm, 322, rfl⟩
abbrev main_v218 : Ref sig .tc := ⟨.hbm, 323, rfl⟩
abbrev main_v219 : Ref sig .tc := ⟨.hbm, 324, rfl⟩
abbrev main_v220 : Ref sig .tc := ⟨.hbm, 325, rfl⟩
abbrev main_v221 : Ref sig .tc := ⟨.hbm, 326, rfl⟩
abbrev main_v222 : Ref sig .tc := ⟨.hbm, 327, rfl⟩
abbrev main_v223 : Ref sig .tc := ⟨.hbm, 328, rfl⟩
abbrev main_v224 : Ref sig .tc := ⟨.hbm, 329, rfl⟩
abbrev main_v225 : Ref sig .tc := ⟨.hbm, 330, rfl⟩
abbrev main_v226 : Ref sig .tc := ⟨.hbm, 331, rfl⟩
abbrev main_v227 : Ref sig .tc := ⟨.hbm, 332, rfl⟩
abbrev main_cst_54 : Ref sig .tc := ⟨.hbm, 333, rfl⟩
abbrev main_call9_v0 : Ref sig .tc := ⟨.hbm, 334, rfl⟩
abbrev main_call9_v1 : Ref sig .tc := ⟨.hbm, 335, rfl⟩
abbrev main_v228 : Ref sig .tc := ⟨.hbm, 336, rfl⟩
abbrev main_cst_55 : Ref sig .tc := ⟨.hbm, 337, rfl⟩
abbrev main_v229 : Ref sig .tc := ⟨.hbm, 338, rfl⟩
abbrev main_v230 : Ref sig .tc := ⟨.hbm, 339, rfl⟩
abbrev main_v231 : Ref sig .tc := ⟨.hbm, 340, rfl⟩
abbrev main_v232 : Ref sig .tc := ⟨.hbm, 341, rfl⟩
abbrev main_cst_56 : Ref sig .tc := ⟨.hbm, 342, rfl⟩
abbrev main_v233 : Ref sig .tc := ⟨.hbm, 343, rfl⟩
abbrev main_cst_57 : Ref sig .tc := ⟨.hbm, 344, rfl⟩
abbrev main_v234 : Ref sig .tc := ⟨.hbm, 345, rfl⟩
abbrev main_v235 : Ref sig .tc := ⟨.hbm, 346, rfl⟩
abbrev main_v236 : Ref sig .tc := ⟨.hbm, 347, rfl⟩
abbrev main_v237 : Ref sig .tc := ⟨.hbm, 348, rfl⟩
abbrev main_v238 : Ref sig .tc := ⟨.hbm, 349, rfl⟩
abbrev main_v239 : Ref sig .tc := ⟨.hbm, 350, rfl⟩
abbrev main_v240 : Ref sig .tc := ⟨.hbm, 351, rfl⟩
abbrev main_v241 : Ref sig .tc := ⟨.hbm, 352, rfl⟩
abbrev main_v242 : Ref sig .tc := ⟨.hbm, 353, rfl⟩
abbrev main_v243 : Ref sig .tc := ⟨.hbm, 354, rfl⟩
abbrev main_v244 : Ref sig .tc := ⟨.hbm, 355, rfl⟩
abbrev main_v245 : Ref sig .tc := ⟨.hbm, 356, rfl⟩
abbrev main_v246 : Ref sig .tc := ⟨.hbm, 357, rfl⟩
abbrev main_v247 : Ref sig .tc := ⟨.hbm, 358, rfl⟩
abbrev main_cst_58 : Ref sig .tc := ⟨.hbm, 359, rfl⟩
abbrev main_call10_v0 : Ref sig .tc := ⟨.hbm, 360, rfl⟩
abbrev main_call10_v1 : Ref sig .tc := ⟨.hbm, 361, rfl⟩
abbrev main_v248 : Ref sig .tc := ⟨.hbm, 362, rfl⟩
abbrev main_v249 : Ref sig .tc := ⟨.hbm, 363, rfl⟩
abbrev main_v250 : Ref sig .tc := ⟨.hbm, 364, rfl⟩
abbrev main_cst_59 : Ref sig .tc := ⟨.hbm, 365, rfl⟩
abbrev main_v251 : Ref sig .tc := ⟨.hbm, 366, rfl⟩
abbrev main_v252 : Ref sig .tc := ⟨.hbm, 367, rfl⟩
abbrev main_v253 : Ref sig .tc := ⟨.hbm, 368, rfl⟩
abbrev main_v254 : Ref sig .tc := ⟨.hbm, 369, rfl⟩
abbrev main_v255 : Ref sig .tc := ⟨.hbm, 370, rfl⟩
abbrev main_c_60 : Ref sig .tc := ⟨.hbm, 371, rfl⟩
abbrev main_call11_v0 : Ref sig .tc := ⟨.hbm, 372, rfl⟩
abbrev main_call11_v1 : Ref sig .tc := ⟨.hbm, 373, rfl⟩
abbrev main_call11_v2 : Ref sig .tc := ⟨.hbm, 374, rfl⟩
abbrev main_v256 : Ref sig .tc := ⟨.hbm, 375, rfl⟩
abbrev main_c_61 : Ref sig .tc := ⟨.hbm, 376, rfl⟩
abbrev main_v257 : Ref sig .tc := ⟨.hbm, 377, rfl⟩
abbrev main_call12_cst : Ref sig .tc := ⟨.hbm, 378, rfl⟩
abbrev main_call12_v0 : Ref sig .tc := ⟨.hbm, 379, rfl⟩
abbrev main_call12_cst_0 : Ref sig .tc := ⟨.hbm, 380, rfl⟩
abbrev main_call12_v1 : Ref sig .tc := ⟨.hbm, 381, rfl⟩
abbrev main_call12_v2 : Ref sig .tc := ⟨.hbm, 382, rfl⟩
abbrev main_call12_v3 : Ref sig .tc := ⟨.hbm, 383, rfl⟩
abbrev main_call12_v4 : Ref sig .tc := ⟨.hbm, 384, rfl⟩
abbrev main_call12_v5 : Ref sig .tc := ⟨.hbm, 385, rfl⟩
abbrev main_call12_v6 : Ref sig .tc := ⟨.hbm, 386, rfl⟩
abbrev main_call12_cst_1 : Ref sig .tc := ⟨.hbm, 387, rfl⟩
abbrev main_call12_v7 : Ref sig .tc := ⟨.hbm, 388, rfl⟩
abbrev main_call12_v8 : Ref sig .tc := ⟨.hbm, 389, rfl⟩
abbrev main_call12_v9 : Ref sig .tc := ⟨.hbm, 390, rfl⟩
abbrev main_call12_v10 : Ref sig .tc := ⟨.hbm, 391, rfl⟩
abbrev main_v258 : Ref sig .tc := ⟨.hbm, 392, rfl⟩
abbrev main_v259 : Ref sig .tc := ⟨.hbm, 393, rfl⟩
abbrev main_v260 : Ref sig .tc := ⟨.hbm, 394, rfl⟩
abbrev main_v261 : Ref sig .tc := ⟨.hbm, 395, rfl⟩
abbrev main_v262 : Ref sig .tc := ⟨.hbm, 396, rfl⟩
abbrev main_v263 : Ref sig .tc := ⟨.hbm, 397, rfl⟩
abbrev main_v264 : Ref sig .tc := ⟨.hbm, 398, rfl⟩
abbrev main_cst_62 : Ref sig .tc := ⟨.hbm, 399, rfl⟩
abbrev main_call13_v0 : Ref sig .tc := ⟨.hbm, 400, rfl⟩
abbrev main_call13_v1 : Ref sig .tc := ⟨.hbm, 401, rfl⟩
abbrev main_v265 : Ref sig .tc := ⟨.hbm, 402, rfl⟩
abbrev main_cst_63 : Ref sig .tc := ⟨.hbm, 403, rfl⟩
abbrev main_v266 : Ref sig .tc := ⟨.hbm, 404, rfl⟩
abbrev main_cst_64 : Ref sig .tc := ⟨.hbm, 405, rfl⟩
abbrev main_v267 : Ref sig .tc := ⟨.hbm, 406, rfl⟩
abbrev main_cst_65 : Ref sig .tc := ⟨.hbm, 407, rfl⟩
abbrev main_v268 : Ref sig .tc := ⟨.hbm, 408, rfl⟩
abbrev main_v269 : Ref sig .tc := ⟨.hbm, 409, rfl⟩
abbrev main_v270 : Ref sig .tc := ⟨.hbm, 410, rfl⟩
abbrev main_v271 : Ref sig .tc := ⟨.hbm, 411, rfl⟩
abbrev main_c_66 : Ref sig .tc := ⟨.hbm, 412, rfl⟩
abbrev main_v272 : Ref sig .tc := ⟨.hbm, 413, rfl⟩
abbrev main_v273 : Ref sig .tc := ⟨.hbm, 414, rfl⟩
abbrev main_c_67 : Ref sig .tc := ⟨.hbm, 415, rfl⟩
abbrev main_v274 : Ref sig .tc := ⟨.hbm, 416, rfl⟩
abbrev main_v275 : Ref sig .tc := ⟨.hbm, 417, rfl⟩
abbrev main_v276 : Ref sig .tc := ⟨.hbm, 418, rfl⟩
abbrev main_c_68 : Ref sig .tc := ⟨.hbm, 419, rfl⟩
abbrev main_v277 : Ref sig .tc := ⟨.hbm, 420, rfl⟩
abbrev main_v278 : Ref sig .tc := ⟨.hbm, 421, rfl⟩
abbrev main_c_69 : Ref sig .tc := ⟨.hbm, 422, rfl⟩
abbrev main_v279 : Ref sig .tc := ⟨.hbm, 423, rfl⟩
abbrev main_v280 : Ref sig .tc := ⟨.hbm, 424, rfl⟩
abbrev main_v281 : Ref sig .tc := ⟨.hbm, 425, rfl⟩
abbrev main_v282 : Ref sig .tc := ⟨.hbm, 426, rfl⟩
abbrev main_v283 : Ref sig .tc := ⟨.hbm, 427, rfl⟩
abbrev main_v284 : Ref sig .tc := ⟨.hbm, 428, rfl⟩
abbrev main_cst_70 : Ref sig .tc := ⟨.hbm, 429, rfl⟩
abbrev main_v285 : Ref sig .tc := ⟨.hbm, 430, rfl⟩
abbrev main_v286 : Ref sig .tc := ⟨.hbm, 431, rfl⟩
abbrev main_v287 : Ref sig .tc := ⟨.hbm, 432, rfl⟩
abbrev main_v288 : Ref sig .tc := ⟨.hbm, 433, rfl⟩
abbrev main_v289 : Ref sig .tc := ⟨.hbm, 434, rfl⟩
abbrev main_cst_71 : Ref sig .tc := ⟨.hbm, 435, rfl⟩
abbrev main_v290 : Ref sig .tc := ⟨.hbm, 436, rfl⟩
abbrev main_cst_72 : Ref sig .tc := ⟨.hbm, 437, rfl⟩
abbrev main_v291 : Ref sig .tc := ⟨.hbm, 438, rfl⟩
abbrev main_cst_73 : Ref sig .tc := ⟨.hbm, 439, rfl⟩
abbrev main_v292 : Ref sig .tc := ⟨.hbm, 440, rfl⟩
abbrev main_v293 : Ref sig .tc := ⟨.hbm, 441, rfl⟩
abbrev main_v294 : Ref sig .tc := ⟨.hbm, 442, rfl⟩
abbrev main_v295 : Ref sig .tc := ⟨.hbm, 443, rfl⟩
abbrev main_cst_74 : Ref sig .tc := ⟨.hbm, 444, rfl⟩
abbrev main_v296 : Ref sig .tc := ⟨.hbm, 445, rfl⟩
abbrev main_v297 : Ref sig .tc := ⟨.hbm, 446, rfl⟩
abbrev main_cst_75 : Ref sig .tc := ⟨.hbm, 447, rfl⟩
abbrev main_v298 : Ref sig .tc := ⟨.hbm, 448, rfl⟩
abbrev main_v299 : Ref sig .tc := ⟨.hbm, 449, rfl⟩
abbrev main_v300 : Ref sig .tc := ⟨.hbm, 450, rfl⟩
abbrev main_v301 : Ref sig .tc := ⟨.hbm, 451, rfl⟩
abbrev main_v302 : Ref sig .tc := ⟨.hbm, 452, rfl⟩
abbrev main_v303 : Ref sig .tc := ⟨.hbm, 453, rfl⟩
abbrev main_v304 : Ref sig .tc := ⟨.hbm, 454, rfl⟩
abbrev main_v305 : Ref sig .tc := ⟨.hbm, 455, rfl⟩
abbrev main_v306 : Ref sig .tc := ⟨.hbm, 456, rfl⟩
abbrev main_v307 : Ref sig .tc := ⟨.hbm, 457, rfl⟩
abbrev main_v308 : Ref sig .tc := ⟨.hbm, 458, rfl⟩
abbrev main_v309 : Ref sig .tc := ⟨.hbm, 459, rfl⟩
abbrev main_cst_76 : Ref sig .tc := ⟨.hbm, 460, rfl⟩
abbrev main_call14_v0 : Ref sig .tc := ⟨.hbm, 461, rfl⟩
abbrev main_call14_v1 : Ref sig .tc := ⟨.hbm, 462, rfl⟩
abbrev main_v310 : Ref sig .tc := ⟨.hbm, 463, rfl⟩
abbrev main_cst_77 : Ref sig .tc := ⟨.hbm, 464, rfl⟩
abbrev main_v311 : Ref sig .tc := ⟨.hbm, 465, rfl⟩
abbrev main_v312 : Ref sig .tc := ⟨.hbm, 466, rfl⟩
abbrev main_v313 : Ref sig .tc := ⟨.hbm, 467, rfl⟩
abbrev main_v314 : Ref sig .tc := ⟨.hbm, 468, rfl⟩
abbrev main_cst_78 : Ref sig .tc := ⟨.hbm, 469, rfl⟩
abbrev main_v315 : Ref sig .tc := ⟨.hbm, 470, rfl⟩
abbrev main_cst_79 : Ref sig .tc := ⟨.hbm, 471, rfl⟩
abbrev main_v316 : Ref sig .tc := ⟨.hbm, 472, rfl⟩
abbrev main_v317 : Ref sig .tc := ⟨.hbm, 473, rfl⟩
abbrev main_v318 : Ref sig .tc := ⟨.hbm, 474, rfl⟩
abbrev main_v319 : Ref sig .tc := ⟨.hbm, 475, rfl⟩
abbrev main_v320 : Ref sig .tc := ⟨.hbm, 476, rfl⟩
abbrev main_v321 : Ref sig .tc := ⟨.hbm, 477, rfl⟩
abbrev main_v322 : Ref sig .tc := ⟨.hbm, 478, rfl⟩
abbrev main_v323 : Ref sig .tc := ⟨.hbm, 479, rfl⟩
abbrev main_v324 : Ref sig .tc := ⟨.hbm, 480, rfl⟩
abbrev main_v325 : Ref sig .tc := ⟨.hbm, 481, rfl⟩
abbrev main_v326 : Ref sig .tc := ⟨.hbm, 482, rfl⟩
abbrev main_v327 : Ref sig .tc := ⟨.hbm, 483, rfl⟩
abbrev main_v328 : Ref sig .tc := ⟨.hbm, 484, rfl⟩
abbrev main_v329 : Ref sig .tc := ⟨.hbm, 485, rfl⟩
abbrev main_cst_80 : Ref sig .tc := ⟨.hbm, 486, rfl⟩
abbrev main_call15_v0 : Ref sig .tc := ⟨.hbm, 487, rfl⟩
abbrev main_call15_v1 : Ref sig .tc := ⟨.hbm, 488, rfl⟩
abbrev main_v330 : Ref sig .tc := ⟨.hbm, 489, rfl⟩
abbrev main_v331 : Ref sig .tc := ⟨.hbm, 490, rfl⟩
abbrev main_call16_cst : Ref sig .tc := ⟨.hbm, 491, rfl⟩
abbrev main_call16_v0 : Ref sig .tc := ⟨.hbm, 492, rfl⟩
abbrev main_call16_cst_0 : Ref sig .tc := ⟨.hbm, 493, rfl⟩
abbrev main_call16_v1 : Ref sig .tc := ⟨.hbm, 494, rfl⟩
abbrev main_call16_v2 : Ref sig .tc := ⟨.hbm, 495, rfl⟩
abbrev main_call16_v3 : Ref sig .tc := ⟨.hbm, 496, rfl⟩
abbrev main_call16_v4 : Ref sig .tc := ⟨.hbm, 497, rfl⟩
abbrev main_call16_v5 : Ref sig .tc := ⟨.hbm, 498, rfl⟩
abbrev main_call16_v6 : Ref sig .tc := ⟨.hbm, 499, rfl⟩
abbrev main_call16_cst_1 : Ref sig .tc := ⟨.hbm, 500, rfl⟩
abbrev main_call16_v7 : Ref sig .tc := ⟨.hbm, 501, rfl⟩
abbrev main_call16_v8 : Ref sig .tc := ⟨.hbm, 502, rfl⟩
abbrev main_call16_v9 : Ref sig .tc := ⟨.hbm, 503, rfl⟩
abbrev main_call16_v10 : Ref sig .tc := ⟨.hbm, 504, rfl⟩
abbrev main_v332 : Ref sig .tc := ⟨.hbm, 505, rfl⟩
abbrev main_v333 : Ref sig .tc := ⟨.hbm, 506, rfl⟩
abbrev main_v334 : Ref sig .tc := ⟨.hbm, 507, rfl⟩
abbrev main_v335 : Ref sig .tc := ⟨.hbm, 508, rfl⟩
abbrev main_v336 : Ref sig .tc := ⟨.hbm, 509, rfl⟩
abbrev main_v337 : Ref sig .tc := ⟨.hbm, 510, rfl⟩
abbrev main_v338 : Ref sig .tc := ⟨.hbm, 511, rfl⟩
abbrev main_cst_81 : Ref sig .tc := ⟨.hbm, 512, rfl⟩
abbrev main_call17_v0 : Ref sig .tc := ⟨.hbm, 513, rfl⟩
abbrev main_call17_v1 : Ref sig .tc := ⟨.hbm, 514, rfl⟩
abbrev main_v339 : Ref sig .tc := ⟨.hbm, 515, rfl⟩
abbrev main_cst_82 : Ref sig .tc := ⟨.hbm, 516, rfl⟩
abbrev main_v340 : Ref sig .tc := ⟨.hbm, 517, rfl⟩
abbrev main_cst_83 : Ref sig .tc := ⟨.hbm, 518, rfl⟩
abbrev main_v341 : Ref sig .tc := ⟨.hbm, 519, rfl⟩
abbrev main_v342 : Ref sig .tc := ⟨.hbm, 520, rfl⟩
abbrev main_v343 : Ref sig .tc := ⟨.hbm, 521, rfl⟩
abbrev main_v344 : Ref sig .tc := ⟨.hbm, 522, rfl⟩
abbrev main_cst_84 : Ref sig .tc := ⟨.hbm, 523, rfl⟩
abbrev main_v345 : Ref sig .tc := ⟨.hbm, 524, rfl⟩
abbrev main_v346 : Ref sig .tc := ⟨.hbm, 525, rfl⟩
abbrev main_v347 : Ref sig .tc := ⟨.hbm, 526, rfl⟩
abbrev main_v348 : Ref sig .tc := ⟨.hbm, 527, rfl⟩
abbrev main_cst_85 : Ref sig .tc := ⟨.hbm, 528, rfl⟩
abbrev main_v349 : Ref sig .tc := ⟨.hbm, 529, rfl⟩
abbrev main_v350 : Ref sig .tc := ⟨.hbm, 530, rfl⟩
abbrev main_v351 : Ref sig .tc := ⟨.hbm, 531, rfl⟩
abbrev main_v352 : Ref sig .tc := ⟨.hbm, 532, rfl⟩
abbrev main_v353 : Ref sig .tc := ⟨.hbm, 533, rfl⟩
abbrev main_v354 : Ref sig .tc := ⟨.hbm, 534, rfl⟩
abbrev main_v355 : Ref sig .tc := ⟨.hbm, 535, rfl⟩
abbrev main_v356 : Ref sig .tc := ⟨.hbm, 536, rfl⟩
abbrev main_v357 : Ref sig .tc := ⟨.hbm, 537, rfl⟩
abbrev main_v358 : Ref sig .tc := ⟨.hbm, 538, rfl⟩
abbrev main_v359 : Ref sig .tc := ⟨.hbm, 539, rfl⟩
abbrev main_v360 : Ref sig .tc := ⟨.hbm, 540, rfl⟩
abbrev main_v361 : Ref sig .tc := ⟨.hbm, 541, rfl⟩
abbrev main_cst_86 : Ref sig .tc := ⟨.hbm, 542, rfl⟩
abbrev main_v362 : Ref sig .tc := ⟨.hbm, 543, rfl⟩
abbrev main_v363 : Ref sig .tc := ⟨.hbm, 544, rfl⟩
abbrev main_v364 : Ref sig .tc := ⟨.hbm, 545, rfl⟩
abbrev main_v365 : Ref sig .tc := ⟨.hbm, 546, rfl⟩
abbrev main_v366 : Ref sig .tc := ⟨.hbm, 547, rfl⟩
abbrev main_v367 : Ref sig .tc := ⟨.hbm, 548, rfl⟩

abbrev nD : Nat := 1
abbrev τ : Topo := Topo.v7x

variable {F : FTy → Type} [FloatOps F]
-- ==== Proof.Spec.lean ====
module

public import proofs.«01_k».proof.Proof.Gen.KernelIdeal.Skeleton
public import Idealize.ShloMosaic.Lib.Pipeline.Value
public import Idealize.ShloMosaic.Lib.Pointwise.Index

@[expose] public section

noncomputable section

namespace Cert.KernelIdeal.Own

open Cert.KernelIdeal Cert.KernelIdeal.Gen
open Idealize.ShloMosaic

variable {F : FTy → Type} [FloatOps F]

/-! ## One pixel, in scalars -/

/-- The float constants the kernel writes. -/
abbrev zf : F .f32 := Scalar.ofBits .f32 0x00000000#32
abbrev halfK : F .f32 := Scalar.ofBits .f32 0x3F000000#32
abbrev offA : F .f32 := Scalar.ofBits .f32 0x40200000#32
abbrev offB : F .f32 := Scalar.ofBits .f32 0x40A00000#32

/-- Half a weight. -/
def hw (w : F .f32) : F .f32 := FloatOps.mulf w halfK

/-- Which of four values a class word names, as the kernel selects. -/
def sel4 (r : BitVec 32) (h : Fin 4 → F .f32) : F .f32 :=
  Scalar.select (IntOp.cmpi .eq r 3#32) (h 3) (Scalar.select (IntOp.cmpi .eq r 2#32) (h 2)
    (Scalar.select (IntOp.cmpi .eq r 0#32) (h 0) (h 1)))

/-- The class words. -/
def cw : Fin 4 → BitVec 32 | 0 => 0#32 | 1 => 1#32 | 2 => 2#32 | 3 => 3#32

/-- The logit of class `c` at a pixel: `z` says whether it lies in row 0, `r` is row 0's class in its column. -/
def lg (off : F .f32) (z : BitVec 1) (r : BitVec 32) (W : Fin 4 → F .f32) (c : Fin 4) : F .f32 :=
  FloatOps.subf (FloatOps.subf (hw (W c)) (sel4 r fun c => hw (W c)))
    (Scalar.select (IntOp.andi z (IntOp.cmpi .eq r (cw c))) zf off)

/-- The largest of four logits, in the kernel's order. -/
def mx (L : Fin 4 → F .f32) : F .f32 :=
  FloatOps.maximumf (FloatOps.maximumf (L 0) (L 1)) (FloatOps.maximumf (L 2) (L 3))

/-- The logarithm of the sum of the exponentials, shifted by the largest. -/
def lse (L : Fin 4 → F .f32) : F .f32 :=
  FloatOps.log (FloatOps.addf (FloatOps.addf (FloatOps.addf (FloatOps.exp (FloatOps.subf (L 0) (mx L)))
    (FloatOps.exp (FloatOps.subf (L 1) (mx L)))) (FloatOps.exp (FloatOps.subf (L 2) (mx L))))
    (FloatOps.exp (FloatOps.subf (L 3) (mx L))))

/-- The log-probability of class `c`. -/
def lp (L : Fin 4 → F .f32) (c : Fin 4) : F .f32 := FloatOps.subf (FloatOps.subf (L c) (mx L)) (lse L)

/-- The log-probability of the class a word names. -/
def gat (L : Fin 4 → F .f32) (k : BitVec 32) : F .f32 :=
  Scalar.select (IntOp.cmpi .eq k 3#32) (lp L 3) (Scalar.select (IntOp.cmpi .eq k 2#32) (lp L 2)
    (Scalar.select (IntOp.cmpi .eq k 1#32) (lp L 1) (lp L 0)))

/-- The first class of the largest score, as the kernel's chain of strict comparisons finds it. -/
def am (y : Fin 4 → F .f32) : BitVec 32 :=
  let m1 := FloatOps.cmpf .ogt (y 1) (y 0)
  let b1 := Scalar.select m1 (y 1) (y 0)
  let m2 := FloatOps.cmpf .ogt (y 2) b1
  let b2 := Scalar.select m2 (y 2) b1
  Scalar.select (FloatOps.cmpf .ogt (y 3) b2) 3#32 (Scalar.select m2 2#32 (Scalar.select m1 1#32 0#32))

/-! ## One block, as vectors -/

variable (n : BitVec 32) (x xp : IVec S16x8192 32) (a : FVec F S16x1 .f32) (w : FVec F S8x8192 .f32) (g : FVec F S4x16x8192 .f32)

/-- The current class word: the proposal's where it was taken. -/
def xcS (a : F .f32) (xp x : BitVec 32) : BitVec 32 := Scalar.select (FloatOps.cmpf .ogt a zf) xp x

def xcV : IVec S16x8192 32 := fun j => xcS (a (ix2 (j 0 : Fin 16) (0 : Fin 1))) (xp j) (x j)

/-- Row 0's mark. -/
def zrow (b : Fin 16) : BitVec 1 := IntOp.cmpi .eq (BitVec.ofNat 32 b.val) 0#32

/-- The four weights of a column. -/
def wcol (l : Fin 8192) : Fin 4 → F .f32 := fun c => w (ix2 (⟨c.val, by omega⟩ : Fin 8) l)

/-- The logits of the forward proposal. -/
def LA (j : S16x8192.Idx) : Fin 4 → F .f32 :=
  lg offA (zrow (j 0)) (xcV x xp a (ix2 (0 : Fin 16) (j 1 : Fin 8192))) (wcol w (j 1))

/-- The proposed class. -/
def idxV : IVec S16x8192 32 := fun j => am fun c => FloatOps.addf (LA x xp a w j c) (g (ix3 c (j 0 : Fin 16) (j 1 : Fin 8192)))

/-- The logits of the reverse proposal. -/
def LB (j : S16x8192.Idx) : Fin 4 → F .f32 :=
  lg offB (zrow (j 0)) (idxV x xp a w g (ix2 (0 : Fin 16) (j 1 : Fin 8192))) (wcol w (j 1))

/-- Whether a lane of block `n` lies in the array. -/
def validV (l : Fin 8192) : BitVec 1 := IntOp.cmpi .slt (IntOp.addi (IntOp.muli n 8192#32) (BitVec.ofNat 32 l.val)) 100000#32

def lfV : FVec F S16x8192 .f32 := fun j => Scalar.select (validV n (j 1)) (gat (LA x xp a w j) (idxV x xp a w g j)) zf
def lrV : FVec F S16x8192 .f32 := fun j => Scalar.select (validV n (j 1)) (gat (LB x xp a w g j) (xcV x xp a j)) zf

/-- A row's element at a number. -/
def at' {m k : Nat} (v : FVec F ⟨2, ![m, k + 1]⟩ .f32) (b : Fin m) (i : Nat) : F .f32 := if h : i < k + 1 then v (ix2 b ⟨i, h⟩) else v (ix2 b 0)

/-- The sum of the first `k` tiles of 128 lanes onto an accumulator. -/
def accN (v : FVec F S16x8192 .f32) (s : FVec F S16x128 .f32) (j : S16x128.Idx) : Nat → F .f32
  | 0 => s j
  | k + 1 => FloatOps.addf (accN v s j k) (at' (k := 8191) v (j 0) (k * 128 + (j 1).val))

def accV (v : FVec F S16x8192 .f32) (s : FVec F S16x128 .f32) : FVec F S16x128 .f32 := fun j => accN v s j 64

/-- The sum of the first `k + 1` tiles of eight lanes of an accumulator, at lane `i`. -/
def f8 (v : FVec F S16x128 .f32) (b : Fin 16) (i : Nat) : Nat → F .f32
  | 0 => at' (k := 127) v b (0 + i)
  | k + 1 => FloatOps.addf (f8 v b i k) (at' (k := 127) v b ((k + 1) * 8 + i))

def f4 (v : FVec F S16x128 .f32) (b : Fin 16) (i : Nat) : F .f32 := FloatOps.addf (f8 v b i 15) (f8 v b (4 + i) 15)
def f2 (v : FVec F S16x128 .f32) (b : Fin 16) (i : Nat) : F .f32 := FloatOps.addf (f4 v b i) (f4 v b (2 + i))

/-- An accumulator's row summed, in the kernel's order. -/
def foldV (v : FVec F S16x128 .f32) : FVec F S16x1 .f32 := fun j => FloatOps.addf (f2 v (j 0) 0) (f2 v (j 0) 1)

/-- The fold's four stages as vectors. -/
def t8 (v : FVec F S16x128 .f32) : FVec F S16x8 .f32 := fun j => f8 v (j 0) (j 1).val 15
def t4 (u : FVec F S16x8 .f32) : FVec F S16x4 .f32 := fun j =>
  FloatOps.addf (at' (k := 7) u (j 0) (0 + (j 1).val)) (at' (k := 7) u (j 0) (4 + (j 1).val))
def t2 (u : FVec F S16x4 .f32) : FVec F S16x2 .f32 := fun j =>
  FloatOps.addf (at' (k := 3) u (j 0) (0 + (j 1).val)) (at' (k := 3) u (j 0) (2 + (j 1).val))
def t1 (u : FVec F S16x2 .f32) : FVec F S16x1 .f32 := fun j =>
  FloatOps.addf (at' (k := 1) u (j 0) (0 + (j 1).val)) (at' (k := 1) u (j 0) (1 + (j 1).val))

theorem at'_lt {m k : Nat} (v : FVec F ⟨2, ![m, k + 1]⟩ .f32) (b : Fin m) {i : Nat} (h : i < k + 1) :
    at' v b i = v (ix2 b ⟨i, h⟩) := dif_pos h

theorem t4_at (v : FVec F S16x128 .f32) (b : Fin 16) (i : Fin 4) : t4 (t8 v) (ix2 b i) = f4 v b i.val := by
  have e0 : 0 + i.val = i.val := Nat.zero_add _
  refine congrArg₂ FloatOps.addf ?_ ?_
  · refine (at'_lt (k := 7) (t8 v) b (by omega : 0 + i.val < 7 + 1)).trans ?_
    show f8 v b (0 + i.val) 15 = _
    rw [e0]
  · exact at'_lt (k := 7) (t8 v) b (by omega : 4 + i.val < 7 + 1)

theorem t2_at (v : FVec F S16x128 .f32) (b : Fin 16) (i : Fin 2) : t2 (t4 (t8 v)) (ix2 b i) = f2 v b i.val := by
  have e0 : 0 + i.val = i.val := Nat.zero_add _
  refine congrArg₂ FloatOps.addf ?_ ?_
  · refine (at'_lt (k := 3) (t4 (t8 v)) b (by omega : 0 + i.val < 3 + 1)).trans ((t4_at v b _).trans ?_)
    show f4 v b (0 + i.val) = _
    rw [e0]
  · exact (at'_lt (k := 3) (t4 (t8 v)) b (by omega : 2 + i.val < 3 + 1)).trans (t4_at v b _)

theorem t_fold (v : FVec F S16x128 .f32) : t1 (t2 (t4 (t8 v))) = foldV v := by
  funext j
  have h : (j 1).val = 0 := by have := (j 1).isLt; change (j 1).val < 1 at this; omega
  unfold t1 foldV
  refine congrArg₂ FloatOps.addf ?_ ?_
  · rw [h]; exact (at'_lt (k := 1) _ _ (by decide)).trans (t2_at v (j 0) ⟨0 + 0, by decide⟩)
  · rw [h]; exact (at'_lt (k := 1) _ _ (by decide)).trans (t2_at v (j 0) ⟨1 + 0, by decide⟩)

/-- The zero accumulator. -/
def zeroV : FVec F S16x128 .f32 := fun _ => zf

/-! ## The shape operations, at an index -/

theorem bc_row {α : Type} (x : S1x8192.Idx → α) (h : S1x8192.Broadcasts S16x8192) (j : S16x8192.Idx) :
    broadcastTo S16x8192 x h j = x (ix2 (0 : Fin 1) (j 1 : Fin 8192)) :=
  congrArg x (funext fun i => by fin_cases i <;> rfl)

theorem bc_col {α : Type} (x : S16x1.Idx → α) (h : S16x1.Broadcasts S16x8192) (j : S16x8192.Idx) :
    broadcastTo S16x8192 x h j = x (ix2 (j 0 : Fin 16) (0 : Fin 1)) :=
  congrArg x (funext fun i => by fin_cases i <;> rfl)

theorem sl_row0 {α : Type} (x : S16x8192.Idx → α) (h : S16x8192.Slices ![0, 0] S1x8192) (j : S1x8192.Idx) :
    extractStridedSlice S1x8192 ![0, 0] x h j = x (ix2 (0 : Fin 16) (j 1 : Fin 8192)) :=
  congrArg x (funext fun i => by
    fin_cases i
    · exact Fin.ext (by have := (j 0).isLt; show 0 + (j 0).val = 0; change (j 0).val < 1 at this; omega)
    · exact Fin.ext (Nat.zero_add _))

theorem sl_w (c : Nat) {α : Type} (x : S8x8192.Idx → α) (h : S8x8192.Slices ![c, 0] S1x8192) (j : S1x8192.Idx) :
    extractStridedSlice S1x8192 ![c, 0] x h j = x (ix2 (⟨c, Nat.lt_of_lt_of_le (Nat.lt_succ_self c) (h.2 0)⟩ : Fin 8) (j 1 : Fin 8192)) :=
  congrArg x (funext fun i => by
    fin_cases i
    · exact Fin.ext (by have := (j 0).isLt; show c + (j 0).val = c; change (j 0).val < 1 at this; omega)
    · exact Fin.ext (Nat.zero_add _))

theorem sl_g (c : Nat) {α : Type} (x : S4x16x8192.Idx → α) (h : S4x16x8192.Slices ![c, 0, 0] S1x16x8192)
    (h' : S1x16x8192.ShapeCasts S16x8192) (j : S16x8192.Idx) :
    shapeCast S16x8192 (extractStridedSlice S1x16x8192 ![c, 0, 0] x h) h' j = x (ix3 (⟨c, Nat.lt_of_lt_of_le (Nat.lt_succ_self c) (h.2 0)⟩ : Fin 4) (j 0 : Fin 16) (j 1 : Fin 8192)) := by
  rw [shapeCast_dropUnit_apply ![16, 8192] (extractStridedSlice S1x16x8192 ![c, 0, 0] x h) h' j]
  refine congrArg x (funext fun i => ?_)
  fin_cases i
  · exact Fin.ext rfl
  · exact Fin.ext (Nat.zero_add _)
  · exact Fin.ext (Nat.zero_add _)

theorem iota0 (h) (j : S16x8192.Idx) : iota .tc S16x8192 32 [0] h j = BitVec.ofNat 32 (j 0).val := by
  show BitVec.ofNat 32 (0 * 16 + (j 0).val) = _
  rw [Nat.zero_mul, Nat.zero_add]

theorem iota1 (h) (j : S16x8192.Idx) : iota .tc S16x8192 32 [1] h j = BitVec.ofNat 32 (j 1).val := by
  show BitVec.ofNat 32 (0 * 8192 + (j 1).val) = _
  rw [Nat.zero_mul, Nat.zero_add]

theorem sl_t (o : Nat) (x : FVec F S16x8192 .f32) (h : S16x8192.Slices ![0, o] S16x128) (j : S16x128.Idx) :
    extractStridedSlice S16x128 ![0, o] x h j = at' (k := 8191) x (j 0) (o + (j 1).val) := by
  have h2 : o + 128 ≤ 8192 := h.2 1
  have h1 : (j 1).val < 128 := (j 1).isLt
  unfold at'
  rw [dif_pos (by omega)]
  refine congrArg x (funext fun i => ?_)
  fin_cases i
  · exact Fin.ext (Nat.zero_add _)
  · rfl

theorem sl_8 (o : Nat) (x : FVec F S16x128 .f32) (h : S16x128.Slices ![0, o] S16x8) (j : S16x8.Idx) :
    extractStridedSlice S16x8 ![0, o] x h j = at' (k := 127) x (j 0) (o + (j 1).val) := by
  have h2 : o + 8 ≤ 128 := h.2 1
  have h1 : (j 1).val < 8 := (j 1).isLt
  unfold at'
  rw [dif_pos (by omega)]
  refine congrArg x (funext fun i => ?_)
  fin_cases i
  · exact Fin.ext (Nat.zero_add _)
  · rfl

theorem sl_4 (o : Nat) (x : FVec F S16x8 .f32) (h : S16x8.Slices ![0, o] S16x4) (j : S16x4.Idx) :
    extractStridedSlice S16x4 ![0, o] x h j = at' (k := 7) x (j 0) (o + (j 1).val) := by
  have h2 : o + 4 ≤ 8 := h.2 1
  have h1 : (j 1).val < 4 := (j 1).isLt
  unfold at'
  rw [dif_pos (by omega)]
  refine congrArg x (funext fun i => ?_)
  fin_cases i
  · exact Fin.ext (Nat.zero_add _)
  · rfl

theorem sl_2 (o : Nat) (x : FVec F S16x4 .f32) (h : S16x4.Slices ![0, o] S16x2) (j : S16x2.Idx) :
    extractStridedSlice S16x2 ![0, o] x h j = at' (k := 3) x (j 0) (o + (j 1).val) := by
  have h2 : o + 2 ≤ 4 := h.2 1
  have h1 : (j 1).val < 2 := (j 1).isLt
  unfold at'
  rw [dif_pos (by omega)]
  refine congrArg x (funext fun i => ?_)
  fin_cases i
  · exact Fin.ext (Nat.zero_add _)
  · rfl

theorem sl_1 (o : Nat) (x : FVec F S16x2 .f32) (h : S16x2.Slices ![0, o] S16x1) (j : S16x1.Idx) :
    extractStridedSlice S16x1 ![0, o] x h j = at' (k := 1) x (j 0) (o + (j 1).val) := by
  have h2 : o + 1 ≤ 2 := h.2 1
  have h1 : (j 1).val < 1 := (j 1).isLt
  unfold at'
  rw [dif_pos (by omega)]
  refine congrArg x (funext fun i => ?_)
  fin_cases i
  · exact Fin.ext (Nat.zero_add _)
  · rfl

/-- The fold's stages in the printed operations. -/
def p8 (v : FVec F S16x128 .f32) : FVec F S16x8 .f32 := addf (addf (addf (addf (addf (addf (addf (addf (addf (addf (addf (addf (addf (addf (addf (extractStridedSlice S16x8 ![0, 0] v slices_S16x128_o0_0_S16x8) (extractStridedSlice S16x8 ![0, 8] v slices_S16x128_o0_8_S16x8)) (extractStridedSlice S16x8 ![0, 16] v slices_S16x128_o0_16_S16x8)) (extractStridedSlice S16x8 ![0, 24] v slices_S16x128_o0_24_S16x8)) (extractStridedSlice S16x8 ![0, 32] v slices_S16x128_o0_32_S16x8)) (extractStridedSlice S16x8 ![0, 40] v slices_S16x128_o0_40_S16x8)) (extractStridedSlice S16x8 ![0, 48] v slices_S16x128_o0_48_S16x8)) (extractStridedSlice S16x8 ![0, 56] v slices_S16x128_o0_56_S16x8)) (extractStridedSlice S16x8 ![0, 64] v slices_S16x128_o0_64_S16x8)) (extractStridedSlice S16x8 ![0, 72] v slices_S16x128_o0_72_S16x8)) (extractStridedSlice S16x8 ![0, 80] v slices_S16x128_o0_80_S16x8)) (extractStridedSlice S16x8 ![0, 88] v slices_S16x128_o0_88_S16x8)) (extractStridedSlice S16x8 ![0, 96] v slices_S16x128_o0_96_S16x8)) (extractStridedSlice S16x8 ![0, 104] v slices_S16x128_o0_104_S16x8)) (extractStridedSlice S16x8 ![0, 112] v slices_S16x128_o0_112_S16x8)) (extractStridedSlice S16x8 ![0, 120] v slices_S16x128_o0_120_S16x8)
def p4 (v : FVec F S16x8 .f32) : FVec F S16x4 .f32 :=
  addf (extractStridedSlice S16x4 ![0, 0] v slices_S16x8_o0_0_S16x4) (extractStridedSlice S16x4 ![0, 4] v slices_S16x8_o0_4_S16x4)
def p2 (v : FVec F S16x4 .f32) : FVec F S16x2 .f32 :=
  addf (extractStridedSlice S16x2 ![0, 0] v slices_S16x4_o0_0_S16x2) (extractStridedSlice S16x2 ![0, 2] v slices_S16x4_o0_2_S16x2)
def p1 (v : FVec F S16x2 .f32) : FVec F S16x1 .f32 :=
  addf (extractStridedSlice S16x1 ![0, 0] v slices_S16x2_o0_0_S16x1) (extractStridedSlice S16x1 ![0, 1] v slices_S16x2_o0_1_S16x1)

theorem p8_eq (v : FVec F S16x128 .f32) : p8 v = t8 v := by
  funext j; simp only [p8, addf, sl_8]; rfl
theorem p4_eq (v : FVec F S16x8 .f32) : p4 v = t4 v := by
  funext j; simp only [p4, addf, sl_4]; rfl
theorem p2_eq (v : FVec F S16x4 .f32) : p2 v = t2 v := by
  funext j; simp only [p2, addf, sl_2]; rfl
theorem p1_eq (v : FVec F S16x2 .f32) : p1 v = t1 v := by
  funext j; simp only [p1, addf, sl_1]; rfl

/-! ## Call 0: the printed payloads, composed -/

def la0 : FVec F S16x8192 .f32 := k0_pay17 (k0_pay9 a xp x) (k0_pay11 w) k0_pay15 (k0_pay16 a xp x w)
def lb0 : FVec F S16x8192 .f32 := k0_pay18 (k0_pay9 a xp x) (k0_pay12 w) k0_pay15 (k0_pay16 a xp x w)
def lc0 : FVec F S16x8192 .f32 := k0_pay19 (k0_pay9 a xp x) (k0_pay13 w) k0_pay15 (k0_pay16 a xp x w)
def ld0 : FVec F S16x8192 .f32 := k0_pay20 (k0_pay9 a xp x) (k0_pay14 w) k0_pay15 (k0_pay16 a xp x w)
def idx0 : IVec S16x8192 32 := k0_pay21 (la0 x xp a w) (lb0 x xp a w) (lc0 x xp a w) (ld0 x xp a w) g
def lf0 : FVec F S16x8192 .f32 := k0_pay27 (lb0 x xp a w) (lc0 x xp a w) (ld0 x xp a w) (idx0 x xp a w g) (k0_pay22 n)
  (k0_pay23 (la0 x xp a w) (lb0 x xp a w) (lc0 x xp a w) (ld0 x xp a w)) (k0_pay24 (la0 x xp a w) (lb0 x xp a w) (lc0 x xp a w) (ld0 x xp a w))
  (k0_pay25 (la0 x xp a w) (lb0 x xp a w) (lc0 x xp a w) (ld0 x xp a w)) k0_pay26
def accF0 (s : FVec F S16x128 .f32) : FVec F S16x128 .f32 := k0_pay30 (lf0 n x xp a w g) (k0_pay29 (lf0 n x xp a w g)
  (k0_pay28 (lb0 x xp a w) (lc0 x xp a w) (ld0 x xp a w) (idx0 x xp a w g) (k0_pay22 n)
  (k0_pay23 (la0 x xp a w) (lb0 x xp a w) (lc0 x xp a w) (ld0 x xp a w)) (k0_pay24 (la0 x xp a w) (lb0 x xp a w) (lc0 x xp a w) (ld0 x xp a w))
  (k0_pay25 (la0 x xp a w) (lb0 x xp a w) (lc0 x xp a w) (ld0 x xp a w)) k0_pay26 s))
def hr0 : FVec F S1x8192 .f32 := k0_pay32 (k0_pay11 w) (k0_pay12 w) (k0_pay13 w) (k0_pay14 w) (idx0 x xp a w g)
def ra0 : FVec F S16x8192 .f32 := k0_pay36 (k0_pay33 (k0_pay11 w) (k0_pay12 w) (k0_pay13 w) (k0_pay14 w) (idx0 x xp a w g)) (k0_pay34 k0_pay15 (idx0 x xp a w g)) offB k0_pay35
def rb0 : FVec F S16x8192 .f32 := k0_pay37 (k0_pay12 w) k0_pay15 (k0_pay31 (idx0 x xp a w g)) (hr0 x xp a w g)
def rc0 : FVec F S16x8192 .f32 := k0_pay38 (k0_pay13 w) k0_pay15 (k0_pay31 (idx0 x xp a w g)) (hr0 x xp a w g)
def rd0 : FVec F S16x8192 .f32 := k0_pay39 (k0_pay14 w) k0_pay15 (k0_pay31 (idx0 x xp a w g)) (hr0 x xp a w g)
def rm0 : FVec F S16x8192 .f32 := k0_pay40 (k0_pay12 w) (k0_pay13 w) (k0_pay14 w) k0_pay15 (k0_pay31 (idx0 x xp a w g)) (hr0 x xp a w g)
  (k0_pay33 (k0_pay11 w) (k0_pay12 w) (k0_pay13 w) (k0_pay14 w) (idx0 x xp a w g)) (k0_pay34 k0_pay15 (idx0 x xp a w g)) offB k0_pay35
def rl0 : FVec F S16x8192 .f32 := k0_pay41 (k0_pay12 w) (k0_pay13 w) (k0_pay14 w) k0_pay15 (k0_pay31 (idx0 x xp a w g)) (hr0 x xp a w g)
  (k0_pay33 (k0_pay11 w) (k0_pay12 w) (k0_pay13 w) (k0_pay14 w) (idx0 x xp a w g)) (k0_pay34 k0_pay15 (idx0 x xp a w g)) offB k0_pay35
def lr0 : FVec F S16x8192 .f32 := k0_pay42 (k0_pay8 a xp x) (k0_pay22 n) (ra0 x xp a w g) (rb0 x xp a w g) (rc0 x xp a w g) (rd0 x xp a w g) (rm0 x xp a w g) (rl0 x xp a w g)
def accR0 (s : FVec F S16x128 .f32) : FVec F S16x128 .f32 := k0_pay1 (lr0 n x xp a w g) (k0_pay44 (lr0 n x xp a w g)
  (k0_pay43 (k0_pay8 a xp x) (k0_pay22 n) (ra0 x xp a w g) (rb0 x xp a w g) (rc0 x xp a w g) (rd0 x xp a w g) (rm0 x xp a w g) (rl0 x xp a w g) s))
def foldF0 (s : FVec F S16x128 .f32) : FVec F S16x1 .f32 := k0_pay3 s
def foldR0 (s : FVec F S16x128 .f32) : FVec F S16x1 .f32 := k0_pay2 s (k0_pay4 s) (k0_pay5 s)

/-! ## Call 1 -/

abbrev h36 : FVec F S1x8192 .f32 := k1_pay16 a xp x w
def la1 : FVec F S16x8192 .f32 := k1_pay19 (k1_pay9 a xp x) (k1_pay11 w) (k1_pay14 w) k1_pay15 (k1_pay16 a xp x w) (k1_pay17 a xp x)
def lb1 : FVec F S16x8192 .f32 := k1_pay20 (k1_pay9 a xp x) (k1_pay12 w) (k1_pay14 w) k1_pay15 (k1_pay16 a xp x w) (k1_pay17 a xp x)
def lc1 : FVec F S16x8192 .f32 := k1_pay21 (k1_pay9 a xp x) (k1_pay13 w) (k1_pay14 w) k1_pay15 (k1_pay16 a xp x w) (k1_pay17 a xp x)
def ld1 : FVec F S16x8192 .f32 := k1_pay22 (k1_pay9 a xp x) (k1_pay14 w) k1_pay15 (k1_pay16 a xp x w) (k1_pay17 a xp x)
def idx1 : IVec S16x8192 32 := k1_pay23 (la1 x xp a w) (lb1 x xp a w) (lc1 x xp a w) (ld1 x xp a w) g
def mm1 : FVec F S16x8192 .f32 := k1_pay25 (la1 x xp a w) (lb1 x xp a w) (lc1 x xp a w) (ld1 x xp a w)
def ls1 : FVec F S16x8192 .f32 := k1_pay26 (la1 x xp a w) (lb1 x xp a w) (lc1 x xp a w) (ld1 x xp a w)
def lz1 : FVec F S16x8192 .f32 := k1_pay27 (la1 x xp a w) (lb1 x xp a w) (lc1 x xp a w) (ld1 x xp a w)
def lf1 : FVec F S16x8192 .f32 := k1_pay28 (lb1 x xp a w) (lc1 x xp a w) (ld1 x xp a w) (idx1 x xp a w g) (k1_pay24 n) (mm1 x xp a w) (ls1 x xp a w) (lz1 x xp a w) 1#32
def accF1 (s : FVec F S16x128 .f32) : FVec F S16x128 .f32 := k1_pay33 (lf1 n x xp a w g)
  (k1_pay31 (lf1 n x xp a w g)
    (k1_pay29 (lb1 x xp a w) (lc1 x xp a w) (ld1 x xp a w) (idx1 x xp a w g) (k1_pay24 n) (mm1 x xp a w) (ls1 x xp a w) (lz1 x xp a w) 1#32 s)
    (k1_pay30 (lb1 x xp a w) (lc1 x xp a w) (ld1 x xp a w) (idx1 x xp a w g) (k1_pay24 n) (mm1 x xp a w) (ls1 x xp a w) (lz1 x xp a w) 1#32))
  (k1_pay32 (lf1 n x xp a w g))
def hr1 : FVec F S1x8192 .f32 := k1_pay35 (k1_pay11 w) (k1_pay12 w) (k1_pay13 w) (k1_pay14 w) (idx1 x xp a w g)
def ra1 : FVec F S16x8192 .f32 := k1_pay38 (k1_pay36 (k1_pay11 w) (k1_pay12 w) (k1_pay13 w) (k1_pay14 w) (idx1 x xp a w g)) (k1_pay37 k1_pay15 (idx1 x xp a w g)) zf offB
def rb1 : FVec F S16x8192 .f32 := k1_pay39 (k1_pay12 w) k1_pay15 (k1_pay34 (idx1 x xp a w g)) (hr1 x xp a w g)
def rc1 : FVec F S16x8192 .f32 := k1_pay40 (k1_pay13 w) k1_pay15 (k1_pay34 (idx1 x xp a w g)) (hr1 x xp a w g)
def rd1 : FVec F S16x8192 .f32 := k1_pay41 (k1_pay14 w) k1_pay15 (k1_pay34 (idx1 x xp a w g)) (hr1 x xp a w g)
def rm1 : FVec F S16x8192 .f32 := k1_pay42 (k1_pay12 w) (k1_pay13 w) (k1_pay14 w) k1_pay15 (k1_pay34 (idx1 x xp a w g)) (hr1 x xp a w g)
  (k1_pay36 (k1_pay11 w) (k1_pay12 w) (k1_pay13 w) (k1_pay14 w) (idx1 x xp a w g)) (k1_pay37 k1_pay15 (idx1 x xp a w g)) zf offB
def rl1 : FVec F S16x8192 .f32 := k1_pay43 (k1_pay12 w) (k1_pay13 w) (k1_pay14 w) k1_pay15 (k1_pay34 (idx1 x xp a w g)) (hr1 x xp a w g)
  (k1_pay36 (k1_pay11 w) (k1_pay12 w) (k1_pay13 w) (k1_pay14 w) (idx1 x xp a w g)) (k1_pay37 k1_pay15 (idx1 x xp a w g)) zf offB
def lr1 : FVec F S16x8192 .f32 := k1_pay44 (k1_pay8 a xp x) (k1_pay24 n) (ra1 x xp a w g) (rb1 x xp a w g) (rc1 x xp a w g) (rd1 x xp a w g) (rm1 x xp a w g) (rl1 x xp a w g)
def accR1 (s : FVec F S16x128 .f32) : FVec F S16x128 .f32 := k1_pay1 (lr1 n x xp a w g)
  (k1_pay47 (lr1 n x xp a w g)
    (k1_pay45 (k1_pay8 a xp x) (k1_pay24 n) (ra1 x xp a w g) (rb1 x xp a w g) (rc1 x xp a w g) (rd1 x xp a w g) (rm1 x xp a w g) (rl1 x xp a w g) s)
    (k1_pay46 (k1_pay8 a xp x) (k1_pay24 n) (ra1 x xp a w g) (rb1 x xp a w g) (rc1 x xp a w g) (rd1 x xp a w g) (rm1 x xp a w g) (rl1 x xp a w g)))
  (k1_pay48 (lr1 n x xp a w g))
def foldF1 (s : FVec F S16x128 .f32) : FVec F S16x1 .f32 := k1_pay3 s
def foldR1 (s : FVec F S16x128 .f32) : FVec F S16x1 .f32 := k1_pay2 s (k1_pay4 s) (k1_pay5 s)

/-! ## Call 0: the payloads are the pixel functions -/

theorem z_eq0 : k0_pay15 = fun j => zrow (j 0) := by
  funext j
  unfold k0_pay15
  simp only [cmpi]
  rw [iota0]
  rfl

theorem v_eq0 : k0_pay22 n = fun j => validV n (j 1) := by
  funext j
  unfold k0_pay22
  simp only [cmpi, addi]
  rw [iota1]
  rfl

theorem xc_eq0 : k0_pay8 a xp x = xcV x xp a := by
  funext j
  simp only [k0_pay8, shapeCast_self, select, bc_col, cmpf]
  rfl

theorem la_eq0 : la0 x xp a w = fun j => LA x xp a w j 0 := by
  funext j
  simp only [la0, k0_pay17, k0_pay9, k0_pay11, k0_pay12, k0_pay13, k0_pay14, k0_pay16, k0_pay10, k0_pay8, shapeCast_self, select, subf, mulf, andi, cmpi, bc_row, bc_col, sl_row0, z_eq0, sl_w, cmpf]
  rfl

theorem lb_eq0 : lb0 x xp a w = fun j => LA x xp a w j 1 := by
  funext j
  simp only [lb0, k0_pay18, k0_pay9, k0_pay11, k0_pay12, k0_pay13, k0_pay14, k0_pay16, k0_pay10, k0_pay8, shapeCast_self, select, subf, mulf, andi, cmpi, bc_row, bc_col, sl_row0, z_eq0, sl_w, cmpf]
  rfl

theorem lc_eq0 : lc0 x xp a w = fun j => LA x xp a w j 2 := by
  funext j
  simp only [lc0, k0_pay19, k0_pay9, k0_pay11, k0_pay12, k0_pay13, k0_pay14, k0_pay16, k0_pay10, k0_pay8, shapeCast_self, select, subf, mulf, andi, cmpi, bc_row, bc_col, sl_row0, z_eq0, sl_w, cmpf]
  rfl

theorem ld_eq0 : ld0 x xp a w = fun j => LA x xp a w j 3 := by
  funext j
  simp only [ld0, k0_pay20, k0_pay9, k0_pay11, k0_pay12, k0_pay13, k0_pay14, k0_pay16, k0_pay10, k0_pay8, shapeCast_self, select, subf, mulf, andi, cmpi, bc_row, bc_col, sl_row0, z_eq0, sl_w, cmpf]
  rfl

theorem idx_eq0 : idx0 x xp a w g = idxV x xp a w g := by
  funext j
  simp only [idx0, la_eq0, lb_eq0, lc_eq0, ld_eq0, k0_pay21, shapeCast_self, select, addf, cmpf, sl_g]
  rfl

theorem lf_eq0 : lf0 n x xp a w g = lfV n x xp a w g := by
  funext j
  simp only [lf0, la_eq0, lb_eq0, lc_eq0, ld_eq0, idx_eq0, k0_pay27, k0_pay26, k0_pay25, k0_pay24, k0_pay23, v_eq0, select, addf, subf, cmpi]
  rfl

theorem ra_eq0 : ra0 x xp a w g = fun j => LB x xp a w g j 0 := by
  funext j
  simp only [ra0, hr0, k0_pay36, k0_pay37, k0_pay38, k0_pay39, k0_pay31, k0_pay32, k0_pay33, k0_pay34, k0_pay35, k0_pay9, k0_pay11, k0_pay12, k0_pay13, k0_pay14, k0_pay16, k0_pay10, k0_pay8, idx_eq0, shapeCast_self, select, subf, mulf, andi, cmpi, bc_row, sl_row0, z_eq0, sl_w]
  rfl

theorem rb_eq0 : rb0 x xp a w g = fun j => LB x xp a w g j 1 := by
  funext j
  simp only [rb0, hr0, k0_pay36, k0_pay37, k0_pay38, k0_pay39, k0_pay31, k0_pay32, k0_pay33, k0_pay34, k0_pay35, k0_pay9, k0_pay11, k0_pay12, k0_pay13, k0_pay14, k0_pay16, k0_pay10, k0_pay8, idx_eq0, shapeCast_self, select, subf, mulf, andi, cmpi, bc_row, sl_row0, z_eq0, sl_w]
  rfl

theorem rc_eq0 : rc0 x xp a w g = fun j => LB x xp a w g j 2 := by
  funext j
  simp only [rc0, hr0, k0_pay36, k0_pay37, k0_pay38, k0_pay39, k0_pay31, k0_pay32, k0_pay33, k0_pay34, k0_pay35, k0_pay9, k0_pay11, k0_pay12, k0_pay13, k0_pay14, k0_pay16, k0_pay10, k0_pay8, idx_eq0, shapeCast_self, select, subf, mulf, andi, cmpi, bc_row, sl_row0, z_eq0, sl_w]
  rfl

theorem rd_eq0 : rd0 x xp a w g = fun j => LB x xp a w g j 3 := by
  funext j
  simp only [rd0, hr0, k0_pay36, k0_pay37, k0_pay38, k0_pay39, k0_pay31, k0_pay32, k0_pay33, k0_pay34, k0_pay35, k0_pay9, k0_pay11, k0_pay12, k0_pay13, k0_pay14, k0_pay16, k0_pay10, k0_pay8, idx_eq0, shapeCast_self, select, subf, mulf, andi, cmpi, bc_row, sl_row0, z_eq0, sl_w]
  rfl

theorem rm_eq0 : rm0 x xp a w g = fun j => mx (LB x xp a w g j) := by
  have e : rm0 x xp a w g = maximumf (maximumf (ra0 x xp a w g) (rb0 x xp a w g)) (maximumf (rc0 x xp a w g) (rd0 x xp a w g)) := rfl
  rw [e, ra_eq0, rb_eq0, rc_eq0, rd_eq0]
  rfl

theorem rl_eq0 : (rl0 x xp a w g) = fun j => lse (LB x xp a w g j) := by
  have e : (rl0 x xp a w g) = log (addf (addf (addf (exp (subf (ra0 x xp a w g) (rm0 x xp a w g))) (exp (subf (rb0 x xp a w g) (rm0 x xp a w g))))
      (exp (subf (rc0 x xp a w g) (rm0 x xp a w g)))) (exp (subf (rd0 x xp a w g) (rm0 x xp a w g)))) := rfl
  rw [e, rm_eq0, ra_eq0, rb_eq0, rc_eq0, rd_eq0]
  rfl

theorem lr_eq0 : lr0 n x xp a w g = lrV n x xp a w g := by
  funext j
  unfold lr0 k0_pay42
  simp only [rl_eq0, v_eq0]
  simp only [ra_eq0, rb_eq0, rc_eq0, rd_eq0, rm_eq0, xc_eq0, select, addf, subf, cmpi]
  rfl

theorem accF_eq0 (s : FVec F S16x128 .f32) : accF0 n x xp a w g s = accV (lfV n x xp a w g) s := by
  rw [← lf_eq0]
  funext j
  simp only [accF0, k0_pay28, k0_pay29, k0_pay30, addf, shapeCast_self, sl_t]
  rfl

theorem accR_eq0 (s : FVec F S16x128 .f32) : accR0 n x xp a w g s = accV (lrV n x xp a w g) s := by
  rw [← lr_eq0]
  funext j
  simp (config := {maxSteps := 1000000}) only [accR0, k0_pay43, k0_pay44, k0_pay1, addf, shapeCast_self, sl_t]
  rfl

theorem foldF_eq0 (s : FVec F S16x128 .f32) : foldF0 s = foldV s := by
  have e : foldF0 s = p1 (p2 (p4 (p8 s))) := rfl
  rw [e, p8_eq, p4_eq, p2_eq, p1_eq, t_fold]

theorem foldR_eq0 (s : FVec F S16x128 .f32) : foldR0 s = foldV s := by
  have e : foldR0 s = foldF0 s := rfl
  rw [e, foldF_eq0]

theorem zF0 : (k0_pay6 : FVec F S16x128 .f32) = zeroV := by unfold k0_pay6; simp only [shapeCast_self]; rfl
theorem zR0 : (k0_pay7 : FVec F S16x128 .f32) = zeroV := by unfold k0_pay7; simp only [shapeCast_self]; rfl

/-! ## Call 1: the payloads are the pixel functions -/

theorem z_eq1 : k1_pay15 = fun j => zrow (j 0) := by
  funext j
  unfold k1_pay15
  simp only [cmpi]
  rw [iota0]
  rfl

theorem v_eq1 : k1_pay24 n = fun j => validV n (j 1) := by
  funext j
  unfold k1_pay24
  simp only [cmpi, addi]
  rw [iota1]
  rfl

theorem xc_eq1 : k1_pay8 a xp x = xcV x xp a := by
  funext j
  simp only [k1_pay8, shapeCast_self, select, bc_col, cmpf]
  rfl

theorem la_eq1 : la1 x xp a w = fun j => LA x xp a w j 0 := by
  funext j
  simp only [la1, k1_pay19, k1_pay9, k1_pay11, k1_pay12, k1_pay13, k1_pay14, k1_pay16, k1_pay10, k1_pay8, k1_pay17, k1_pay18, shapeCast_self, select, subf, mulf, andi, cmpi, bc_row, bc_col, sl_row0, z_eq1, sl_w, cmpf]
  rfl

theorem lb_eq1 : lb1 x xp a w = fun j => LA x xp a w j 1 := by
  funext j
  simp only [lb1, k1_pay20, k1_pay9, k1_pay11, k1_pay12, k1_pay13, k1_pay14, k1_pay16, k1_pay10, k1_pay8, k1_pay17, k1_pay18, shapeCast_self, select, subf, mulf, andi, cmpi, bc_row, bc_col, sl_row0, z_eq1, sl_w, cmpf]
  rfl

theorem lc_eq1 : lc1 x xp a w = fun j => LA x xp a w j 2 := by
  funext j
  simp only [lc1, k1_pay21, k1_pay9, k1_pay11, k1_pay12, k1_pay13, k1_pay14, k1_pay16, k1_pay10, k1_pay8, k1_pay17, k1_pay18, shapeCast_self, select, subf, mulf, andi, cmpi, bc_row, bc_col, sl_row0, z_eq1, sl_w, cmpf]
  rfl

theorem ld_eq1 : ld1 x xp a w = fun j => LA x xp a w j 3 := by
  funext j
  simp only [ld1, k1_pay22, k1_pay9, k1_pay11, k1_pay12, k1_pay13, k1_pay14, k1_pay16, k1_pay10, k1_pay8, k1_pay17, k1_pay18, shapeCast_self, select, subf, mulf, andi, cmpi, bc_row, bc_col, sl_row0, z_eq1, sl_w, cmpf]
  rfl

theorem idx_eq1 : idx1 x xp a w g = idxV x xp a w g := by
  funext j
  simp only [idx1, la_eq1, lb_eq1, lc_eq1, ld_eq1, k1_pay23, shapeCast_self, select, addf, cmpf, sl_g]
  rfl

theorem lf_eq1 : lf1 n x xp a w g = lfV n x xp a w g := by
  funext j
  simp only [lf1, mm1, ls1, lz1, la_eq1, lb_eq1, lc_eq1, ld_eq1, idx_eq1, k1_pay28, k1_pay27, k1_pay26, k1_pay25, v_eq1, select, addf, subf, cmpi]
  rfl

theorem ra_eq1 : ra1 x xp a w g = fun j => LB x xp a w g j 0 := by
  funext j
  simp only [ra1, hr1, k1_pay38, k1_pay39, k1_pay40, k1_pay41, k1_pay34, k1_pay35, k1_pay36, k1_pay37, k1_pay9, k1_pay11, k1_pay12, k1_pay13, k1_pay14, k1_pay16, k1_pay10, k1_pay8, k1_pay17, k1_pay18, idx_eq1, shapeCast_self, select, subf, mulf, andi, cmpi, bc_row, sl_row0, z_eq1, sl_w]
  rfl

theorem rb_eq1 : rb1 x xp a w g = fun j => LB x xp a w g j 1 := by
  funext j
  simp only [rb1, hr1, k1_pay38, k1_pay39, k1_pay40, k1_pay41, k1_pay34, k1_pay35, k1_pay36, k1_pay37, k1_pay9, k1_pay11, k1_pay12, k1_pay13, k1_pay14, k1_pay16, k1_pay10, k1_pay8, k1_pay17, k1_pay18, idx_eq1, shapeCast_self, select, subf, mulf, andi, cmpi, bc_row, sl_row0, z_eq1, sl_w]
  rfl

theorem rc_eq1 : rc1 x xp a w g = fun j => LB x xp a w g j 2 := by
  funext j
  simp only [rc1, hr1, k1_pay38, k1_pay39, k1_pay40, k1_pay41, k1_pay34, k1_pay35, k1_pay36, k1_pay37, k1_pay9, k1_pay11, k1_pay12, k1_pay13, k1_pay14, k1_pay16, k1_pay10, k1_pay8, k1_pay17, k1_pay18, idx_eq1, shapeCast_self, select, subf, mulf, andi, cmpi, bc_row, sl_row0, z_eq1, sl_w]
  rfl

theorem rd_eq1 : rd1 x xp a w g = fun j => LB x xp a w g j 3 := by
  funext j
  simp only [rd1, hr1, k1_pay38, k1_pay39, k1_pay40, k1_pay41, k1_pay34, k1_pay35, k1_pay36, k1_pay37, k1_pay9, k1_pay11, k1_pay12, k1_pay13, k1_pay14, k1_pay16, k1_pay10, k1_pay8, k1_pay17, k1_pay18, idx_eq1, shapeCast_self, select, subf, mulf, andi, cmpi, bc_row, sl_row0, z_eq1, sl_w]
  rfl

theorem rm_eq1 : rm1 x xp a w g = fun j => mx (LB x xp a w g j) := by
  have e : rm1 x xp a w g = maximumf (maximumf (ra1 x xp a w g) (rb1 x xp a w g)) (maximumf (rc1 x xp a w g) (rd1 x xp a w g)) := rfl
  rw [e, ra_eq1, rb_eq1, rc_eq1, rd_eq1]
  rfl

theorem rl_eq1 : log (rl1 x xp a w g) = fun j => lse (LB x xp a w g j) := by
  have e : log (rl1 x xp a w g) = log (addf (addf (addf (exp (subf (ra1 x xp a w g) (rm1 x xp a w g))) (exp (subf (rb1 x xp a w g) (rm1 x xp a w g))))
      (exp (subf (rc1 x xp a w g) (rm1 x xp a w g)))) (exp (subf (rd1 x xp a w g) (rm1 x xp a w g)))) := rfl
  rw [e, rm_eq1, ra_eq1, rb_eq1, rc_eq1, rd_eq1]
  rfl

theorem lr_eq1 : lr1 n x xp a w g = lrV n x xp a w g := by
  funext j
  unfold lr1 k1_pay44
  simp only [rl_eq1, v_eq1]
  simp only [ra_eq1, rb_eq1, rc_eq1, rd_eq1, rm_eq1, xc_eq1, select, addf, subf, cmpi]
  rfl

theorem accF_eq1 (s : FVec F S16x128 .f32) : accF1 n x xp a w g s = accV (lfV n x xp a w g) s := by
  rw [← lf_eq1]
  funext j
  simp only [accF1, k1_pay29, k1_pay30, k1_pay31, k1_pay32, k1_pay33, addf, shapeCast_self, sl_t]
  rfl

theorem accR_eq1 (s : FVec F S16x128 .f32) : accR1 n x xp a w g s = accV (lrV n x xp a w g) s := by
  rw [← lr_eq1]
  funext j
  simp (config := {maxSteps := 1000000}) only [accR1, k1_pay45, k1_pay46, k1_pay47, k1_pay48, k1_pay1, addf, shapeCast_self, sl_t]
  rfl

theorem foldF_eq1 (s : FVec F S16x128 .f32) : foldF1 s = foldV s := by
  have e : foldF1 s = p1 (p2 (p4 (p8 s))) := rfl
  rw [e, p8_eq, p4_eq, p2_eq, p1_eq, t_fold]

theorem foldR_eq1 (s : FVec F S16x128 .f32) : foldR1 s = foldV s := by
  have e : foldR1 s = foldF1 s := rfl
  rw [e, foldF_eq1]

theorem zF1 : (k1_pay6 : FVec F S16x128 .f32) = zeroV := by unfold k1_pay6; simp only [shapeCast_self]; rfl
theorem zR1 : (k1_pay7 : FVec F S16x128 .f32) = zeroV := by unfold k1_pay7; simp only [shapeCast_self]; rfl

end Cert.KernelIdeal.Own

end
-- ==== Proof.Arr.lean ====
module

public import proofs.«01_k».proof.Proof.Spec

@[expose] public section

noncomputable section

namespace Cert.KernelIdeal.Own

open Cert.KernelIdeal Cert.KernelIdeal.Gen
open Idealize.ShloMosaic

variable {F : FTy → Type} [FloatOps F]

/-! ## One pixel, as a function of the whole arrays -/

variable (X XP : IVec S16x100000 32) (a : FVec F S16x1 .f32) (W : FVec F S8x100000 .f32) (G : FVec F S4x16x100000 .f32)

/-- The current class word at a pixel. -/
def XCw (i : S16x100000.Idx) : BitVec 32 := xcS (a (ix2 (i 0 : Fin 16) (0 : Fin 1))) (XP i) (X i)

/-- The four weights of a column. -/
def wcw (d : Fin 100000) : Fin 4 → F .f32 := fun c => W (ix2 (⟨c.val, by omega⟩ : Fin 8) d)

/-- The forward logits at a pixel. -/
def LAw (i : S16x100000.Idx) : Fin 4 → F .f32 := lg offA (zrow (i 0)) (XCw X XP a (ix2 (0 : Fin 16) (i 1 : Fin 100000))) (wcw W (i 1))

/-- The proposed class at a pixel. -/
def IDXw : IVec S16x100000 32 := fun i => am fun c => FloatOps.addf (LAw X XP a W i c) (G (ix3 c (i 0 : Fin 16) (i 1 : Fin 100000)))

/-- The reverse logits at a pixel. -/
def LBw (i : S16x100000.Idx) : Fin 4 → F .f32 := lg offB (zrow (i 0)) (IDXw X XP a W G (ix2 (0 : Fin 16) (i 1 : Fin 100000))) (wcw W (i 1))

/-- The log-probability of the proposed class at a pixel. -/
def LFw : FVec F S16x100000 .f32 := fun i => gat (LAw X XP a W i) (IDXw X XP a W G i)

/-- The log-probability of the way back at a pixel. -/
def LRw : FVec F S16x100000 .f32 := fun i => gat (LBw X XP a W G i) (XCw X XP a i)

/-! ## Blocks of 8192 columns -/

/-- Block `n` of an array's columns, filled out past the array's end with `d`. -/
def fb {α : Type} {b : Nat} (A : (⟨2, ![b, 100000]⟩ : Shape).Idx → α) (d : (⟨2, ![b, 8192]⟩ : Shape).Idx → α) (n : Nat) :
    (⟨2, ![b, 8192]⟩ : Shape).Idx → α :=
  fun j => if h : n * 8192 + (j 1).val < 100000 then A (ix2 (j 0 : Fin b) (⟨_, h⟩ : Fin 100000)) else d j

/-- The same of a stack of arrays. -/
def fb3 {α : Type} (A : S4x16x100000.Idx → α) (d : S4x16x8192.Idx → α) (n : Nat) : S4x16x8192.Idx → α :=
  fun j => if h : n * 8192 + (j 2).val < 100000 then A (ix3 (j 0 : Fin 4) (j 1 : Fin 16) (⟨_, h⟩ : Fin 100000)) else d j

theorem fb_pos {α : Type} {b : Nat} (A : (⟨2, ![b, 100000]⟩ : Shape).Idx → α) (d : (⟨2, ![b, 8192]⟩ : Shape).Idx → α) (n : Nat)
    (r : Fin b) (l : Fin 8192) (h : n * 8192 + l.val < 100000) : fb A d n (ix2 r l) = A (ix2 r ⟨_, h⟩) := dif_pos h

theorem fb3_pos {α : Type} (A : S4x16x100000.Idx → α) (d : S4x16x8192.Idx → α) (n : Nat)
    (c : Fin 4) (r : Fin 16) (l : Fin 8192) (h : n * 8192 + l.val < 100000) : fb3 A d n (ix3 c r l) = A (ix3 c r ⟨_, h⟩) := dif_pos h

theorem fb_neg {α : Type} {b : Nat} (A : (⟨2, ![b, 100000]⟩ : Shape).Idx → α) (d : (⟨2, ![b, 8192]⟩ : Shape).Idx → α) (n : Nat)
    (j : (⟨2, ![b, 8192]⟩ : Shape).Idx) (h : ¬ n * 8192 + (j 1).val < 100000) : fb A d n j = d j := dif_neg h

theorem fb3_neg {α : Type} (A : S4x16x100000.Idx → α) (d : S4x16x8192.Idx → α) (n : Nat)
    (j : S4x16x8192.Idx) (h : ¬ n * 8192 + (j 2).val < 100000) : fb3 A d n j = d j := dif_neg h

/-- Block `n` of a log-probability array, zero past the array's end. -/
def blkF (L : FVec F S16x100000 .f32) (n : Nat) : FVec F S16x8192 .f32 := fb (b := 16) L (fun _ => zf) n

/-- The accumulator after `n` blocks. -/
def ACC (L : FVec F S16x100000 .f32) : Nat → FVec F S16x128 .f32
  | 0 => zeroV
  | n + 1 => accV (blkF L n) (ACC L n)

theorem valid_iff (n : Nat) (hn : n < 13) (l : Fin 8192) :
    validV (BitVec.ofNat 32 n) l = 1#1 ↔ n * 8192 + l.val < 100000 := by
  have hl := l.isLt
  have hv : (IntOp.addi (IntOp.muli (BitVec.ofNat 32 n) 8192#32) (BitVec.ofNat 32 l.val)) = BitVec.ofNat 32 (n * 8192 + l.val) := by
    apply BitVec.eq_of_toNat_eq
    simp only [IntOp.addi, IntOp.muli, BitVec.toNat_add, BitVec.toNat_mul, BitVec.toNat_ofNat]
    omega
  unfold validV
  rw [hv]
  have hs : (BitVec.ofNat 32 (n * 8192 + l.val)).slt 100000#32 = decide (n * 8192 + l.val < 100000) := by
    rw [BitVec.slt]
    have h1 : (BitVec.ofNat 32 (n * 8192 + l.val)).toInt = ((n * 8192 + l.val : Nat) : Int) := by
      rw [BitVec.toInt_eq_toNat_cond, BitVec.toNat_ofNat, Nat.mod_eq_of_lt (by omega), if_pos (by omega)]
    rw [h1]
    have h2 : (100000#32 : BitVec 32).toInt = 100000 := by decide
    rw [h2]
    exact decide_eq_decide.mpr (by omega)
  show BitVec.ofBool ((BitVec.ofNat 32 (n * 8192 + l.val)).slt 100000#32) = 1#1 ↔ _
  rw [hs]
  by_cases h : n * 8192 + l.val < 100000 <;> simp [h]

variable (n : Nat) (dX dXP : S16x8192.Idx → BitVec 32) (dW : S8x8192.Idx → F .f32) (dG : S4x16x8192.Idx → F .f32)

/-- A block's columns inside the array do not depend on what fills it out. -/
theorem LA_fb (r : Fin 16) (l : Fin 8192) (h : n * 8192 + l.val < 100000) :
    LA (fb (b := 16) X dX n) (fb (b := 16) XP dXP n) a (fb (b := 8) W dW n) (ix2 r l) = LAw X XP a W (ix2 r ⟨_, h⟩) := by
  have e1 : xcV (fb (b := 16) X dX n) (fb (b := 16) XP dXP n) a (ix2 (0 : Fin 16) l) = XCw X XP a (ix2 (0 : Fin 16) ⟨_, h⟩) :=
    congrArg₂ (xcS (a (ix2 (0 : Fin 16) (0 : Fin 1)))) (fb_pos (b := 16) XP dXP n 0 l h) (fb_pos (b := 16) X dX n 0 l h)
  have e2 : wcol (fb (b := 8) W dW n) l = wcw W ⟨_, h⟩ := funext fun c => fb_pos (b := 8) W dW n _ l h
  exact congrArg₂ (lg offA (zrow r)) e1 e2

theorem idx_fb (r : Fin 16) (l : Fin 8192) (h : n * 8192 + l.val < 100000) :
    idxV (fb (b := 16) X dX n) (fb (b := 16) XP dXP n) a (fb (b := 8) W dW n) (fb3 G dG n) (ix2 r l) = IDXw X XP a W G (ix2 r ⟨_, h⟩) :=
  congrArg am (funext fun c => congrArg₂ FloatOps.addf (congrFun (LA_fb X XP a W n dX dXP dW r l h) c) (fb3_pos G dG n c r l h))

theorem LB_fb (r : Fin 16) (l : Fin 8192) (h : n * 8192 + l.val < 100000) :
    LB (fb (b := 16) X dX n) (fb (b := 16) XP dXP n) a (fb (b := 8) W dW n) (fb3 G dG n) (ix2 r l) = LBw X XP a W G (ix2 r ⟨_, h⟩) := by
  have e2 : wcol (fb (b := 8) W dW n) l = wcw W ⟨_, h⟩ := funext fun c => fb_pos (b := 8) W dW n _ l h
  exact congrArg₂ (lg offB (zrow r)) (idx_fb X XP a W G n dX dXP dW dG 0 l h) e2

theorem eq_ix2' {p q : Nat} (j : (⟨2, ![p, q]⟩ : Shape).Idx) : j = ix2 (j 0 : Fin p) (j 1 : Fin q) :=
  funext fun i => by fin_cases i <;> rfl

/-- The masked forward log-probabilities of a block are the array's. -/
theorem lf_fb (hn : n < 13) :
    lfV (BitVec.ofNat 32 n) (fb (b := 16) X dX n) (fb (b := 16) XP dXP n) a (fb (b := 8) W dW n) (fb3 G dG n) = blkF (LFw X XP a W G) n := by
  funext j
  obtain ⟨r, l, rfl⟩ : ∃ r l, j = ix2 r l := ⟨_, _, eq_ix2' j⟩
  by_cases h : n * 8192 + l.val < 100000
  · have hv := (valid_iff n hn l).mpr h
    refine Eq.trans ?_ (fb_pos (b := 16) (LFw X XP a W G) (fun _ => zf) n r l h).symm
    show Scalar.select (validV (BitVec.ofNat 32 n) l) _ _ = _
    rw [hv]
    exact congrArg₂ gat (LA_fb X XP a W n dX dXP dW r l h) (idx_fb X XP a W G n dX dXP dW dG r l h)
  · have hv : validV (BitVec.ofNat 32 n) l = 0#1 := by
      have := mt (valid_iff n hn l).mp h
      generalize validV (BitVec.ofNat 32 n) l = v at this
      revert this; revert v; decide
    refine Eq.trans ?_ (dif_neg h : fb (b := 16) (LFw X XP a W G) (fun _ => zf) n (ix2 r l) = zf).symm
    show Scalar.select (validV (BitVec.ofNat 32 n) l) _ _ = _
    rw [hv]; rfl

/-- The masked reverse log-probabilities of a block are the array's. -/
theorem lr_fb (hn : n < 13) :
    lrV (BitVec.ofNat 32 n) (fb (b := 16) X dX n) (fb (b := 16) XP dXP n) a (fb (b := 8) W dW n) (fb3 G dG n) = blkF (LRw X XP a W G) n := by
  funext j
  obtain ⟨r, l, rfl⟩ : ∃ r l, j = ix2 r l := ⟨_, _, eq_ix2' j⟩
  by_cases h : n * 8192 + l.val < 100000
  · have hv := (valid_iff n hn l).mpr h
    refine Eq.trans ?_ (fb_pos (b := 16) (LRw X XP a W G) (fun _ => zf) n r l h).symm
    show Scalar.select (validV (BitVec.ofNat 32 n) l) _ _ = _
    rw [hv]
    exact congrArg₂ gat (LB_fb X XP a W G n dX dXP dW dG r l h)
      (congrArg₂ (xcS (a (ix2 r (0 : Fin 1)))) (fb_pos (b := 16) XP dXP n r l h) (fb_pos (b := 16) X dX n r l h))
  · have hv : validV (BitVec.ofNat 32 n) l = 0#1 := by
      have := mt (valid_iff n hn l).mp h
      generalize validV (BitVec.ofNat 32 n) l = v at this
      revert this; revert v; decide
    refine Eq.trans ?_ (dif_neg h : fb (b := 16) (LRw X XP a W G) (fun _ => zf) n (ix2 r l) = zf).symm
    show Scalar.select (validV (BitVec.ofNat 32 n) l) _ _ = _
    rw [hv]; rfl

/-- The proposed classes of a block are the array's, on the columns inside it. -/
theorem idxV_fb :
    idxV (fb (b := 16) X dX n) (fb (b := 16) XP dXP n) a (fb (b := 8) W dW n) (fb3 G dG n)
      = fb (b := 16) (IDXw X XP a W G) (idxV (fb (b := 16) X dX n) (fb (b := 16) XP dXP n) a (fb (b := 8) W dW n) (fb3 G dG n)) n := by
  funext j
  obtain ⟨r, l, rfl⟩ : ∃ r l, j = ix2 r l := ⟨_, _, eq_ix2' j⟩
  by_cases h : n * 8192 + l.val < 100000
  · exact (idx_fb X XP a W G n dX dXP dW dG r l h).trans (fb_pos (b := 16) (IDXw X XP a W G) _ n r l h).symm
  · exact (dif_neg h : fb (b := 16) (IDXw X XP a W G) _ n (ix2 r l) = _).symm

/-- A pixel of the result: the last proposal that was taken. -/
def SELw (X XD0 : IVec S16x100000 32) (a0 : FVec F S16x1 .f32) (XD1 : IVec S16x100000 32) (a1 : FVec F S16x1 .f32) : IVec S16x100000 32 :=
  fun i => xcS (a1 (ix2 (i 0 : Fin 16) (0 : Fin 1))) (XD1 i) (XCw X XD0 a0 i)

end Cert.KernelIdeal.Own

end
-- ==== Proof.Math.lean ====
module

public import proofs.«01_k».proof.Proof.Arr
public import Idealize.ShloMosaic.PureOps.Ideal.Laws
public import Idealize.ShloMosaic.Lib.IdealHost

@[expose] public section

noncomputable section

namespace Cert.KernelIdeal.Own

open Cert.KernelIdeal Cert.KernelIdeal.Gen
open Idealize.ShloMosaic

/-! ## One pixel over the extended reals -/

/-- A word that is one of the four classes. -/
def cat (r : BitVec 32) : Prop := r = 0#32 ∨ r = 1#32 ∨ r = 2#32 ∨ r = 3#32

theorem zf_eq : (zf : Ideal .f32) = (0 : EReal) := Ideal.ofBits_zero_f32

/-- The bits of minus infinity. -/
theorem ninf_eq : Ideal.ofBits .f32 0xFF800000#32 = (⊥ : EReal) := by simp [Ideal.ofBits, Ideal.ieee]

/-- A masked sum over the classes takes the value at the class named. -/
theorem at_sum4 {r : BitVec 32} (hr : cat r) (v : Fin 4 → EReal) :
    (0 : EReal) + ∑ k : Fin 4, Scalar.select (IntOp.cmpi .eq r (BitVec.ofNat 32 k.val)) (v k) 0 = sel4 (F := Ideal) r v := by
  rw [Fin.sum_univ_four, zero_add]
  rcases hr with rfl | rfl | rfl | rfl
  · show v 0 + 0 + 0 + 0 = v 0
    simp only [add_zero]
  · show 0 + v 1 + 0 + 0 = v 1
    simp only [add_zero, zero_add]
  · show 0 + 0 + v 2 + 0 = v 2
    simp only [add_zero, zero_add]
  · show 0 + 0 + 0 + v 3 = v 3
    simp only [zero_add]

theorem at_sum_gat {r : BitVec 32} (hr : cat r) (L : Fin 4 → EReal) :
    (0 : EReal) + ∑ k : Fin 4, Scalar.select (IntOp.cmpi .eq r (BitVec.ofNat 32 k.val)) (lp (F := Ideal) L k) 0 = gat (F := Ideal) L r := by
  refine (at_sum4 hr _).trans ?_
  rcases hr with rfl | rfl | rfl | rfl <;> rfl

/-- A commutative fold over the four classes, written out. -/
theorem fold4 {α : Type} (op : α → α → α) [Std.Commutative op] [Std.Associative op] (b : α) (f : Fin 4 → α) :
    Finset.univ.fold op b f = op (f 0) (op (f 1) (op (f 2) (op (f 3) b))) := rfl

/-- The largest of four, however associated, and from minus infinity. -/
theorem mx_fold (L : Fin 4 → EReal) : max (L 0) (max (L 1) (max (L 2) (max (L 3) ⊥))) = mx (F := Ideal) L := by
  show _ = max (max (L 0) (L 1)) (max (L 2) (L 3))
  rw [max_bot_right, max_assoc]

theorem ogt_true {x y : EReal} (h : y < x) : FloatOps.cmpf (F := Ideal) (φ := .f32) .ogt x y = 1#1 := by
  show BitVec.ofBool (decide (y < x)) = 1#1
  rw [decide_eq_true h]; rfl
theorem ogt_false {x y : EReal} (h : ¬ y < x) : FloatOps.cmpf (F := Ideal) (φ := .f32) .ogt x y = 0#1 := by
  show BitVec.ofBool (decide (y < x)) = 0#1
  rw [decide_eq_false h]; rfl
theorem oeq_true {x y : EReal} (h : x = y) : FloatOps.cmpf (F := Ideal) (φ := .f32) .oeq x y = 1#1 := by
  show BitVec.ofBool (decide (x = y)) = 1#1
  rw [decide_eq_true h]; rfl
theorem oeq_false {x y : EReal} (h : ¬ x = y) : FloatOps.cmpf (F := Ideal) (φ := .f32) .oeq x y = 0#1 := by
  show BitVec.ofBool (decide (x = y)) = 0#1
  rw [decide_eq_false h]; rfl

theorem sel_t {α : Type} (a b : α) : Scalar.select 1#1 a b = a := rfl
theorem sel_f {α : Type} (a b : α) : Scalar.select 0#1 a b = b := rfl

/-- The index of a class where its score is the largest, else the number of classes. -/
def hitS (s : Fin 4 → EReal) (k : Fin 4) : BitVec 32 :=
  Scalar.select (FloatOps.cmpf (F := Ideal) (φ := .f32) .oeq (s k) (mx (F := Ideal) s)) (BitVec.ofNat 32 k.val) 4#32

theorem hit_cases (s : Fin 4 → EReal) (k : Fin 4) : hitS s k = BitVec.ofNat 32 k.val ∨ hitS s k = 4#32 := by
  by_cases h : s k = mx (F := Ideal) s
  · left; unfold hitS; rw [oeq_true h]; rfl
  · right; unfold hitS; rw [oeq_false h]; rfl

theorem hit_yes {s : Fin 4 → EReal} {k : Fin 4} (h : s k = mx (F := Ideal) s) : hitS s k = BitVec.ofNat 32 k.val := by
  unfold hitS; rw [oeq_true h]; rfl
theorem hit_no {s : Fin 4 → EReal} {k j : Fin 4} (h : s k < s j) : hitS s k = 4#32 := by
  unfold hitS
  rw [oeq_false]; · rfl
  intro e
  have : s j ≤ mx (F := Ideal) s := by
    show _ ≤ max (max (s 0) (s 1)) (max (s 2) (s 3))
    fin_cases j <;> simp
  exact absurd (e ▸ h) (not_lt.mpr this)

theorem mx_at {s : Fin 4 → EReal} {k : Fin 4} (h : ∀ j, s j ≤ s k) : s k = mx (F := Ideal) s := by
  show _ = max (max (s 0) (s 1)) (max (s 2) (s 3))
  apply le_antisymm
  · fin_cases k <;> simp
  · simp only [max_le_iff]; exact ⟨⟨h 0, h 1⟩, h 2, h 3⟩

/-- The four hits' least index. -/
def minHit (a b c d : BitVec 32) : BitVec 32 :=
  IntOp.minsi a (IntOp.minsi b (IntOp.minsi c (IntOp.minsi d 2147483647#32)))

/-- The least index of the largest score is what the chain of strict comparisons finds. -/
theorem am_eq (s : Fin 4 → EReal) : minHit (hitS s 0) (hitS s 1) (hitS s 2) (hitS s 3) = am (F := Ideal) s := by
  have c1 := hit_cases s 1; have c2 := hit_cases s 2; have c3 := hit_cases s 3
  unfold am
  by_cases h1 : s 0 < s 1
  · rw [ogt_true h1]
    simp only [sel_t]
    have n0 := hit_no h1
    by_cases h2 : s 1 < s 2
    · rw [ogt_true h2]
      simp only [sel_t]
      have n1 := hit_no h2
      by_cases h3 : s 2 < s 3
      · rw [ogt_true h3, sel_t, n0, n1, hit_no h3, hit_yes (mx_at (k := 3) (s := s) fun j => ?_)]
        · decide
        · fin_cases j
          · exact (h1.trans (h2.trans h3)).le
          · exact (h2.trans h3).le
          · exact h3.le
          · exact le_rfl
      · rw [ogt_false h3, sel_f, n0, n1, hit_yes (mx_at (k := 2) (s := s) fun j => ?_)]
        · rcases c3 with e | e <;> rw [e] <;> decide
        · fin_cases j
          · exact (h1.trans h2).le
          · exact h2.le
          · exact le_rfl
          · exact not_lt.mp h3
    · rw [ogt_false h2]
      simp only [sel_f]
      by_cases h3 : s 1 < s 3
      · rw [ogt_true h3, sel_t, n0, hit_no h3, hit_no (lt_of_le_of_lt (not_lt.mp h2) h3), hit_yes (mx_at (k := 3) (s := s) fun j => ?_)]
        · decide
        · fin_cases j
          · exact (h1.trans h3).le
          · exact h3.le
          · exact ((not_lt.mp h2).trans h3.le)
          · exact le_rfl
      · rw [ogt_false h3, sel_f, n0, hit_yes (mx_at (k := 1) (s := s) fun j => ?_)]
        · rcases c2 with e | e <;> rcases c3 with e' | e' <;> rw [e, e'] <;> decide
        · fin_cases j
          · exact h1.le
          · exact le_rfl
          · exact not_lt.mp h2
          · exact not_lt.mp h3
  · rw [ogt_false h1]
    simp only [sel_f]
    by_cases h2 : s 0 < s 2
    · rw [ogt_true h2]
      simp only [sel_t]
      have n1 : hitS s 1 = 4#32 := hit_no (lt_of_le_of_lt (not_lt.mp h1) h2)
      by_cases h3 : s 2 < s 3
      · rw [ogt_true h3, sel_t, hit_no h2, n1, hit_no h3, hit_yes (mx_at (k := 3) (s := s) fun j => ?_)]
        · decide
        · fin_cases j
          · exact (h2.trans h3).le
          · exact ((not_lt.mp h1).trans (h2.trans h3).le)
          · exact h3.le
          · exact le_rfl
      · rw [ogt_false h3, sel_f, hit_no h2, n1, hit_yes (mx_at (k := 2) (s := s) fun j => ?_)]
        · rcases c3 with e | e <;> rw [e] <;> decide
        · fin_cases j
          · exact h2.le
          · exact (not_lt.mp h1).trans h2.le
          · exact le_rfl
          · exact not_lt.mp h3
    · rw [ogt_false h2]
      simp only [sel_f]
      by_cases h3 : s 0 < s 3
      · rw [ogt_true h3, sel_t, hit_no h3, hit_no (lt_of_le_of_lt (not_lt.mp h1) h3), hit_no (lt_of_le_of_lt (not_lt.mp h2) h3),
          hit_yes (mx_at (k := 3) (s := s) fun j => ?_)]
        · decide
        · fin_cases j
          · exact h3.le
          · exact (not_lt.mp h1).trans h3.le
          · exact (not_lt.mp h2).trans h3.le
          · exact le_rfl
      · rw [ogt_false h3, sel_f, hit_yes (mx_at (k := 0) (s := s) fun j => ?_)]
        · rcases c1 with e1 | e1 <;> rcases c2 with e | e <;> rcases c3 with e' | e' <;> rw [e1, e, e'] <;> decide
        · fin_cases j
          · exact le_rfl
          · exact not_lt.mp h1
          · exact not_lt.mp h2
          · exact not_lt.mp h3

/-- The class found is one of the four. -/
theorem am_cat (s : Fin 4 → EReal) : cat (am (F := Ideal) s) := by
  unfold am
  have key : ∀ m1 m2 m3 : BitVec 1, cat (Scalar.select m3 3#32 (Scalar.select m2 2#32 (Scalar.select m1 1#32 0#32))) := by
    unfold cat; decide
  exact key _ _ _

/-- Mixing two class words with weights `a` and `1 - a`, where `a` is a truth value, and rounding to an integer selects one of them. -/
theorem mix_eq (p : BitVec 1) {d x : BitVec 32} (hd : cat d) (hx : cat x) :
    Ideal.fptosi 32 (((d.toInt : ℝ) : EReal) * ((p.toNat : ℝ) : EReal) + ((x.toInt : ℝ) : EReal) * ((1 : EReal) - ((p.toNat : ℝ) : EReal)))
      = xcS (F := Ideal) ((p.toNat : ℝ) : EReal) d x := by
  have hp : p = 0#1 ∨ p = 1#1 := by revert p; decide
  have conv : ∀ r : BitVec 32, cat r → Ideal.fptosi 32 ((r.toInt : ℝ) : EReal) = r := by
    intro r hr
    show BitVec.ofInt 32 (max _ (min _ (if (0 : ℝ) ≤ (r.toInt : ℝ) then ⌊(r.toInt : ℝ)⌋ else ⌈(r.toInt : ℝ)⌉))) = r
    rw [Int.floor_intCast, Int.ceil_intCast, ite_self]
    rcases hr with rfl | rfl | rfl | rfl <;> decide
  rcases hp with rfl | rfl
  · have e : ((((0#1 : BitVec 1).toNat : ℝ)) : EReal) = 0 := by simp
    rw [e, mul_zero, zero_add, sub_zero, mul_one, conv x hx]
    unfold xcS
    rw [zf_eq, ogt_false (lt_irrefl _)]; rfl
  · have e : ((((1#1 : BitVec 1).toNat : ℝ)) : EReal) = 1 := by simp
    have e' : (1 : EReal) - 1 = 0 := by
      rw [← EReal.coe_one, ← EReal.coe_sub, sub_self, EReal.coe_zero]
    rw [e, e', mul_zero, mul_one, add_zero, conv d hd]
    unfold xcS
    rw [zf_eq, ogt_true zero_lt_one]; rfl

/-! ## Sums in blocks -/

/-- A sum over a product's range, block by block. -/
theorem sum_blocks (n m : Nat) (f : Nat → EReal) :
    ∑ t ∈ Finset.range (n * m), f t = ∑ k ∈ Finset.range n, ∑ i ∈ Finset.range m, f (k * m + i) := by
  induction n with
  | zero => simp
  | succ n ih => rw [Nat.succ_mul, Finset.sum_range_add, ih, Finset.sum_range_succ]

theorem accN_sum (v : FVec Ideal S16x8192 .f32) (s : FVec Ideal S16x128 .f32) (j : S16x128.Idx) (k : Nat) :
    accN v s j k = (s j + ∑ q ∈ Finset.range k, at' (k := 8191) v (j 0 : Fin 16) (q * 128 + (j 1).val) : EReal) := by
  induction k with
  | zero => simp [accN]
  | succ k ih =>
    show (accN v s j k + at' (k := 8191) v (j 0 : Fin 16) (k * 128 + (j 1).val) : EReal) = _
    rw [ih, Finset.sum_range_succ, add_assoc]

theorem f8_sum (v : FVec Ideal S16x128 .f32) (b : Fin 16) (i k : Nat) :
    f8 v b i k = (∑ q ∈ Finset.range (k + 1), at' (k := 127) v b (q * 8 + i) : EReal) := by
  induction k with
  | zero => simp [f8]
  | succ k ih =>
    show (f8 v b i k + at' (k := 127) v b ((k + 1) * 8 + i) : EReal) = _
    rw [ih, Finset.sum_range_succ _ (k + 1)]

/-- The fold of an accumulator's row is its sum over the lanes. -/
theorem foldV_sum (v : FVec Ideal S16x128 .f32) (b : Fin 16) :
    foldV v (ix2 b (0 : Fin 1)) = (∑ t ∈ Finset.range 128, at' (k := 127) v b t : EReal) := by
  have e : (foldV v (ix2 b (0 : Fin 1)) : EReal) = ((f8 v b 0 15 + f8 v b (4 + 0) 15) + (f8 v b (2 + 0) 15 + f8 v b (4 + (2 + 0)) 15))
      + ((f8 v b 1 15 + f8 v b (4 + 1) 15) + (f8 v b (2 + 1) 15 + f8 v b (4 + (2 + 1)) 15) : EReal) := rfl
  rw [e, sum_blocks 16 8, Finset.sum_comm]
  simp only [f8_sum, Finset.sum_range_succ _ 7, Finset.sum_range_succ _ 6, Finset.sum_range_succ _ 5, Finset.sum_range_succ _ 4,
    Finset.sum_range_succ _ 3, Finset.sum_range_succ _ 2, Finset.sum_range_succ _ 1, Finset.sum_range_succ _ 0, Finset.sum_range_zero]
  simp only [zero_add, Nat.reduceAdd, add_zero]
  abel

theorem ACC_sum (L : FVec Ideal S16x100000 .f32) (j : S16x128.Idx) (n : Nat) :
    ACC L n j = (∑ m ∈ Finset.range n, ∑ q ∈ Finset.range 64, at' (k := 8191) (blkF L m) (j 0 : Fin 16) (q * 128 + (j 1).val) : EReal) := by
  induction n with
  | zero => exact zf_eq
  | succ n ih =>
    show accN (blkF L n) (ACC L n) j 64 = _
    rw [accN_sum, ih]
    exact (Finset.sum_range_succ _ n).symm

/-- A row of an array by number, zero past its end. -/
def rowN (L : FVec Ideal S16x100000 .f32) (b : Fin 16) (p : Nat) : EReal := if h : p < 100000 then L (ix2 b (⟨p, h⟩ : Fin 100000)) else 0

theorem blk_row (L : FVec Ideal S16x100000 .f32) (b : Fin 16) (m q : Nat) (hq : q < 8192) :
    at' (k := 8191) (blkF L m) b q = rowN L b (m * 8192 + q) := by
  rw [at'_lt (k := 8191) _ b hq]
  by_cases h : m * 8192 + q < 100000
  · exact (fb_pos (b := 16) L (fun _ => zf) m b ⟨q, hq⟩ h).trans (show rowN L b (m * 8192 + q) = L (ix2 b ⟨m * 8192 + q, h⟩) from dif_pos h).symm
  · refine ((dif_neg h : fb (b := 16) L (fun _ => zf) m (ix2 b ⟨q, hq⟩) = zf).trans zf_eq).trans (show rowN L b (m * 8192 + q) = 0 from dif_neg h).symm

/-- The blocked, masked sums of the two accumulators are the sums over a row's columns. -/
theorem fold_ACC (L : FVec Ideal S16x100000 .f32) (b : Fin 16) :
    foldV (ACC L 13) (ix2 b (0 : Fin 1)) = (∑ d : Fin 100000, L (ix2 b d) : EReal) := by
  have h1 : ∀ t ∈ Finset.range 128, (at' (k := 127) (ACC L 13) b t : EReal)
      = ∑ m ∈ Finset.range 13, ∑ q ∈ Finset.range 64, at' (k := 8191) (blkF L m) b (q * 128 + t) := by
    intro t ht
    have ht' : t < 128 := Finset.mem_range.mp ht
    rw [at'_lt (k := 127) _ b ht']
    exact ACC_sum L (ix2 b ⟨t, ht'⟩) 13
  rw [foldV_sum, Finset.sum_congr rfl h1, Finset.sum_comm]
  have h2 : ∀ m ∈ Finset.range 13, (∑ t ∈ Finset.range 128, ∑ q ∈ Finset.range 64, at' (k := 8191) (blkF L m) b (q * 128 + t) : EReal)
      = ∑ q ∈ Finset.range 8192, rowN L b (m * 8192 + q) := by
    intro m _
    rw [Finset.sum_comm, show (8192 : Nat) = 64 * 128 from rfl, sum_blocks 64 128]
    refine Finset.sum_congr rfl fun q hq => Finset.sum_congr rfl fun t ht => ?_
    have hq' := Finset.mem_range.mp hq; have ht' := Finset.mem_range.mp ht
    exact blk_row L b m _ (by omega)
  rw [Finset.sum_congr rfl h2, ← sum_blocks 13 8192, show (13 * 8192 : Nat) = 100000 + 6496 from rfl, Finset.sum_range_add]
  have h3 : (∑ p ∈ Finset.range 6496, rowN L b (100000 + p) : EReal) = 0 :=
    Finset.sum_eq_zero fun p _ => dif_neg (by omega)
  rw [h3, add_zero, Finset.sum_range]
  exact Finset.sum_congr rfl fun d _ => dif_pos d.isLt

end Cert.KernelIdeal.Own

end
-- ==== Proof.Ref.lean ====
module

public import proofs.«01_k».proof.Proof.Math
public import proofs.«01_k».proof.Proof.Gen.ReferenceIdeal.Read

@[expose] public section

noncomputable section

namespace Cert.KernelIdeal.Own

open Idealize.ShloMosaic Cert.ReferenceIdeal Cert.ReferenceIdeal.Gen Cert.ReferenceIdeal.Read

/-! ## The reference, one step, read at a pixel -/

theorem e1 {p : Nat} {j : (⟨1, ![p]⟩ : Shape).Idx} (a : Fin p) (h0 : (j 0).val = a.val) : j = ix1 a :=
  funext fun i => by fin_cases i; exact Fin.ext h0
theorem e2 {p q : Nat} {j : (⟨2, ![p, q]⟩ : Shape).Idx} (a : Fin p) (b : Fin q) (h0 : (j 0).val = a.val) (h1 : (j 1).val = b.val) : j = ix2 a b :=
  funext fun i => by fin_cases i; exacts [Fin.ext h0, Fin.ext h1]
theorem e3 {p q r : Nat} {j : (⟨3, ![p, q, r]⟩ : Shape).Idx} (a : Fin p) (b : Fin q) (c : Fin r) (h0 : (j 0).val = a.val)
    (h1 : (j 1).val = b.val) (h2 : (j 2).val = c.val) : j = ix3 a b c :=
  funext fun i => by fin_cases i; exacts [Fin.ext h0, Fin.ext h1, Fin.ext h2]

theorem div_one' (x : EReal) : Ideal.div x 1 = x := by
  unfold Ideal.div
  simp

abbrev RX := (⟨S16x100000, .i32⟩ : BufTy).Contents (Elt Ideal)
abbrev RW := (⟨S100000x4, .f32⟩ : BufTy).Contents (Elt Ideal)
abbrev RG := (⟨S16x100000x4, .f32⟩ : BufTy).Contents (Elt Ideal)
abbrev RU := (⟨S16, .f32⟩ : BufTy).Contents (Elt Ideal)

variable (Y : RX) (W : RW) (g : RG) (u : RU)

/-- The four weights of a column. -/
def rw4 (d : Fin 100000) : Fin 4 → Ideal .f32 := fun c => W (ix2 d c)

theorem one_mul_half (w : EReal) :
    Ideal.div (Ideal.ofBits .f32 0x3F800000#32 * w * Ideal.ofBits .f32 0x3F000000#32) (Ideal.ofBits .f32 0x3F800000#32)
      = hw (F := Ideal) w := by
  rw [Ideal.ofBits_one_f32, one_mul, div_one']; rfl

/-- The gradient. -/
theorem r_v35 (b : Fin 16) (d : Fin 100000) (c : Fin 4) : val_main_v35 (F := Ideal) W (ix3 b d c) = hw (F := Ideal) (rw4 W d c) := by
  have h30 : val_main_v30 (F := Ideal) W (ix3 b d c) = rw4 W d c := by
    rw [val_main_v30_apply, val_main_v23_apply]
    exact congrArg W (e2 d c rfl rfl)
  have h31 : val_main_v31 (F := Ideal) W (ix3 b d c) = (Ideal.ofBits .f32 0x3F800000#32 * rw4 W d c : EReal) := by
    rw [val_main_v31_apply, h30]; rfl
  have h33 : val_main_v33 (F := Ideal) W (ix3 b d c) = (Ideal.ofBits .f32 0x3F800000#32 * rw4 W d c * Ideal.ofBits .f32 0x3F000000#32 : EReal) := by
    rw [val_main_v33_apply, h31]; rfl
  rw [val_main_v35_apply, h33]
  exact one_mul_half _

theorem r_v37 (d : Fin 100000) (c : Fin 4) : val_main_v37 (F := Ideal) W (ix2 d c) = hw (F := Ideal) (rw4 W d c) := by
  have e : idx_main_v36 (idx_main_v37 (ix2 d c)) = ix3 0 d c :=
    e3 0 d c rfl (by have := d.isLt; have := c.isLt; show (d.val * 4 + c.val) / 4 % 100000 = d.val; omega)
      (by have := c.isLt; show (d.val * 4 + c.val) % 4 = c.val; omega)
  rw [val_main_v37_apply, val_main_v36_apply, e, r_v35]

/-- Row 0's class in a column. -/
theorem r_v39 (d : Fin 100000) : val_main_v39 (F := Ideal) Y (ix1 d) = Y (ix2 (0 : Fin 16) d) := by
  rw [val_main_v39_apply, val_main_v38_apply]
  exact congrArg Y (e2 0 d rfl (by have := d.isLt; show d.val % 100000 = d.val; omega))

theorem r_v45 (d : Fin 100000) (c : Fin 4) : val_main_v45 (F := Ideal) Y (ix2 d c) = IntOp.cmpi .eq (Y (ix2 (0 : Fin 16) d)) (BitVec.ofNat 32 c.val) := by
  have h43 : val_main_v43 (F := Ideal) Y (ix2 d c) = Y (ix2 (0 : Fin 16) d) := by
    rw [val_main_v43_apply, val_main_v40_apply, (e1 d rfl : idx_main_v40 (idx_main_v43 (ix2 d c)) = ix1 d), r_v39]
  have h44 : val_main_v44 (F := Ideal) (ix2 d c) = BitVec.ofNat 32 c.val := by
    rw [val_main_v44_apply, val_main_v42_apply, val_main_v41_apply]; rfl
  rw [val_main_v45_apply, h43, h44]

theorem r_v47 (d : Fin 100000) (h : cat (Y (ix2 (0 : Fin 16) d))) :
    val_main_v47 (F := Ideal) Y W (ix1 d) = sel4 (F := Ideal) (Y (ix2 (0 : Fin 16) d)) (fun c => hw (rw4 W d c)) := by
  rw [val_main_v47_apply, val_main_cst_11_apply, Ideal.ofBits_def, Ideal.ofBits_zero_f32]
  refine Eq.trans (congrArg (fun s : EReal => 0 + s) (Finset.sum_congr rfl fun k _ => ?_)) (at_sum4 h _)
  rw [(e2 d k rfl rfl : idx_main_v47 (ix1 d) k = ix2 d k), val_main_v46_apply, r_v45, r_v37]
  exact congrArg (Scalar.select _ _) Ideal.ofBits_zero_f32

theorem r_v49 (b : Fin 16) (d : Fin 100000) (c : Fin 4) (h : cat (Y (ix2 (0 : Fin 16) d))) :
    val_main_v49 (F := Ideal) Y W (ix3 b d c) = sel4 (F := Ideal) (Y (ix2 (0 : Fin 16) d)) (fun c => hw (rw4 W d c)) := by
  rw [val_main_v49_apply, val_main_v48_apply, (e1 d rfl : idx_main_v48 (idx_main_v49 (ix3 b d c)) = ix1 d), r_v47 Y W d h]

theorem r_v63 (b : Fin 16) (d : Fin 100000) (c : Fin 4) : val_main_v63 (F := Ideal) (ix3 b d c) = zrow b := by
  rw [val_main_v63_apply, val_main_v3_apply, val_main_v2_apply, val_main_v0_apply]; rfl

theorem ofNat_cw (c : Fin 4) : BitVec.ofNat 32 c.val = cw c := by fin_cases c <;> rfl

theorem r_v64 (b : Fin 16) (d : Fin 100000) (c : Fin 4) : val_main_v64 (F := Ideal) Y (ix3 b d c) = IntOp.cmpi .eq (Y (ix2 (0 : Fin 16) d)) (cw c) := by
  rw [val_main_v64_apply, val_main_v62_apply, (e2 d c rfl rfl : idx_main_v62 (idx_main_v64 (ix3 b d c)) = ix2 d c)]
  exact (r_v45 Y d c).trans (congrArg _ (ofNat_cw c))

theorem one_mul_off (w : BitVec 32) : (Ideal.ofBits .f32 0x3F800000#32 * Ideal.ofBits .f32 w : EReal) = Ideal.ofBits .f32 w := by
  rw [Ideal.ofBits_one_f32, one_mul]

/-- The forward logits. -/
theorem r_v67 (b : Fin 16) (d : Fin 100000) (c : Fin 4) (h : cat (Y (ix2 (0 : Fin 16) d))) :
    val_main_v67 (F := Ideal) Y W (ix3 b d c) = lg (F := Ideal) offA (zrow b) (Y (ix2 (0 : Fin 16) d)) (rw4 W d) c := by
  have h53 : val_main_v53 (F := Ideal) (ix3 b d c) = offA (F := Ideal) := by
    rw [val_main_v53_apply, val_main_v51_apply, val_main_v52_apply, val_main_cst_12_apply, val_main_cst_13_apply]; exact one_mul_off _
  rw [val_main_v67_apply, val_main_v50_apply, r_v35, r_v49 Y W b d c h, val_main_v66_apply, val_main_v65_apply, r_v63, r_v64, h53]
  rfl

theorem lift3 (h : S16x100000x4.Reduces [2] S16x100000) (b : Fin 16) (d : Fin 100000) (k : Fin 4) : h.lift (ix2 b d) k = ix3 b d k :=
  funext fun a => Fin.ext (by match a with | ⟨0, _⟩ => rfl | ⟨1, _⟩ => rfl | ⟨2, _⟩ => rfl)

theorem mx_red (v : FVec Ideal S16x100000x4 .f32) (z : FVec Ideal S_ .f32) (hz : z (Shape.Idx.first h_S_) = (⊥ : EReal)) (b : Fin 16) (d : Fin 100000) :
    Host.reduce FloatOps.maximumf v z reducesTo_S16x100000x4_S16x100000_d2 h_S_ (ix2 b d) = mx (F := Ideal) fun c => v (ix3 b d c) := by
  have hr : S16x100000x4.Reduces [2] S16x100000 := by decide
  rw [Host.reduce_eq_fold_single FloatOps.maximumf v z reducesTo_S16x100000x4_S16x100000_d2 hr h_S_, hz]
  refine Eq.trans ?_ (mx_fold fun c => v (ix3 b d c))
  have hf : (v ∘ hr.lift (ix2 b d)) = fun k : Fin 4 => v (ix3 b d k) := funext fun k => congrArg v (lift3 hr b d k)
  exact (congrArg (fun f => Finset.fold (FloatOps.maximumf (F := Ideal) (φ := .f32)) (⊥ : EReal) f (Finset.univ : Finset (Fin 4))) hf).trans
    (fold4 _ _ _)

theorem mn_red (v : IVec S16x100000x4 32) (z : IVec S_ 32) (hz : z (Shape.Idx.first h_S_) = 2147483647#32) (b : Fin 16) (d : Fin 100000) :
    Host.reduce IntOp.minsi v z reducesTo_S16x100000x4_S16x100000_d2 h_S_ (ix2 b d)
      = minHit (v (ix3 b d 0)) (v (ix3 b d 1)) (v (ix3 b d 2)) (v (ix3 b d 3)) := by
  have hr : S16x100000x4.Reduces [2] S16x100000 := by decide
  rw [Host.reduce_eq_fold_single IntOp.minsi v z reducesTo_S16x100000x4_S16x100000_d2 hr h_S_, hz]
  have hf : (v ∘ hr.lift (ix2 b d)) = fun k : Fin 4 => v (ix3 b d k) := funext fun k => congrArg v (lift3 hr b d k)
  exact (congrArg (fun f => Finset.fold (IntOp.minsi) (2147483647#32) f (Finset.univ : Finset (Fin 4))) hf).trans
    (fold4 _ _ _)

/-- The reference's choice among four scores. -/
theorem r_v75 (b : Fin 16) (d : Fin 100000) :
    val_main_v75 (F := Ideal) Y W g (ix2 b d) = am (F := Ideal) fun c => val_main_v68 (F := Ideal) Y W g (ix3 b d c) := by
  have hk : ∀ c : Fin 4, val_main_v74 (F := Ideal) Y W g (ix3 b d c) = hitS (fun c => val_main_v68 (F := Ideal) Y W g (ix3 b d c)) c := by
    intro c
    have h71 : val_main_v71 (F := Ideal) Y W g (ix3 b d c) = mx (F := Ideal) fun c => val_main_v68 (F := Ideal) Y W g (ix3 b d c) := by
      rw [val_main_v71_apply, val_main_v70_apply, (e2 b d rfl rfl : idx_main_v70 (idx_main_v71 (ix3 b d c)) = ix2 b d)]
      unfold val_main_v69
      generalize val_main_v68 (F := Ideal) Y W g = v
      exact mx_red v _ ninf_eq b d
    have h1 : val_main_call2_v1 (F := Ideal) (ix3 b d c) = BitVec.ofNat 32 c.val := by
      rw [val_main_call2_v1_apply, val_main_v73_apply]; rfl
    rw [val_main_v74_apply, val_main_v72_apply, h71, h1]; rfl
  unfold val_main_v75
  rw [mn_red _ _ rfl b d, hk, hk, hk, hk]
  exact am_eq _

theorem cat_v75 (i : S16x100000.Idx) : cat (val_main_v75 (F := Ideal) Y W g i) := by
  obtain ⟨b, d, rfl⟩ : ∃ (b : Fin 16) (d : Fin 100000), i = ix2 b d := ⟨_, _, eq_ix2' i⟩
  rw [r_v75]
  exact am_cat _

/-- A host log-softmax over four classes. -/
theorem lp_eq (L : Fin 4 → EReal) (m s : EReal) (hm : m = max ⊥ (mx (F := Ideal) L)) (hs : s = 0 + ∑ k : Fin 4, Ideal.exp (L k - m)) (c : Fin 4) :
    FloatOps.subf (F := Ideal) (φ := .f32) (L c - m) (Ideal.log s) = lp (F := Ideal) L c := by
  have hm' : m = mx (F := Ideal) L := by rw [hm]; exact max_bot_left _
  rw [hs, hm', zero_add, Fin.sum_univ_four]; rfl

theorem r_c3v5 (b : Fin 16) (d : Fin 100000) (c : Fin 4) :
    val_main_call3_v5 (F := Ideal) Y W (ix3 b d c) = (val_main_v67 (F := Ideal) Y W (ix3 b d c) - val_main_call3_v2 (F := Ideal) Y W (ix2 b d) : EReal) := by
  rw [val_main_call3_v5_apply, val_main_call3_v4_apply, val_main_call3_v3_apply,
    (e2 b d rfl rfl : idx_main_call3_v3 (idx_main_call3_v4 (ix3 b d c)) = ix2 b d)]
  rfl

theorem r_c3v7 (b : Fin 16) (d : Fin 100000) :
    val_main_call3_v7 (F := Ideal) Y W (ix2 b d) = (0 + ∑ k : Fin 4, Ideal.exp (val_main_v67 (F := Ideal) Y W (ix3 b d k) - val_main_call3_v2 (F := Ideal) Y W (ix2 b d)) : EReal) := by
  rw [val_main_call3_v7_apply, val_main_call3_cst_1_apply, Ideal.ofBits_def, Ideal.ofBits_zero_f32]
  refine congrArg (fun s : EReal => 0 + s) (Finset.sum_congr rfl fun k _ => ?_)
  rw [(e3 b d k rfl rfl rfl : idx_main_call3_v7 (ix2 b d) k = ix3 b d k), val_main_call3_v6_apply, r_c3v5]
  rfl

theorem r_v76 (b : Fin 16) (d : Fin 100000) (c : Fin 4) :
    val_main_v76 (F := Ideal) Y W (ix3 b d c) = lp (F := Ideal) (fun c => val_main_v67 (F := Ideal) Y W (ix3 b d c)) c := by
  have hm : val_main_call3_v2 (F := Ideal) Y W (ix2 b d) = max (⊥ : EReal) (mx (F := Ideal) fun c => val_main_v67 (F := Ideal) Y W (ix3 b d c)) := by
    rw [val_main_call3_v2_apply]
    unfold val_main_call3_v0
    generalize val_main_v67 (F := Ideal) Y W = v
    rw [mx_red v _ ninf_eq b d]
    rw [val_main_call3_v1_apply, val_main_call3_cst_0_apply, Ideal.ofBits_def, ninf_eq]
    rfl
  have hs := r_c3v7 Y W b d
  have h9 : val_main_call3_v10 (F := Ideal) Y W (ix3 b d c) = Ideal.log (val_main_call3_v7 (F := Ideal) Y W (ix2 b d)) := by
    rw [val_main_call3_v10_apply, val_main_call3_v9_apply, val_main_call3_v8_apply,
      (e2 b d rfl rfl : idx_main_call3_v8 (idx_main_call3_v10 (ix3 b d c)) = ix2 b d)]
    generalize val_main_call3_v7 (F := Ideal) Y W (ix2 b d) = z
    rfl
  rw [val_main_v76_apply, r_c3v5, h9]
  exact lp_eq (fun c => val_main_v67 (F := Ideal) Y W (ix3 b d c)) _ _ hm hs c

theorem r_v84 (b : Fin 16) (d : Fin 100000) :
    val_main_v84 (F := Ideal) Y W g (ix2 b d) = gat (F := Ideal) (fun c => val_main_v67 (F := Ideal) Y W (ix3 b d c)) (val_main_v75 (F := Ideal) Y W g (ix2 b d)) := by
  rw [val_main_v84_apply, val_main_cst_19_apply, Ideal.ofBits_def, Ideal.ofBits_zero_f32]
  refine Eq.trans (congrArg (fun s : EReal => 0 + s) (Finset.sum_congr rfl fun k _ => ?_)) (at_sum_gat (cat_v75 Y W g _) _)
  have h80 : val_main_v80 (F := Ideal) Y W g (ix3 b d k) = val_main_v75 (F := Ideal) Y W g (ix2 b d) := by
    rw [val_main_v80_apply, val_main_v77_apply, (e2 b d rfl rfl : idx_main_v77 (idx_main_v80 (ix3 b d k)) = ix2 b d)]
  have h81 : val_main_v81 (F := Ideal) (ix3 b d k) = BitVec.ofNat 32 k.val := by
    rw [val_main_v81_apply, val_main_v79_apply, val_main_v78_apply]; rfl
  rw [(e3 b d k rfl rfl rfl : idx_main_v84 (ix2 b d) k = ix3 b d k), val_main_v83_apply, val_main_v82_apply, h80, h81, r_v76]
  exact congrArg (Scalar.select _ _) Ideal.ofBits_zero_f32

/-- The sum of a row's log-probabilities. -/
theorem r_v85 (b : Fin 16) :
    val_main_v85 (F := Ideal) Y W g (ix1 b) = (∑ d : Fin 100000, val_main_v84 (F := Ideal) Y W g (ix2 b d) : EReal) := by
  rw [val_main_v85_apply, val_main_cst_20_apply, Ideal.ofBits_def, Ideal.ofBits_zero_f32, zero_add]
  exact Finset.sum_congr rfl fun k _ => congrArg (val_main_v84 (F := Ideal) Y W g) (e2 b k rfl rfl)

theorem v117_eq : val_main_v117 (F := Ideal) W = val_main_v35 (F := Ideal) W := rfl
theorem v129_eq : val_main_v129 (F := Ideal) Y W g = val_main_v47 (F := Ideal) (val_main_v75 (F := Ideal) Y W g) W := rfl
theorem v146_eq : val_main_v146 (F := Ideal) Y W g = val_main_v64 (F := Ideal) (val_main_v75 (F := Ideal) Y W g) := rfl
theorem v145_eq : val_main_v145 (F := Ideal) = val_main_v63 (F := Ideal) := rfl

/-- The reverse logits. -/
theorem r_v149 (b : Fin 16) (d : Fin 100000) (c : Fin 4) :
    val_main_v149 (F := Ideal) Y W g (ix3 b d c)
      = lg (F := Ideal) offB (zrow b) (val_main_v75 (F := Ideal) Y W g (ix2 (0 : Fin 16) d)) (rw4 W d) c := by
  have h135 : val_main_v135 (F := Ideal) (ix3 b d c) = offB (F := Ideal) := by
    rw [val_main_v135_apply, val_main_v133_apply, val_main_v134_apply, val_main_cst_34_apply, val_main_cst_35_apply]; exact one_mul_off _
  have h131 : val_main_v131 (F := Ideal) Y W g (ix3 b d c)
      = sel4 (F := Ideal) (val_main_v75 (F := Ideal) Y W g (ix2 (0 : Fin 16) d)) (fun c => hw (rw4 W d c)) := by
    rw [val_main_v131_apply, val_main_v130_apply, (e1 d rfl : idx_main_v130 (idx_main_v131 (ix3 b d c)) = ix1 d), v129_eq,
      r_v47 _ W d (cat_v75 Y W g _)]
  rw [val_main_v149_apply, val_main_v132_apply, v117_eq, r_v35, h131, val_main_v148_apply, val_main_v147_apply, v145_eq, v146_eq, r_v63, r_v64, h135]
  rfl

theorem r_c7v5 (b : Fin 16) (d : Fin 100000) (c : Fin 4) :
    val_main_call7_v5 (F := Ideal) Y W g (ix3 b d c) = (val_main_v149 (F := Ideal) Y W g (ix3 b d c) - val_main_call7_v2 (F := Ideal) Y W g (ix2 b d) : EReal) := by
  rw [val_main_call7_v5_apply, val_main_call7_v4_apply, val_main_call7_v3_apply,
    (e2 b d rfl rfl : idx_main_call7_v3 (idx_main_call7_v4 (ix3 b d c)) = ix2 b d)]
  rfl

theorem r_c7v7 (b : Fin 16) (d : Fin 100000) :
    val_main_call7_v7 (F := Ideal) Y W g (ix2 b d) = (0 + ∑ k : Fin 4, Ideal.exp (val_main_v149 (F := Ideal) Y W g (ix3 b d k) - val_main_call7_v2 (F := Ideal) Y W g (ix2 b d)) : EReal) := by
  rw [val_main_call7_v7_apply, val_main_call7_cst_1_apply, Ideal.ofBits_def, Ideal.ofBits_zero_f32]
  refine congrArg (fun s : EReal => 0 + s) (Finset.sum_congr rfl fun k _ => ?_)
  rw [(e3 b d k rfl rfl rfl : idx_main_call7_v7 (ix2 b d) k = ix3 b d k), val_main_call7_v6_apply, r_c7v5]
  rfl

theorem r_v150 (b : Fin 16) (d : Fin 100000) (c : Fin 4) :
    val_main_v150 (F := Ideal) Y W g (ix3 b d c) = lp (F := Ideal) (fun c => val_main_v149 (F := Ideal) Y W g (ix3 b d c)) c := by
  have hm : val_main_call7_v2 (F := Ideal) Y W g (ix2 b d) = max (⊥ : EReal) (mx (F := Ideal) fun c => val_main_v149 (F := Ideal) Y W g (ix3 b d c)) := by
    rw [val_main_call7_v2_apply]
    unfold val_main_call7_v0
    generalize val_main_v149 (F := Ideal) Y W g = v
    rw [mx_red v _ ninf_eq b d]
    rw [val_main_call7_v1_apply, val_main_call7_cst_0_apply, Ideal.ofBits_def, ninf_eq]
    rfl
  have hs := r_c7v7 Y W g b d
  have h9 : val_main_call7_v10 (F := Ideal) Y W g (ix3 b d c) = Ideal.log (val_main_call7_v7 (F := Ideal) Y W g (ix2 b d)) := by
    rw [val_main_call7_v10_apply, val_main_call7_v9_apply, val_main_call7_v8_apply,
      (e2 b d rfl rfl : idx_main_call7_v8 (idx_main_call7_v10 (ix3 b d c)) = ix2 b d)]
    generalize val_main_call7_v7 (F := Ideal) Y W g (ix2 b d) = z
    rfl
  rw [val_main_v150_apply, r_c7v5, h9]
  exact lp_eq (fun c => val_main_v149 (F := Ideal) Y W g (ix3 b d c)) _ _ hm hs c

theorem r_v158 (b : Fin 16) (d : Fin 100000) (h : cat (Y (ix2 b d))) :
    val_main_v158 (F := Ideal) Y W g (ix2 b d) = gat (F := Ideal) (fun c => val_main_v149 (F := Ideal) Y W g (ix3 b d c)) (Y (ix2 b d)) := by
  rw [val_main_v158_apply, val_main_cst_38_apply, Ideal.ofBits_def, Ideal.ofBits_zero_f32]
  refine Eq.trans (congrArg (fun s : EReal => 0 + s) (Finset.sum_congr rfl fun k _ => ?_)) (at_sum_gat h _)
  have h80 : val_main_v154 (F := Ideal) Y (ix3 b d k) = Y (ix2 b d) := by
    rw [val_main_v154_apply, val_main_v151_apply, (e2 b d rfl rfl : idx_main_v151 (idx_main_v154 (ix3 b d k)) = ix2 b d)]
  have h81 : val_main_v155 (F := Ideal) (ix3 b d k) = BitVec.ofNat 32 k.val := by
    rw [val_main_v155_apply, val_main_v153_apply, val_main_v152_apply]; rfl
  rw [(e3 b d k rfl rfl rfl : idx_main_v158 (ix2 b d) k = ix3 b d k), val_main_v157_apply, val_main_v156_apply, h80, h81, r_v150]
  exact congrArg (Scalar.select _ _) Ideal.ofBits_zero_f32

/-- The sum of a row's log-probabilities. -/
theorem r_v159 (b : Fin 16) :
    val_main_v159 (F := Ideal) Y W g (ix1 b) = (∑ d : Fin 100000, val_main_v158 (F := Ideal) Y W g (ix2 b d) : EReal) := by
  rw [val_main_v159_apply, val_main_cst_39_apply, Ideal.ofBits_def, Ideal.ofBits_zero_f32, zero_add]
  exact Finset.sum_congr rfl fun k _ => congrArg (val_main_v158 (F := Ideal) Y W g) (e2 b k rfl rfl)

theorem r_v173 (i : S16.Idx) : val_main_v173 (F := Ideal) Y W g u i = (((val_main_v172 (F := Ideal) Y W g u i).toNat : ℝ) : EReal) := rfl

/-- The step's result: the proposal where it is accepted, else what was there. -/
theorem r_v185 (b : Fin 16) (d : Fin 100000) (h : cat (Y (ix2 b d))) :
    val_main_v185 (F := Ideal) Y W g u (ix2 b d)
      = xcS (F := Ideal) (val_main_v173 (F := Ideal) Y W g u (ix1 b)) (val_main_v75 (F := Ideal) Y W g (ix2 b d)) (Y (ix2 b d)) := by
  have h176 : val_main_v176 (F := Ideal) Y W g u (ix2 b d) = val_main_v173 (F := Ideal) Y W g u (ix1 b) := by
    rw [val_main_v176_apply, val_main_v175_apply, (e1 b rfl : idx_main_v175 (idx_main_v176 (ix2 b d)) = ix1 b)]
  have h182 : val_main_v182 (F := Ideal) Y W g u (ix2 b d) = (1 - val_main_v173 (F := Ideal) Y W g u (ix1 b) : EReal) := by
    rw [val_main_v182_apply, val_main_v181_apply, val_main_v179_apply, (e1 b rfl : idx_main_v179 (idx_main_v182 (ix2 b d)) = ix1 b)]
    exact congrArg (fun o : EReal => o - val_main_v173 (F := Ideal) Y W g u (ix1 b)) Ideal.ofBits_one_f32
  rw [val_main_v185_apply, val_main_v184_apply, val_main_v177_apply, val_main_v183_apply, h176, h182, val_main_v174_apply, val_main_v178_apply, r_v173]
  exact mix_eq _ (cat_v75 Y W g _) h

theorem cat_v185 (h : ∀ i, cat (Y i)) (i : S16x100000.Idx) : cat (val_main_v185 (F := Ideal) Y W g u i) := by
  obtain ⟨b, d, rfl⟩ : ∃ (b : Fin 16) (d : Fin 100000), i = ix2 b d := ⟨_, _, eq_ix2' i⟩
  rw [r_v185 Y W g u _ _ (h _)]
  unfold xcS
  have hd := cat_v75 Y W g (ix2 b d)
  have hx := h (ix2 b d)
  generalize FloatOps.cmpf (F := Ideal) (φ := .f32) .ogt _ _ = p
  have hp : p = 0#1 ∨ p = 1#1 := by revert p; decide
  rcases hp with rfl | rfl
  · exact hx
  · exact hd

end Cert.KernelIdeal.Own

end
-- ==== Proof.Step.lean ====
module

public import proofs.«01_k».proof.Proof.Ref

@[expose] public section

set_option backward.proofsInPublic true

noncomputable section

namespace Cert.KernelIdeal.Own

open Idealize.ShloMosaic Cert.ReferenceIdeal.Read

/-! ## One step of the kernel's arrays is one step of the reference -/

section

variable (X XP : RX) (a : FVec Ideal S16x1 .f32) (W8 : FVec Ideal S8x100000 .f32) (GT : FVec Ideal S4x16x100000 .f32)
  (Y : RX) (W : RW) (g : RG)
  (hX : ∀ i, XCw (F := Ideal) X XP a i = Y i) (hc : ∀ i, cat (Y i))
  (hW : ∀ (c : Fin 4) (d : Fin 100000), W8 (ix2 (⟨c.val, by omega⟩ : Fin 8) d) = W (ix2 d c))
  (hG : ∀ (b : Fin 16) (d : Fin 100000) (c : Fin 4), GT (ix3 c b d) = g (ix3 b d c))

include hW in
theorem wcw_eq (d : Fin 100000) : wcw (F := Ideal) W8 d = rw4 W d := funext fun c => hW c d

include hX hc hW in
/-- The forward logits agree. -/
theorem LA_eq (b : Fin 16) (d : Fin 100000) :
    LAw (F := Ideal) X XP a W8 (ix2 b d) = fun c => val_main_v67 (F := Ideal) Y W (ix3 b d c) := by
  funext c
  rw [r_v67 Y W b d c (hc _), ← wcw_eq W8 W hW d, ← hX]
  rfl

include hX hc hW hG in
/-- The proposals agree. -/
theorem IDX_eq (i : (⟨2, ![16, 100000]⟩ : Shape).Idx) :
    IDXw (F := Ideal) X XP a W8 GT i = val_main_v75 (F := Ideal) Y W g i := by
  obtain ⟨b, d, rfl⟩ : ∃ (b : Fin 16) (d : Fin 100000), i = ix2 b d := ⟨_, _, eq_ix2' i⟩
  rw [r_v75]
  show am (F := Ideal) (fun c => FloatOps.addf (LAw (F := Ideal) X XP a W8 (ix2 b d) c) (GT (ix3 c b d))) = _
  rw [LA_eq X XP a W8 Y W hX hc hW b d]
  refine congrArg (am (F := Ideal)) (funext fun c => ?_)
  rw [hG, val_main_v68_apply]
  exact add_comm (G := EReal) _ _

include hX hc hW hG in
/-- The reverse logits agree. -/
theorem LB_eq (b : Fin 16) (d : Fin 100000) :
    LBw (F := Ideal) X XP a W8 GT (ix2 b d) = fun c => val_main_v149 (F := Ideal) Y W g (ix3 b d c) := by
  funext c
  rw [r_v149, ← wcw_eq W8 W hW d, ← IDX_eq X XP a W8 GT Y W g hX hc hW hG]
  rfl

include hX hc hW hG in
/-- The sums of the proposals' log-probabilities agree. -/
theorem LF_eq (b : Fin 16) :
    foldV (F := Ideal) (ACC (LFw (F := Ideal) X XP a W8 GT) 13) (ix2 b (0 : Fin 1)) = val_main_v85 (F := Ideal) Y W g (ix1 b) := by
  refine (fold_ACC _ b).trans ((r_v85 Y W g b).trans (Finset.sum_congr rfl fun d _ => ?_)).symm
  rw [r_v84, ← LA_eq X XP a W8 Y W hX hc hW b d, ← IDX_eq X XP a W8 GT Y W g hX hc hW hG]
  rfl

include hX hc hW hG in
/-- The sums of the log-probabilities of the way back agree. -/
theorem LR_eq (b : Fin 16) :
    foldV (F := Ideal) (ACC (LRw (F := Ideal) X XP a W8 GT) 13) (ix2 b (0 : Fin 1)) = val_main_v159 (F := Ideal) Y W g (ix1 b) := by
  refine (fold_ACC _ b).trans ((r_v159 Y W g b).trans (Finset.sum_congr rfl fun d _ => ?_)).symm
  rw [r_v158 Y W g b d (hc _), ← LB_eq X XP a W8 GT Y W g hX hc hW hG b d, ← hX]
  rfl

end

end Cert.KernelIdeal.Own

end
-- ==== Proof.Win.lean ====
module

public import proofs.«01_k».proof.Proof.Gen.KernelIdeal.Launch
public import proofs.«01_k».proof.Proof.Gen.KernelIdeal.Points
public import Idealize.ShloMosaic.Lib.Pipeline.ValueKit.Geometry
public import proofs.«01_k».proof.Proof.Arr

@[expose] public section

noncomputable section

namespace Cert.KernelIdeal.Own

open Cert.KernelIdeal Cert.KernelIdeal.Gen
open Idealize.ShloMosaic Idealize.ShloMosaic.TcCoe
open Idealize.ShloMosaic.Pipeline (Window)

variable {F : FTy → Type} [FloatOps F]

/-! ## What a window's fetch fills its block with, and what an output's write-backs cover -/

theorem geo0_0 (t : Fin grid0.N) : win0_0.index t 0 = 0 ∧ win0_0.index t 1 = t.val
    ∧ win0_0.xsize (grid0.coords t) 0 = 16 ∧ win0_0.xsize (grid0.coords t) 1 = min 8192 (100000 - t.val * 8192) := by
  rcases fin_N0 t with rfl | rfl | rfl | rfl | rfl | rfl | rfl | rfl | rfl | rfl | rfl | rfl | rfl <;> decide +kernel

/-- Reading block `t` of window 0 of call 0. -/
theorem read0_0 (X : (⟨2, ![16, 100000]⟩ : Shape).Idx → BitVec 32) (t : Fin grid0.N) (j : (win0_0.xblock (grid0.coords t)).Idx)
    (r : Fin 16) (l : Fin 100000) (hr : (j 0).val = r.val) (hl : t.val * 8192 + (j 1).val = l.val) :
    (win0_0.blk t).view.read (Elt F) X j = X (ix2 r l) := by
  obtain ⟨hi0, hi1, -, -⟩ := geo0_0 t
  show X ((win0_0.rect t).emb j) = _
  refine congrArg X (funext fun a => Fin.ext ?_)
  match a with
  | ⟨0, _⟩ =>
    show win0_0.index t 0 * 16 + 1 * (j 0).val = r.val
    rw [hi0]; omega
  | ⟨1, _⟩ =>
    show win0_0.index t 1 * 8192 + 1 * (j 1).val = l.val
    rw [hi1]; omega

/-- What the fetch of window 0 of call 0 fills its block with. -/
theorem fill0_0 (X : (⟨2, ![16, 100000]⟩ : Shape).Idx → BitVec 32) (t : Fin grid0.N) (d : (⟨2, ![16, 8192]⟩ : Shape).Idx → BitVec 32) :
    win0_0.fill (grid0.coords t) d ((win0_0.blk t).view.read (Elt F) X) = fb (b := 16) X d t.val := by
  obtain ⟨-, -, hx0, hx1⟩ := geo0_0 t
  funext j
  have h0 : (j 0).val < 16 := (j 0).isLt
  have h1 : (j 1).val < 8192 := (j 1).isLt
  by_cases h : t.val * 8192 + (j 1).val < 100000
  · have hm : win0_0.moved (grid0.coords t) j = true := (win0_0.moved_iff _ j).mpr fun a =>
      match a with
      | ⟨0, _⟩ => by show (j 0).val < win0_0.xsize (grid0.coords t) 0; rw [hx0]; exact h0
      | ⟨1, _⟩ => by show (j 1).val < win0_0.xsize (grid0.coords t) 1; rw [hx1]; omega
    refine (dif_pos hm).trans (Eq.trans ?_ (dif_pos h).symm)
    exact read0_0 X t _ (j 0) ⟨_, h⟩ rfl rfl
  · have hm : ¬ win0_0.moved (grid0.coords t) j = true := fun hm => by
      have := (win0_0.moved_iff _ j).mp hm 1
      rw [hx1] at this; omega
    exact (dif_neg hm).trans (fb_neg (b := 16) X d t.val j h).symm

theorem geo0_1 (t : Fin grid0.N) : win0_1.index t 0 = 0 ∧ win0_1.index t 1 = t.val
    ∧ win0_1.xsize (grid0.coords t) 0 = 16 ∧ win0_1.xsize (grid0.coords t) 1 = min 8192 (100000 - t.val * 8192) := by
  rcases fin_N0 t with rfl | rfl | rfl | rfl | rfl | rfl | rfl | rfl | rfl | rfl | rfl | rfl | rfl <;> decide +kernel

/-- Reading block `t` of window 1 of call 0. -/
theorem read0_1 (X : (⟨2, ![16, 100000]⟩ : Shape).Idx → BitVec 32) (t : Fin grid0.N) (j : (win0_1.xblock (grid0.coords t)).Idx)
    (r : Fin 16) (l : Fin 100000) (hr : (j 0).val = r.val) (hl : t.val * 8192 + (j 1).val = l.val) :
    (win0_1.blk t).view.read (Elt F) X j = X (ix2 r l) := by
  obtain ⟨hi0, hi1, -, -⟩ := geo0_1 t
  show X ((win0_1.rect t).emb j) = _
  refine congrArg X (funext fun a => Fin.ext ?_)
  match a with
  | ⟨0, _⟩ =>
    show win0_1.index t 0 * 16 + 1 * (j 0).val = r.val
    rw [hi0]; omega
  | ⟨1, _⟩ =>
    show win0_1.index t 1 * 8192 + 1 * (j 1).val = l.val
    rw [hi1]; omega

/-- What the fetch of window 1 of call 0 fills its block with. -/
theorem fill0_1 (X : (⟨2, ![16, 100000]⟩ : Shape).Idx → BitVec 32) (t : Fin grid0.N) (d : (⟨2, ![16, 8192]⟩ : Shape).Idx → BitVec 32) :
    win0_1.fill (grid0.coords t) d ((win0_1.blk t).view.read (Elt F) X) = fb (b := 16) X d t.val := by
  obtain ⟨-, -, hx0, hx1⟩ := geo0_1 t
  funext j
  have h0 : (j 0).val < 16 := (j 0).isLt
  have h1 : (j 1).val < 8192 := (j 1).isLt
  by_cases h : t.val * 8192 + (j 1).val < 100000
  · have hm : win0_1.moved (grid0.coords t) j = true := (win0_1.moved_iff _ j).mpr fun a =>
      match a with
      | ⟨0, _⟩ => by show (j 0).val < win0_1.xsize (grid0.coords t) 0; rw [hx0]; exact h0
      | ⟨1, _⟩ => by show (j 1).val < win0_1.xsize (grid0.coords t) 1; rw [hx1]; omega
    refine (dif_pos hm).trans (Eq.trans ?_ (dif_pos h).symm)
    exact read0_1 X t _ (j 0) ⟨_, h⟩ rfl rfl
  · have hm : ¬ win0_1.moved (grid0.coords t) j = true := fun hm => by
      have := (win0_1.moved_iff _ j).mp hm 1
      rw [hx1] at this; omega
    exact (dif_neg hm).trans (fb_neg (b := 16) X d t.val j h).symm

theorem geo0_5 (t : Fin grid0.N) : win0_5.index t 0 = 0 ∧ win0_5.index t 1 = t.val
    ∧ win0_5.xsize (grid0.coords t) 0 = 16 ∧ win0_5.xsize (grid0.coords t) 1 = min 8192 (100000 - t.val * 8192) := by
  rcases fin_N0 t with rfl | rfl | rfl | rfl | rfl | rfl | rfl | rfl | rfl | rfl | rfl | rfl | rfl <;> decide +kernel

/-- Reading block `t` of window 5 of call 0. -/
theorem read0_5 (X : (⟨2, ![16, 100000]⟩ : Shape).Idx → BitVec 32) (t : Fin grid0.N) (j : (win0_5.xblock (grid0.coords t)).Idx)
    (r : Fin 16) (l : Fin 100000) (hr : (j 0).val = r.val) (hl : t.val * 8192 + (j 1).val = l.val) :
    (win0_5.blk t).view.read (Elt F) X j = X (ix2 r l) := by
  obtain ⟨hi0, hi1, -, -⟩ := geo0_5 t
  show X ((win0_5.rect t).emb j) = _
  refine congrArg X (funext fun a => Fin.ext ?_)
  match a with
  | ⟨0, _⟩ =>
    show win0_5.index t 0 * 16 + 1 * (j 0).val = r.val
    rw [hi0]; omega
  | ⟨1, _⟩ =>
    show win0_5.index t 1 * 8192 + 1 * (j 1).val = l.val
    rw [hi1]; omega

/-- What the fetch of window 5 of call 0 fills its block with. -/
theorem fill0_5 (X : (⟨2, ![16, 100000]⟩ : Shape).Idx → BitVec 32) (t : Fin grid0.N) (d : (⟨2, ![16, 8192]⟩ : Shape).Idx → BitVec 32) :
    win0_5.fill (grid0.coords t) d ((win0_5.blk t).view.read (Elt F) X) = fb (b := 16) X d t.val := by
  obtain ⟨-, -, hx0, hx1⟩ := geo0_5 t
  funext j
  have h0 : (j 0).val < 16 := (j 0).isLt
  have h1 : (j 1).val < 8192 := (j 1).isLt
  by_cases h : t.val * 8192 + (j 1).val < 100000
  · have hm : win0_5.moved (grid0.coords t) j = true := (win0_5.moved_iff _ j).mpr fun a =>
      match a with
      | ⟨0, _⟩ => by show (j 0).val < win0_5.xsize (grid0.coords t) 0; rw [hx0]; exact h0
      | ⟨1, _⟩ => by show (j 1).val < win0_5.xsize (grid0.coords t) 1; rw [hx1]; omega
    refine (dif_pos hm).trans (Eq.trans ?_ (dif_pos h).symm)
    exact read0_5 X t _ (j 0) ⟨_, h⟩ rfl rfl
  · have hm : ¬ win0_5.moved (grid0.coords t) j = true := fun hm => by
      have := (win0_5.moved_iff _ j).mp hm 1
      rw [hx1] at this; omega
    exact (dif_neg hm).trans (fb_neg (b := 16) X d t.val j h).symm

theorem geo0_3 (t : Fin grid0.N) : win0_3.index t 0 = 0 ∧ win0_3.index t 1 = t.val
    ∧ win0_3.xsize (grid0.coords t) 0 = 8 ∧ win0_3.xsize (grid0.coords t) 1 = min 8192 (100000 - t.val * 8192) := by
  rcases fin_N0 t with rfl | rfl | rfl | rfl | rfl | rfl | rfl | rfl | rfl | rfl | rfl | rfl | rfl <;> decide +kernel

/-- Reading block `t` of window 3 of call 0. -/
theorem read0_3 (X : (⟨2, ![8, 100000]⟩ : Shape).Idx → F .f32) (t : Fin grid0.N) (j : (win0_3.xblock (grid0.coords t)).Idx)
    (r : Fin 8) (l : Fin 100000) (hr : (j 0).val = r.val) (hl : t.val * 8192 + (j 1).val = l.val) :
    (win0_3.blk t).view.read (Elt F) X j = X (ix2 r l) := by
  obtain ⟨hi0, hi1, -, -⟩ := geo0_3 t
  show X ((win0_3.rect t).emb j) = _
  refine congrArg X (funext fun a => Fin.ext ?_)
  match a with
  | ⟨0, _⟩ =>
    show win0_3.index t 0 * 8 + 1 * (j 0).val = r.val
    rw [hi0]; omega
  | ⟨1, _⟩ =>
    show win0_3.index t 1 * 8192 + 1 * (j 1).val = l.val
    rw [hi1]; omega

/-- What the fetch of window 3 of call 0 fills its block with. -/
theorem fill0_3 (X : (⟨2, ![8, 100000]⟩ : Shape).Idx → F .f32) (t : Fin grid0.N) (d : (⟨2, ![8, 8192]⟩ : Shape).Idx → F .f32) :
    win0_3.fill (grid0.coords t) d ((win0_3.blk t).view.read (Elt F) X) = fb (b := 8) X d t.val := by
  obtain ⟨-, -, hx0, hx1⟩ := geo0_3 t
  funext j
  have h0 : (j 0).val < 8 := (j 0).isLt
  have h1 : (j 1).val < 8192 := (j 1).isLt
  by_cases h : t.val * 8192 + (j 1).val < 100000
  · have hm : win0_3.moved (grid0.coords t) j = true := (win0_3.moved_iff _ j).mpr fun a =>
      match a with
      | ⟨0, _⟩ => by show (j 0).val < win0_3.xsize (grid0.coords t) 0; rw [hx0]; exact h0
      | ⟨1, _⟩ => by show (j 1).val < win0_3.xsize (grid0.coords t) 1; rw [hx1]; omega
    refine (dif_pos hm).trans (Eq.trans ?_ (dif_pos h).symm)
    exact read0_3 X t _ (j 0) ⟨_, h⟩ rfl rfl
  · have hm : ¬ win0_3.moved (grid0.coords t) j = true := fun hm => by
      have := (win0_3.moved_iff _ j).mp hm 1
      rw [hx1] at this; omega
    exact (dif_neg hm).trans (fb_neg (b := 8) X d t.val j h).symm

theorem geo0_4 (t : Fin grid0.N) : (win0_4.index t 0 = 0 ∧ win0_4.index t 1 = 0 ∧ win0_4.index t 2 = t.val)
    ∧ win0_4.xsize (grid0.coords t) 0 = 4 ∧ win0_4.xsize (grid0.coords t) 1 = 16
    ∧ win0_4.xsize (grid0.coords t) 2 = min 8192 (100000 - t.val * 8192) := by
  rcases fin_N0 t with rfl | rfl | rfl | rfl | rfl | rfl | rfl | rfl | rfl | rfl | rfl | rfl | rfl <;> decide +kernel

/-- What the fetch of window 4 of call 0 fills its block with. -/
theorem fill0_4 (X : S4x16x100000.Idx → F .f32) (t : Fin grid0.N) (d : S4x16x8192.Idx → F .f32) :
    win0_4.fill (grid0.coords t) d ((win0_4.blk t).view.read (Elt F) X) = fb3 X d t.val := by
  obtain ⟨⟨hi0, hi1, hi2⟩, hx0, hx1, hx2⟩ := geo0_4 t
  funext j
  have h0 : (j 0).val < 4 := (j 0).isLt
  have h1 : (j 1).val < 16 := (j 1).isLt
  have h2 : (j 2).val < 8192 := (j 2).isLt
  by_cases h : t.val * 8192 + (j 2).val < 100000
  · have hm : win0_4.moved (grid0.coords t) j = true := (win0_4.moved_iff _ j).mpr fun a =>
      match a with
      | ⟨0, _⟩ => by show (j 0).val < win0_4.xsize (grid0.coords t) 0; rw [hx0]; exact h0
      | ⟨1, _⟩ => by show (j 1).val < win0_4.xsize (grid0.coords t) 1; rw [hx1]; exact h1
      | ⟨2, _⟩ => by show (j 2).val < win0_4.xsize (grid0.coords t) 2; rw [hx2]; omega
    refine (dif_pos hm).trans (Eq.trans ?_ (dif_pos h).symm)
    show X ((win0_4.rect t).emb _) = _
    refine congrArg X (funext fun a => Fin.ext ?_)
    match a with
    | ⟨0, _⟩ =>
      show win0_4.index t 0 * 4 + 1 * (j 0).val = (j 0).val
      rw [hi0]; omega
    | ⟨1, _⟩ =>
      show win0_4.index t 1 * 16 + 1 * (j 1).val = (j 1).val
      rw [hi1]; omega
    | ⟨2, _⟩ =>
      show win0_4.index t 2 * 8192 + 1 * (j 2).val = t.val * 8192 + (j 2).val
      rw [hi2]; omega
  · have hm : ¬ win0_4.moved (grid0.coords t) j = true := fun hm => by
      have := (win0_4.moved_iff _ j).mp hm 2
      rw [hx2] at this; omega
    exact (dif_neg hm).trans (fb3_neg X d t.val j h).symm

/-- Block `t` of output window 5 of call 0, filled out with anything, cuts back to the block. -/
theorem cut0_5 (X : (⟨2, ![16, 100000]⟩ : Shape).Idx → BitVec 32) (t : Fin grid0.N) (d : (⟨2, ![16, 8192]⟩ : Shape).Idx → BitVec 32) :
    win0_5.cut (grid0.coords t) (fb (b := 16) X d t.val) = (win0_5.blk t).view.read (Elt F) X := by
  rw [← fill0_5 (F := F) X t d]
  exact win0_5.cut_fill _ _ _

/-- The blocks of output window 5 of call 0 cover its array. -/
theorem cover0_5 (i : (⟨2, ![16, 100000]⟩ : Shape).Idx) : ∃ t : Fin grid0.N, i ∈ (win0_5.blk t).view.set := by
  have h0 : (i 0).val < 16 := (i 0).isLt
  have h1 : (i 1).val < 100000 := (i 1).isLt
  have hN := N_0
  refine ⟨⟨(i 1).val / 8192, by omega⟩, ?_⟩
  obtain ⟨hi0, hi1, hx0, hx1⟩ := geo0_5 ⟨(i 1).val / 8192, by omega⟩
  refine (ValueKit.mem_set_slice_whole_iff main_v7_0 (win0_5.rect _) i Rect.mem_set_unit).mpr ?_
  intro a
  match a with
  | ⟨0, _⟩ =>
    show win0_5.index _ 0 * 16 ≤ (i 0).val ∧ (i 0).val < win0_5.index _ 0 * 16 + win0_5.xsize _ 0
    rw [hi0, hx0]; omega
  | ⟨1, _⟩ =>
    show win0_5.index _ 1 * 8192 ≤ (i 1).val ∧ (i 1).val < win0_5.index _ 1 * 8192 + win0_5.xsize _ 1
    rw [hi1, hx1]; simp only; omega

/-- Window 2 of call 0 is its whole array. -/
theorem fill0_2 (X : S16x1.Idx → F .f32) (t : Fin grid0.N) : (win0_2.blk t).view.read (Elt F) X = X := by
  have hi : win0_2.index t 0 = 0 ∧ win0_2.index t 1 = 0 := by
    rcases fin_N0 t with rfl | rfl | rfl | rfl | rfl | rfl | rfl | rfl | rfl | rfl | rfl | rfl | rfl <;> decide +kernel
  funext j
  show X ((win0_2.rect t).emb j) = X j
  refine congrArg X (funext fun a => Fin.ext ?_)
  match a with
  | ⟨0, _⟩ =>
    show win0_2.index t 0 * 16 + 1 * (j 0).val = (j 0).val
    rw [hi.1]; omega
  | ⟨1, _⟩ =>
    show win0_2.index t 1 * 1 + 1 * (j 1).val = (j 1).val
    rw [hi.2]; omega

/-- Window 6 of call 0 is its whole array. -/
theorem fill0_6 (X : S16x1.Idx → F .f32) (t : Fin grid0.N) : (win0_6.blk t).view.read (Elt F) X = X := by
  have hi : win0_6.index t 0 = 0 ∧ win0_6.index t 1 = 0 := by
    rcases fin_N0 t with rfl | rfl | rfl | rfl | rfl | rfl | rfl | rfl | rfl | rfl | rfl | rfl | rfl <;> decide +kernel
  funext j
  show X ((win0_6.rect t).emb j) = X j
  refine congrArg X (funext fun a => Fin.ext ?_)
  match a with
  | ⟨0, _⟩ =>
    show win0_6.index t 0 * 16 + 1 * (j 0).val = (j 0).val
    rw [hi.1]; omega
  | ⟨1, _⟩ =>
    show win0_6.index t 1 * 1 + 1 * (j 1).val = (j 1).val
    rw [hi.2]; omega

/-- Window 7 of call 0 is its whole array. -/
theorem fill0_7 (X : S16x1.Idx → F .f32) (t : Fin grid0.N) : (win0_7.blk t).view.read (Elt F) X = X := by
  have hi : win0_7.index t 0 = 0 ∧ win0_7.index t 1 = 0 := by
    rcases fin_N0 t with rfl | rfl | rfl | rfl | rfl | rfl | rfl | rfl | rfl | rfl | rfl | rfl | rfl <;> decide +kernel
  funext j
  show X ((win0_7.rect t).emb j) = X j
  refine congrArg X (funext fun a => Fin.ext ?_)
  match a with
  | ⟨0, _⟩ =>
    show win0_7.index t 0 * 16 + 1 * (j 0).val = (j 0).val
    rw [hi.1]; omega
  | ⟨1, _⟩ =>
    show win0_7.index t 1 * 1 + 1 * (j 1).val = (j 1).val
    rw [hi.2]; omega

/-- The one block of output window 6 of call 0 is its array. -/
theorem cover0_6 (i : S16x1.Idx) (t : Fin grid0.N) : i ∈ (win0_6.blk t).view.set := by
  have h0 : (i 0).val < 16 := (i 0).isLt
  have h1 : (i 1).val < 1 := (i 1).isLt
  have hi : win0_6.index t 0 = 0 ∧ win0_6.index t 1 = 0 := by
    rcases fin_N0 t with rfl | rfl | rfl | rfl | rfl | rfl | rfl | rfl | rfl | rfl | rfl | rfl | rfl <;> decide +kernel
  refine (ValueKit.mem_set_slice_whole_iff main_v7_1 (win0_6.rect _) i Rect.mem_set_unit).mpr ?_
  intro a
  match a with
  | ⟨0, _⟩ =>
    show win0_6.index _ 0 * 16 ≤ (i 0).val ∧ (i 0).val < win0_6.index _ 0 * 16 + 16
    rw [hi.1]; omega
  | ⟨1, _⟩ =>
    show win0_6.index _ 1 * 1 ≤ (i 1).val ∧ (i 1).val < win0_6.index _ 1 * 1 + 1
    rw [hi.2]; omega

/-- The one block of output window 7 of call 0 is its array. -/
theorem cover0_7 (i : S16x1.Idx) (t : Fin grid0.N) : i ∈ (win0_7.blk t).view.set := by
  have h0 : (i 0).val < 16 := (i 0).isLt
  have h1 : (i 1).val < 1 := (i 1).isLt
  have hi : win0_7.index t 0 = 0 ∧ win0_7.index t 1 = 0 := by
    rcases fin_N0 t with rfl | rfl | rfl | rfl | rfl | rfl | rfl | rfl | rfl | rfl | rfl | rfl | rfl <;> decide +kernel
  refine (ValueKit.mem_set_slice_whole_iff main_v7_2 (win0_7.rect _) i Rect.mem_set_unit).mpr ?_
  intro a
  match a with
  | ⟨0, _⟩ =>
    show win0_7.index _ 0 * 16 ≤ (i 0).val ∧ (i 0).val < win0_7.index _ 0 * 16 + 16
    rw [hi.1]; omega
  | ⟨1, _⟩ =>
    show win0_7.index _ 1 * 1 ≤ (i 1).val ∧ (i 1).val < win0_7.index _ 1 * 1 + 1
    rw [hi.2]; omega

theorem geo1_0 (t : Fin grid1.N) : win1_0.index t 0 = 0 ∧ win1_0.index t 1 = t.val
    ∧ win1_0.xsize (grid1.coords t) 0 = 16 ∧ win1_0.xsize (grid1.coords t) 1 = min 8192 (100000 - t.val * 8192) := by
  rcases fin_N1 t with rfl | rfl | rfl | rfl | rfl | rfl | rfl | rfl | rfl | rfl | rfl | rfl | rfl <;> decide +kernel

/-- Reading block `t` of window 0 of call 1. -/
theorem read1_0 (X : (⟨2, ![16, 100000]⟩ : Shape).Idx → BitVec 32) (t : Fin grid1.N) (j : (win1_0.xblock (grid1.coords t)).Idx)
    (r : Fin 16) (l : Fin 100000) (hr : (j 0).val = r.val) (hl : t.val * 8192 + (j 1).val = l.val) :
    (win1_0.blk t).view.read (Elt F) X j = X (ix2 r l) := by
  obtain ⟨hi0, hi1, -, -⟩ := geo1_0 t
  show X ((win1_0.rect t).emb j) = _
  refine congrArg X (funext fun a => Fin.ext ?_)
  match a with
  | ⟨0, _⟩ =>
    show win1_0.index t 0 * 16 + 1 * (j 0).val = r.val
    rw [hi0]; omega
  | ⟨1, _⟩ =>
    show win1_0.index t 1 * 8192 + 1 * (j 1).val = l.val
    rw [hi1]; omega

/-- What the fetch of window 0 of call 1 fills its block with. -/
theorem fill1_0 (X : (⟨2, ![16, 100000]⟩ : Shape).Idx → BitVec 32) (t : Fin grid1.N) (d : (⟨2, ![16, 8192]⟩ : Shape).Idx → BitVec 32) :
    win1_0.fill (grid1.coords t) d ((win1_0.blk t).view.read (Elt F) X) = fb (b := 16) X d t.val := by
  obtain ⟨-, -, hx0, hx1⟩ := geo1_0 t
  funext j
  have h0 : (j 0).val < 16 := (j 0).isLt
  have h1 : (j 1).val < 8192 := (j 1).isLt
  by_cases h : t.val * 8192 + (j 1).val < 100000
  · have hm : win1_0.moved (grid1.coords t) j = true := (win1_0.moved_iff _ j).mpr fun a =>
      match a with
      | ⟨0, _⟩ => by show (j 0).val < win1_0.xsize (grid1.coords t) 0; rw [hx0]; exact h0
      | ⟨1, _⟩ => by show (j 1).val < win1_0.xsize (grid1.coords t) 1; rw [hx1]; omega
    refine (dif_pos hm).trans (Eq.trans ?_ (dif_pos h).symm)
    exact read1_0 X t _ (j 0) ⟨_, h⟩ rfl rfl
  · have hm : ¬ win1_0.moved (grid1.coords t) j = true := fun hm => by
      have := (win1_0.moved_iff _ j).mp hm 1
      rw [hx1] at this; omega
    exact (dif_neg hm).trans (fb_neg (b := 16) X d t.val j h).symm

theorem geo1_1 (t : Fin grid1.N) : win1_1.index t 0 = 0 ∧ win1_1.index t 1 = t.val
    ∧ win1_1.xsize (grid1.coords t) 0 = 16 ∧ win1_1.xsize (grid1.coords t) 1 = min 8192 (100000 - t.val * 8192) := by
  rcases fin_N1 t with rfl | rfl | rfl | rfl | rfl | rfl | rfl | rfl | rfl | rfl | rfl | rfl | rfl <;> decide +kernel

/-- Reading block `t` of window 1 of call 1. -/
theorem read1_1 (X : (⟨2, ![16, 100000]⟩ : Shape).Idx → BitVec 32) (t : Fin grid1.N) (j : (win1_1.xblock (grid1.coords t)).Idx)
    (r : Fin 16) (l : Fin 100000) (hr : (j 0).val = r.val) (hl : t.val * 8192 + (j 1).val = l.val) :
    (win1_1.blk t).view.read (Elt F) X j = X (ix2 r l) := by
  obtain ⟨hi0, hi1, -, -⟩ := geo1_1 t
  show X ((win1_1.rect t).emb j) = _
  refine congrArg X (funext fun a => Fin.ext ?_)
  match a with
  | ⟨0, _⟩ =>
    show win1_1.index t 0 * 16 + 1 * (j 0).val = r.val
    rw [hi0]; omega
  | ⟨1, _⟩ =>
    show win1_1.index t 1 * 8192 + 1 * (j 1).val = l.val
    rw [hi1]; omega

/-- What the fetch of window 1 of call 1 fills its block with. -/
theorem fill1_1 (X : (⟨2, ![16, 100000]⟩ : Shape).Idx → BitVec 32) (t : Fin grid1.N) (d : (⟨2, ![16, 8192]⟩ : Shape).Idx → BitVec 32) :
    win1_1.fill (grid1.coords t) d ((win1_1.blk t).view.read (Elt F) X) = fb (b := 16) X d t.val := by
  obtain ⟨-, -, hx0, hx1⟩ := geo1_1 t
  funext j
  have h0 : (j 0).val < 16 := (j 0).isLt
  have h1 : (j 1).val < 8192 := (j 1).isLt
  by_cases h : t.val * 8192 + (j 1).val < 100000
  · have hm : win1_1.moved (grid1.coords t) j = true := (win1_1.moved_iff _ j).mpr fun a =>
      match a with
      | ⟨0, _⟩ => by show (j 0).val < win1_1.xsize (grid1.coords t) 0; rw [hx0]; exact h0
      | ⟨1, _⟩ => by show (j 1).val < win1_1.xsize (grid1.coords t) 1; rw [hx1]; omega
    refine (dif_pos hm).trans (Eq.trans ?_ (dif_pos h).symm)
    exact read1_1 X t _ (j 0) ⟨_, h⟩ rfl rfl
  · have hm : ¬ win1_1.moved (grid1.coords t) j = true := fun hm => by
      have := (win1_1.moved_iff _ j).mp hm 1
      rw [hx1] at this; omega
    exact (dif_neg hm).trans (fb_neg (b := 16) X d t.val j h).symm

theorem geo1_5 (t : Fin grid1.N) : win1_5.index t 0 = 0 ∧ win1_5.index t 1 = t.val
    ∧ win1_5.xsize (grid1.coords t) 0 = 16 ∧ win1_5.xsize (grid1.coords t) 1 = min 8192 (100000 - t.val * 8192) := by
  rcases fin_N1 t with rfl | rfl | rfl | rfl | rfl | rfl | rfl | rfl | rfl | rfl | rfl | rfl | rfl <;> decide +kernel

/-- Reading block `t` of window 5 of call 1. -/
theorem read1_5 (X : (⟨2, ![16, 100000]⟩ : Shape).Idx → BitVec 32) (t : Fin grid1.N) (j : (win1_5.xblock (grid1.coords t)).Idx)
    (r : Fin 16) (l : Fin 100000) (hr : (j 0).val = r.val) (hl : t.val * 8192 + (j 1).val = l.val) :
    (win1_5.blk t).view.read (Elt F) X j = X (ix2 r l) := by
  obtain ⟨hi0, hi1, -, -⟩ := geo1_5 t
  show X ((win1_5.rect t).emb j) = _
  refine congrArg X (funext fun a => Fin.ext ?_)
  match a with
  | ⟨0, _⟩ =>
    show win1_5.index t 0 * 16 + 1 * (j 0).val = r.val
    rw [hi0]; omega
  | ⟨1, _⟩ =>
    show win1_5.index t 1 * 8192 + 1 * (j 1).val = l.val
    rw [hi1]; omega

/-- What the fetch of window 5 of call 1 fills its block with. -/
theorem fill1_5 (X : (⟨2, ![16, 100000]⟩ : Shape).Idx → BitVec 32) (t : Fin grid1.N) (d : (⟨2, ![16, 8192]⟩ : Shape).Idx → BitVec 32) :
    win1_5.fill (grid1.coords t) d ((win1_5.blk t).view.read (Elt F) X) = fb (b := 16) X d t.val := by
  obtain ⟨-, -, hx0, hx1⟩ := geo1_5 t
  funext j
  have h0 : (j 0).val < 16 := (j 0).isLt
  have h1 : (j 1).val < 8192 := (j 1).isLt
  by_cases h : t.val * 8192 + (j 1).val < 100000
  · have hm : win1_5.moved (grid1.coords t) j = true := (win1_5.moved_iff _ j).mpr fun a =>
      match a with
      | ⟨0, _⟩ => by show (j 0).val < win1_5.xsize (grid1.coords t) 0; rw [hx0]; exact h0
      | ⟨1, _⟩ => by show (j 1).val < win1_5.xsize (grid1.coords t) 1; rw [hx1]; omega
    refine (dif_pos hm).trans (Eq.trans ?_ (dif_pos h).symm)
    exact read1_5 X t _ (j 0) ⟨_, h⟩ rfl rfl
  · have hm : ¬ win1_5.moved (grid1.coords t) j = true := fun hm => by
      have := (win1_5.moved_iff _ j).mp hm 1
      rw [hx1] at this; omega
    exact (dif_neg hm).trans (fb_neg (b := 16) X d t.val j h).symm

theorem geo1_3 (t : Fin grid1.N) : win1_3.index t 0 = 0 ∧ win1_3.index t 1 = t.val
    ∧ win1_3.xsize (grid1.coords t) 0 = 8 ∧ win1_3.xsize (grid1.coords t) 1 = min 8192 (100000 - t.val * 8192) := by
  rcases fin_N1 t with rfl | rfl | rfl | rfl | rfl | rfl | rfl | rfl | rfl | rfl | rfl | rfl | rfl <;> decide +kernel

/-- Reading block `t` of window 3 of call 1. -/
theorem read1_3 (X : (⟨2, ![8, 100000]⟩ : Shape).Idx → F .f32) (t : Fin grid1.N) (j : (win1_3.xblock (grid1.coords t)).Idx)
    (r : Fin 8) (l : Fin 100000) (hr : (j 0).val = r.val) (hl : t.val * 8192 + (j 1).val = l.val) :
    (win1_3.blk t).view.read (Elt F) X j = X (ix2 r l) := by
  obtain ⟨hi0, hi1, -, -⟩ := geo1_3 t
  show X ((win1_3.rect t).emb j) = _
  refine congrArg X (funext fun a => Fin.ext ?_)
  match a with
  | ⟨0, _⟩ =>
    show win1_3.index t 0 * 8 + 1 * (j 0).val = r.val
    rw [hi0]; omega
  | ⟨1, _⟩ =>
    show win1_3.index t 1 * 8192 + 1 * (j 1).val = l.val
    rw [hi1]; omega

/-- What the fetch of window 3 of call 1 fills its block with. -/
theorem fill1_3 (X : (⟨2, ![8, 100000]⟩ : Shape).Idx → F .f32) (t : Fin grid1.N) (d : (⟨2, ![8, 8192]⟩ : Shape).Idx → F .f32) :
    win1_3.fill (grid1.coords t) d ((win1_3.blk t).view.read (Elt F) X) = fb (b := 8) X d t.val := by
  obtain ⟨-, -, hx0, hx1⟩ := geo1_3 t
  funext j
  have h0 : (j 0).val < 8 := (j 0).isLt
  have h1 : (j 1).val < 8192 := (j 1).isLt
  by_cases h : t.val * 8192 + (j 1).val < 100000
  · have hm : win1_3.moved (grid1.coords t) j = true := (win1_3.moved_iff _ j).mpr fun a =>
      match a with
      | ⟨0, _⟩ => by show (j 0).val < win1_3.xsize (grid1.coords t) 0; rw [hx0]; exact h0
      | ⟨1, _⟩ => by show (j 1).val < win1_3.xsize (grid1.coords t) 1; rw [hx1]; omega
    refine (dif_pos hm).trans (Eq.trans ?_ (dif_pos h).symm)
    exact read1_3 X t _ (j 0) ⟨_, h⟩ rfl rfl
  · have hm : ¬ win1_3.moved (grid1.coords t) j = true := fun hm => by
      have := (win1_3.moved_iff _ j).mp hm 1
      rw [hx1] at this; omega
    exact (dif_neg hm).trans (fb_neg (b := 8) X d t.val j h).symm

theorem geo1_4 (t : Fin grid1.N) : (win1_4.index t 0 = 0 ∧ win1_4.index t 1 = 0 ∧ win1_4.index t 2 = t.val)
    ∧ win1_4.xsize (grid1.coords t) 0 = 4 ∧ win1_4.xsize (grid1.coords t) 1 = 16
    ∧ win1_4.xsize (grid1.coords t) 2 = min 8192 (100000 - t.val * 8192) := by
  rcases fin_N1 t with rfl | rfl | rfl | rfl | rfl | rfl | rfl | rfl | rfl | rfl | rfl | rfl | rfl <;> decide +kernel

/-- What the fetch of window 4 of call 1 fills its block with. -/
theorem fill1_4 (X : S4x16x100000.Idx → F .f32) (t : Fin grid1.N) (d : S4x16x8192.Idx → F .f32) :
    win1_4.fill (grid1.coords t) d ((win1_4.blk t).view.read (Elt F) X) = fb3 X d t.val := by
  obtain ⟨⟨hi0, hi1, hi2⟩, hx0, hx1, hx2⟩ := geo1_4 t
  funext j
  have h0 : (j 0).val < 4 := (j 0).isLt
  have h1 : (j 1).val < 16 := (j 1).isLt
  have h2 : (j 2).val < 8192 := (j 2).isLt
  by_cases h : t.val * 8192 + (j 2).val < 100000
  · have hm : win1_4.moved (grid1.coords t) j = true := (win1_4.moved_iff _ j).mpr fun a =>
      match a with
      | ⟨0, _⟩ => by show (j 0).val < win1_4.xsize (grid1.coords t) 0; rw [hx0]; exact h0
      | ⟨1, _⟩ => by show (j 1).val < win1_4.xsize (grid1.coords t) 1; rw [hx1]; exact h1
      | ⟨2, _⟩ => by show (j 2).val < win1_4.xsize (grid1.coords t) 2; rw [hx2]; omega
    refine (dif_pos hm).trans (Eq.trans ?_ (dif_pos h).symm)
    show X ((win1_4.rect t).emb _) = _
    refine congrArg X (funext fun a => Fin.ext ?_)
    match a with
    | ⟨0, _⟩ =>
      show win1_4.index t 0 * 4 + 1 * (j 0).val = (j 0).val
      rw [hi0]; omega
    | ⟨1, _⟩ =>
      show win1_4.index t 1 * 16 + 1 * (j 1).val = (j 1).val
      rw [hi1]; omega
    | ⟨2, _⟩ =>
      show win1_4.index t 2 * 8192 + 1 * (j 2).val = t.val * 8192 + (j 2).val
      rw [hi2]; omega
  · have hm : ¬ win1_4.moved (grid1.coords t) j = true := fun hm => by
      have := (win1_4.moved_iff _ j).mp hm 2
      rw [hx2] at this; omega
    exact (dif_neg hm).trans (fb3_neg X d t.val j h).symm

/-- Block `t` of output window 5 of call 1, filled out with anything, cuts back to the block. -/
theorem cut1_5 (X : (⟨2, ![16, 100000]⟩ : Shape).Idx → BitVec 32) (t : Fin grid1.N) (d : (⟨2, ![16, 8192]⟩ : Shape).Idx → BitVec 32) :
    win1_5.cut (grid1.coords t) (fb (b := 16) X d t.val) = (win1_5.blk t).view.read (Elt F) X := by
  rw [← fill1_5 (F := F) X t d]
  exact win1_5.cut_fill _ _ _

/-- The blocks of output window 5 of call 1 cover its array. -/
theorem cover1_5 (i : (⟨2, ![16, 100000]⟩ : Shape).Idx) : ∃ t : Fin grid1.N, i ∈ (win1_5.blk t).view.set := by
  have h0 : (i 0).val < 16 := (i 0).isLt
  have h1 : (i 1).val < 100000 := (i 1).isLt
  have hN := N_1
  refine ⟨⟨(i 1).val / 8192, by omega⟩, ?_⟩
  obtain ⟨hi0, hi1, hx0, hx1⟩ := geo1_5 ⟨(i 1).val / 8192, by omega⟩
  refine (ValueKit.mem_set_slice_whole_iff main_v63_0 (win1_5.rect _) i Rect.mem_set_unit).mpr ?_
  intro a
  match a with
  | ⟨0, _⟩ =>
    show win1_5.index _ 0 * 16 ≤ (i 0).val ∧ (i 0).val < win1_5.index _ 0 * 16 + win1_5.xsize _ 0
    rw [hi0, hx0]; omega
  | ⟨1, _⟩ =>
    show win1_5.index _ 1 * 8192 ≤ (i 1).val ∧ (i 1).val < win1_5.index _ 1 * 8192 + win1_5.xsize _ 1
    rw [hi1, hx1]; simp only; omega

/-- Window 2 of call 1 is its whole array. -/
theorem fill1_2 (X : S16x1.Idx → F .f32) (t : Fin grid1.N) : (win1_2.blk t).view.read (Elt F) X = X := by
  have hi : win1_2.index t 0 = 0 ∧ win1_2.index t 1 = 0 := by
    rcases fin_N1 t with rfl | rfl | rfl | rfl | rfl | rfl | rfl | rfl | rfl | rfl | rfl | rfl | rfl <;> decide +kernel
  funext j
  show X ((win1_2.rect t).emb j) = X j
  refine congrArg X (funext fun a => Fin.ext ?_)
  match a with
  | ⟨0, _⟩ =>
    show win1_2.index t 0 * 16 + 1 * (j 0).val = (j 0).val
    rw [hi.1]; omega
  | ⟨1, _⟩ =>
    show win1_2.index t 1 * 1 + 1 * (j 1).val = (j 1).val
    rw [hi.2]; omega

/-- Window 6 of call 1 is its whole array. -/
theorem fill1_6 (X : S16x1.Idx → F .f32) (t : Fin grid1.N) : (win1_6.blk t).view.read (Elt F) X = X := by
  have hi : win1_6.index t 0 = 0 ∧ win1_6.index t 1 = 0 := by
    rcases fin_N1 t with rfl | rfl | rfl | rfl | rfl | rfl | rfl | rfl | rfl | rfl | rfl | rfl | rfl <;> decide +kernel
  funext j
  show X ((win1_6.rect t).emb j) = X j
  refine congrArg X (funext fun a => Fin.ext ?_)
  match a with
  | ⟨0, _⟩ =>
    show win1_6.index t 0 * 16 + 1 * (j 0).val = (j 0).val
    rw [hi.1]; omega
  | ⟨1, _⟩ =>
    show win1_6.index t 1 * 1 + 1 * (j 1).val = (j 1).val
    rw [hi.2]; omega

/-- Window 7 of call 1 is its whole array. -/
theorem fill1_7 (X : S16x1.Idx → F .f32) (t : Fin grid1.N) : (win1_7.blk t).view.read (Elt F) X = X := by
  have hi : win1_7.index t 0 = 0 ∧ win1_7.index t 1 = 0 := by
    rcases fin_N1 t with rfl | rfl | rfl | rfl | rfl | rfl | rfl | rfl | rfl | rfl | rfl | rfl | rfl <;> decide +kernel
  funext j
  show X ((win1_7.rect t).emb j) = X j
  refine congrArg X (funext fun a => Fin.ext ?_)
  match a with
  | ⟨0, _⟩ =>
    show win1_7.index t 0 * 16 + 1 * (j 0).val = (j 0).val
    rw [hi.1]; omega
  | ⟨1, _⟩ =>
    show win1_7.index t 1 * 1 + 1 * (j 1).val = (j 1).val
    rw [hi.2]; omega

/-- The one block of output window 6 of call 1 is its array. -/
theorem cover1_6 (i : S16x1.Idx) (t : Fin grid1.N) : i ∈ (win1_6.blk t).view.set := by
  have h0 : (i 0).val < 16 := (i 0).isLt
  have h1 : (i 1).val < 1 := (i 1).isLt
  have hi : win1_6.index t 0 = 0 ∧ win1_6.index t 1 = 0 := by
    rcases fin_N1 t with rfl | rfl | rfl | rfl | rfl | rfl | rfl | rfl | rfl | rfl | rfl | rfl | rfl <;> decide +kernel
  refine (ValueKit.mem_set_slice_whole_iff main_v63_1 (win1_6.rect _) i Rect.mem_set_unit).mpr ?_
  intro a
  match a with
  | ⟨0, _⟩ =>
    show win1_6.index _ 0 * 16 ≤ (i 0).val ∧ (i 0).val < win1_6.index _ 0 * 16 + 16
    rw [hi.1]; omega
  | ⟨1, _⟩ =>
    show win1_6.index _ 1 * 1 ≤ (i 1).val ∧ (i 1).val < win1_6.index _ 1 * 1 + 1
    rw [hi.2]; omega

/-- The one block of output window 7 of call 1 is its array. -/
theorem cover1_7 (i : S16x1.Idx) (t : Fin grid1.N) : i ∈ (win1_7.blk t).view.set := by
  have h0 : (i 0).val < 16 := (i 0).isLt
  have h1 : (i 1).val < 1 := (i 1).isLt
  have hi : win1_7.index t 0 = 0 ∧ win1_7.index t 1 = 0 := by
    rcases fin_N1 t with rfl | rfl | rfl | rfl | rfl | rfl | rfl | rfl | rfl | rfl | rfl | rfl | rfl <;> decide +kernel
  refine (ValueKit.mem_set_slice_whole_iff main_v63_2 (win1_7.rect _) i Rect.mem_set_unit).mpr ?_
  intro a
  match a with
  | ⟨0, _⟩ =>
    show win1_7.index _ 0 * 16 ≤ (i 0).val ∧ (i 0).val < win1_7.index _ 0 * 16 + 16
    rw [hi.1]; omega
  | ⟨1, _⟩ =>
    show win1_7.index _ 1 * 1 ≤ (i 1).val ∧ (i 1).val < win1_7.index _ 1 * 1 + 1
    rw [hi.2]; omega

theorem geo2_0 (t : Fin grid2.N) : win2_0.index t 0 = 0 ∧ win2_0.index t 1 = t.val
    ∧ win2_0.xsize (grid2.coords t) 0 = 16 ∧ win2_0.xsize (grid2.coords t) 1 = min 8192 (100000 - t.val * 8192) := by
  rcases fin_N2 t with rfl | rfl | rfl | rfl | rfl | rfl | rfl | rfl | rfl | rfl | rfl | rfl | rfl <;> decide +kernel

/-- Reading block `t` of window 0 of call 2. -/
theorem read2_0 (X : (⟨2, ![16, 100000]⟩ : Shape).Idx → BitVec 32) (t : Fin grid2.N) (j : (win2_0.xblock (grid2.coords t)).Idx)
    (r : Fin 16) (l : Fin 100000) (hr : (j 0).val = r.val) (hl : t.val * 8192 + (j 1).val = l.val) :
    (win2_0.blk t).view.read (Elt F) X j = X (ix2 r l) := by
  obtain ⟨hi0, hi1, -, -⟩ := geo2_0 t
  show X ((win2_0.rect t).emb j) = _
  refine congrArg X (funext fun a => Fin.ext ?_)
  match a with
  | ⟨0, _⟩ =>
    show win2_0.index t 0 * 16 + 1 * (j 0).val = r.val
    rw [hi0]; omega
  | ⟨1, _⟩ =>
    show win2_0.index t 1 * 8192 + 1 * (j 1).val = l.val
    rw [hi1]; omega

/-- What the fetch of window 0 of call 2 fills its block with. -/
theorem fill2_0 (X : (⟨2, ![16, 100000]⟩ : Shape).Idx → BitVec 32) (t : Fin grid2.N) (d : (⟨2, ![16, 8192]⟩ : Shape).Idx → BitVec 32) :
    win2_0.fill (grid2.coords t) d ((win2_0.blk t).view.read (Elt F) X) = fb (b := 16) X d t.val := by
  obtain ⟨-, -, hx0, hx1⟩ := geo2_0 t
  funext j
  have h0 : (j 0).val < 16 := (j 0).isLt
  have h1 : (j 1).val < 8192 := (j 1).isLt
  by_cases h : t.val * 8192 + (j 1).val < 100000
  · have hm : win2_0.moved (grid2.coords t) j = true := (win2_0.moved_iff _ j).mpr fun a =>
      match a with
      | ⟨0, _⟩ => by show (j 0).val < win2_0.xsize (grid2.coords t) 0; rw [hx0]; exact h0
      | ⟨1, _⟩ => by show (j 1).val < win2_0.xsize (grid2.coords t) 1; rw [hx1]; omega
    refine (dif_pos hm).trans (Eq.trans ?_ (dif_pos h).symm)
    exact read2_0 X t _ (j 0) ⟨_, h⟩ rfl rfl
  · have hm : ¬ win2_0.moved (grid2.coords t) j = true := fun hm => by
      have := (win2_0.moved_iff _ j).mp hm 1
      rw [hx1] at this; omega
    exact (dif_neg hm).trans (fb_neg (b := 16) X d t.val j h).symm

theorem geo2_1 (t : Fin grid2.N) : win2_1.index t 0 = 0 ∧ win2_1.index t 1 = t.val
    ∧ win2_1.xsize (grid2.coords t) 0 = 16 ∧ win2_1.xsize (grid2.coords t) 1 = min 8192 (100000 - t.val * 8192) := by
  rcases fin_N2 t with rfl | rfl | rfl | rfl | rfl | rfl | rfl | rfl | rfl | rfl | rfl | rfl | rfl <;> decide +kernel

/-- Reading block `t` of window 1 of call 2. -/
theorem read2_1 (X : (⟨2, ![16, 100000]⟩ : Shape).Idx → BitVec 32) (t : Fin grid2.N) (j : (win2_1.xblock (grid2.coords t)).Idx)
    (r : Fin 16) (l : Fin 100000) (hr : (j 0).val = r.val) (hl : t.val * 8192 + (j 1).val = l.val) :
    (win2_1.blk t).view.read (Elt F) X j = X (ix2 r l) := by
  obtain ⟨hi0, hi1, -, -⟩ := geo2_1 t
  show X ((win2_1.rect t).emb j) = _
  refine congrArg X (funext fun a => Fin.ext ?_)
  match a with
  | ⟨0, _⟩ =>
    show win2_1.index t 0 * 16 + 1 * (j 0).val = r.val
    rw [hi0]; omega
  | ⟨1, _⟩ =>
    show win2_1.index t 1 * 8192 + 1 * (j 1).val = l.val
    rw [hi1]; omega

/-- What the fetch of window 1 of call 2 fills its block with. -/
theorem fill2_1 (X : (⟨2, ![16, 100000]⟩ : Shape).Idx → BitVec 32) (t : Fin grid2.N) (d : (⟨2, ![16, 8192]⟩ : Shape).Idx → BitVec 32) :
    win2_1.fill (grid2.coords t) d ((win2_1.blk t).view.read (Elt F) X) = fb (b := 16) X d t.val := by
  obtain ⟨-, -, hx0, hx1⟩ := geo2_1 t
  funext j
  have h0 : (j 0).val < 16 := (j 0).isLt
  have h1 : (j 1).val < 8192 := (j 1).isLt
  by_cases h : t.val * 8192 + (j 1).val < 100000
  · have hm : win2_1.moved (grid2.coords t) j = true := (win2_1.moved_iff _ j).mpr fun a =>
      match a with
      | ⟨0, _⟩ => by show (j 0).val < win2_1.xsize (grid2.coords t) 0; rw [hx0]; exact h0
      | ⟨1, _⟩ => by show (j 1).val < win2_1.xsize (grid2.coords t) 1; rw [hx1]; omega
    refine (dif_pos hm).trans (Eq.trans ?_ (dif_pos h).symm)
    exact read2_1 X t _ (j 0) ⟨_, h⟩ rfl rfl
  · have hm : ¬ win2_1.moved (grid2.coords t) j = true := fun hm => by
      have := (win2_1.moved_iff _ j).mp hm 1
      rw [hx1] at this; omega
    exact (dif_neg hm).trans (fb_neg (b := 16) X d t.val j h).symm

theorem geo2_3 (t : Fin grid2.N) : win2_3.index t 0 = 0 ∧ win2_3.index t 1 = t.val
    ∧ win2_3.xsize (grid2.coords t) 0 = 16 ∧ win2_3.xsize (grid2.coords t) 1 = min 8192 (100000 - t.val * 8192) := by
  rcases fin_N2 t with rfl | rfl | rfl | rfl | rfl | rfl | rfl | rfl | rfl | rfl | rfl | rfl | rfl <;> decide +kernel

/-- Reading block `t` of window 3 of call 2. -/
theorem read2_3 (X : (⟨2, ![16, 100000]⟩ : Shape).Idx → BitVec 32) (t : Fin grid2.N) (j : (win2_3.xblock (grid2.coords t)).Idx)
    (r : Fin 16) (l : Fin 100000) (hr : (j 0).val = r.val) (hl : t.val * 8192 + (j 1).val = l.val) :
    (win2_3.blk t).view.read (Elt F) X j = X (ix2 r l) := by
  obtain ⟨hi0, hi1, -, -⟩ := geo2_3 t
  show X ((win2_3.rect t).emb j) = _
  refine congrArg X (funext fun a => Fin.ext ?_)
  match a with
  | ⟨0, _⟩ =>
    show win2_3.index t 0 * 16 + 1 * (j 0).val = r.val
    rw [hi0]; omega
  | ⟨1, _⟩ =>
    show win2_3.index t 1 * 8192 + 1 * (j 1).val = l.val
    rw [hi1]; omega

/-- What the fetch of window 3 of call 2 fills its block with. -/
theorem fill2_3 (X : (⟨2, ![16, 100000]⟩ : Shape).Idx → BitVec 32) (t : Fin grid2.N) (d : (⟨2, ![16, 8192]⟩ : Shape).Idx → BitVec 32) :
    win2_3.fill (grid2.coords t) d ((win2_3.blk t).view.read (Elt F) X) = fb (b := 16) X d t.val := by
  obtain ⟨-, -, hx0, hx1⟩ := geo2_3 t
  funext j
  have h0 : (j 0).val < 16 := (j 0).isLt
  have h1 : (j 1).val < 8192 := (j 1).isLt
  by_cases h : t.val * 8192 + (j 1).val < 100000
  · have hm : win2_3.moved (grid2.coords t) j = true := (win2_3.moved_iff _ j).mpr fun a =>
      match a with
      | ⟨0, _⟩ => by show (j 0).val < win2_3.xsize (grid2.coords t) 0; rw [hx0]; exact h0
      | ⟨1, _⟩ => by show (j 1).val < win2_3.xsize (grid2.coords t) 1; rw [hx1]; omega
    refine (dif_pos hm).trans (Eq.trans ?_ (dif_pos h).symm)
    exact read2_3 X t _ (j 0) ⟨_, h⟩ rfl rfl
  · have hm : ¬ win2_3.moved (grid2.coords t) j = true := fun hm => by
      have := (win2_3.moved_iff _ j).mp hm 1
      rw [hx1] at this; omega
    exact (dif_neg hm).trans (fb_neg (b := 16) X d t.val j h).symm

theorem geo2_5 (t : Fin grid2.N) : win2_5.index t 0 = 0 ∧ win2_5.index t 1 = t.val
    ∧ win2_5.xsize (grid2.coords t) 0 = 16 ∧ win2_5.xsize (grid2.coords t) 1 = min 8192 (100000 - t.val * 8192) := by
  rcases fin_N2 t with rfl | rfl | rfl | rfl | rfl | rfl | rfl | rfl | rfl | rfl | rfl | rfl | rfl <;> decide +kernel

/-- Reading block `t` of window 5 of call 2. -/
theorem read2_5 (X : (⟨2, ![16, 100000]⟩ : Shape).Idx → BitVec 32) (t : Fin grid2.N) (j : (win2_5.xblock (grid2.coords t)).Idx)
    (r : Fin 16) (l : Fin 100000) (hr : (j 0).val = r.val) (hl : t.val * 8192 + (j 1).val = l.val) :
    (win2_5.blk t).view.read (Elt F) X j = X (ix2 r l) := by
  obtain ⟨hi0, hi1, -, -⟩ := geo2_5 t
  show X ((win2_5.rect t).emb j) = _
  refine congrArg X (funext fun a => Fin.ext ?_)
  match a with
  | ⟨0, _⟩ =>
    show win2_5.index t 0 * 16 + 1 * (j 0).val = r.val
    rw [hi0]; omega
  | ⟨1, _⟩ =>
    show win2_5.index t 1 * 8192 + 1 * (j 1).val = l.val
    rw [hi1]; omega

/-- What the fetch of window 5 of call 2 fills its block with. -/
theorem fill2_5 (X : (⟨2, ![16, 100000]⟩ : Shape).Idx → BitVec 32) (t : Fin grid2.N) (d : (⟨2, ![16, 8192]⟩ : Shape).Idx → BitVec 32) :
    win2_5.fill (grid2.coords t) d ((win2_5.blk t).view.read (Elt F) X) = fb (b := 16) X d t.val := by
  obtain ⟨-, -, hx0, hx1⟩ := geo2_5 t
  funext j
  have h0 : (j 0).val < 16 := (j 0).isLt
  have h1 : (j 1).val < 8192 := (j 1).isLt
  by_cases h : t.val * 8192 + (j 1).val < 100000
  · have hm : win2_5.moved (grid2.coords t) j = true := (win2_5.moved_iff _ j).mpr fun a =>
      match a with
      | ⟨0, _⟩ => by show (j 0).val < win2_5.xsize (grid2.coords t) 0; rw [hx0]; exact h0
      | ⟨1, _⟩ => by show (j 1).val < win2_5.xsize (grid2.coords t) 1; rw [hx1]; omega
    refine (dif_pos hm).trans (Eq.trans ?_ (dif_pos h).symm)
    exact read2_5 X t _ (j 0) ⟨_, h⟩ rfl rfl
  · have hm : ¬ win2_5.moved (grid2.coords t) j = true := fun hm => by
      have := (win2_5.moved_iff _ j).mp hm 1
      rw [hx1] at this; omega
    exact (dif_neg hm).trans (fb_neg (b := 16) X d t.val j h).symm

/-- Block `t` of output window 5 of call 2, filled out with anything, cuts back to the block. -/
theorem cut2_5 (X : (⟨2, ![16, 100000]⟩ : Shape).Idx → BitVec 32) (t : Fin grid2.N) (d : (⟨2, ![16, 8192]⟩ : Shape).Idx → BitVec 32) :
    win2_5.cut (grid2.coords t) (fb (b := 16) X d t.val) = (win2_5.blk t).view.read (Elt F) X := by
  rw [← fill2_5 (F := F) X t d]
  exact win2_5.cut_fill _ _ _

/-- The blocks of output window 5 of call 2 cover its array. -/
theorem cover2_5 (i : (⟨2, ![16, 100000]⟩ : Shape).Idx) : ∃ t : Fin grid2.N, i ∈ (win2_5.blk t).view.set := by
  have h0 : (i 0).val < 16 := (i 0).isLt
  have h1 : (i 1).val < 100000 := (i 1).isLt
  have hN := N_2
  refine ⟨⟨(i 1).val / 8192, by omega⟩, ?_⟩
  obtain ⟨hi0, hi1, hx0, hx1⟩ := geo2_5 ⟨(i 1).val / 8192, by omega⟩
  refine (ValueKit.mem_set_slice_whole_iff main_v126 (win2_5.rect _) i Rect.mem_set_unit).mpr ?_
  intro a
  match a with
  | ⟨0, _⟩ =>
    show win2_5.index _ 0 * 16 ≤ (i 0).val ∧ (i 0).val < win2_5.index _ 0 * 16 + win2_5.xsize _ 0
    rw [hi0, hx0]; omega
  | ⟨1, _⟩ =>
    show win2_5.index _ 1 * 8192 ≤ (i 1).val ∧ (i 1).val < win2_5.index _ 1 * 8192 + win2_5.xsize _ 1
    rw [hi1, hx1]; simp only; omega

/-- Window 2 of call 2 is its whole array. -/
theorem fill2_2 (X : S16x1.Idx → F .f32) (t : Fin grid2.N) : (win2_2.blk t).view.read (Elt F) X = X := by
  have hi : win2_2.index t 0 = 0 ∧ win2_2.index t 1 = 0 := by
    rcases fin_N2 t with rfl | rfl | rfl | rfl | rfl | rfl | rfl | rfl | rfl | rfl | rfl | rfl | rfl <;> decide +kernel
  funext j
  show X ((win2_2.rect t).emb j) = X j
  refine congrArg X (funext fun a => Fin.ext ?_)
  match a with
  | ⟨0, _⟩ =>
    show win2_2.index t 0 * 16 + 1 * (j 0).val = (j 0).val
    rw [hi.1]; omega
  | ⟨1, _⟩ =>
    show win2_2.index t 1 * 1 + 1 * (j 1).val = (j 1).val
    rw [hi.2]; omega

/-- Window 4 of call 2 is its whole array. -/
theorem fill2_4 (X : S16x1.Idx → F .f32) (t : Fin grid2.N) : (win2_4.blk t).view.read (Elt F) X = X := by
  have hi : win2_4.index t 0 = 0 ∧ win2_4.index t 1 = 0 := by
    rcases fin_N2 t with rfl | rfl | rfl | rfl | rfl | rfl | rfl | rfl | rfl | rfl | rfl | rfl | rfl <;> decide +kernel
  funext j
  show X ((win2_4.rect t).emb j) = X j
  refine congrArg X (funext fun a => Fin.ext ?_)
  match a with
  | ⟨0, _⟩ =>
    show win2_4.index t 0 * 16 + 1 * (j 0).val = (j 0).val
    rw [hi.1]; omega
  | ⟨1, _⟩ =>
    show win2_4.index t 1 * 1 + 1 * (j 1).val = (j 1).val
    rw [hi.2]; omega

end Cert.KernelIdeal.Own

end
-- ==== Proof.Body0.lean ====
module

public import proofs.«01_k».proof.Proof.Gen.KernelIdeal.Launch
public import proofs.«01_k».proof.Proof.Gen.KernelIdeal.Points
public import proofs.«01_k».proof.Proof.Gen.KernelIdeal.Skeleton
public import Idealize.ShloMosaic.Lib.Pipeline.TableIdle
public import Idealize.ShloMosaic.Lib.Tactic
public import proofs.«01_k».proof.Proof.Spec

@[expose] public section

noncomputable section

namespace Cert.KernelIdeal.Own

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

/-- The ghost monoid of the launch. -/
abbrev UU : Type := UR sig nD τ

local notation "𝕄" => MT nD τ sig Unit (Elt F) ℕ UU ℕ

/-- A load through the whole-shape rectangle at zero offsets reads what the memref reads. -/
theorem rdz {sp : Space} {S : Shape} {e : EltTy} {V : EltTy → Type} (v : View sig .tc sp S e) {off : Fin S.rank → Nat} (h : off = fun _ => 0)
    (inb : ∀ a, off a + S.size a ≤ S.size a) (f : v.ty.Contents V) :
    v.readAt V (Rect.unit off S.size inb).toLoadRect f = v.read V f := by
  subst h; funext x
  show v.read V f ((Rect.whole S).emb x) = _
  rw [Rect.emb_whole_apply]

/-- After stores the last of which is through that rectangle, the memref reads the last payload. -/
theorem wrz {sp : Space} {S : Shape} {e : EltTy} {V : EltTy → Type} [∀ e, Nonempty (V e)] (v : View sig .tc sp S e) {off : Fin S.rank → Nat} (h : off = fun _ => 0)
    (inb : ∀ a, off a + S.size a ≤ S.size a) (f : v.ty.Contents V) (p : S.Idx → V e) (L : List (View.Piece V S e)) :
    v.read V (v.writes V f ((⟨Rect.unit off S.size inb, p⟩ : View.Piece V S e) :: L)) = p := by
  rw [View.read_writes_eq_canon _ _ _ (fun y => ⟨_, List.mem_cons_self, View.mem_set_unit_zero h inb y⟩), View.canon_cons_unit_zero h]

theorem hz2 : (![0, 0] : Fin 2 → Nat) = fun _ => 0 := funext fun a => by fin_cases a <;> rfl
theorem hz3 : (![0, 0, 0] : Fin 3 → Nat) = fun _ => 0 := funext fun a => by fin_cases a <;> rfl

set_option maxHeartbeats 4000000 in
/-- Call 0's body at a first grid point: the proposal, and the accumulated sums of its log-probabilities. -/
theorem body0_first (c : Dev nD) (E : Set ℕ) (i : grid0.Coords)
    (hc1 : (Scalar.cmpi .ne (Scalar.extui (Scalar.cmpi .eq (BitVec.ofNat 32 (i 0).val) 0#32) : BitVec 32) 0#32 = 1#1))
    (hc2 : ¬(k0_cond2 i = 1#1))
    (M1 : Memref sig .tc .vmem S16x8192 .i32) (h1 : M1.IsWhole)
    (M2 : Memref sig .tc .vmem S16x8192 .i32) (h2 : M2.IsWhole)
    (M3 : Memref sig .tc .vmem S16x1 .f32) (h3 : M3.IsWhole)
    (M4 : Memref sig .tc .vmem S8x8192 .f32) (h4 : M4.IsWhole)
    (M5 : Memref sig .tc .vmem S4x16x8192 .f32) (h5 : M5.IsWhole)
    (M6 : Memref sig .tc .vmem S16x8192 .i32) (h6 : M6.IsWhole)
    (M7 : Memref sig .tc .vmem S16x1 .f32) (h7 : M7.IsWhole)
    (M8 : Memref sig .tc .vmem S16x1 .f32) (h8 : M8.IsWhole)
    (M9 : Memref sig .tc .vmem S16x128 .f32) (h9 : M9.IsWhole)
    (M10 : Memref sig .tc .vmem S16x128 .f32) (h10 : M10.IsWhole)
    (X1 : S16x8192.Idx → Elt F .i32) (X2 : S16x8192.Idx → Elt F .i32) (X3 : S16x1.Idx → Elt F .f32) (X4 : S8x8192.Idx → Elt F .f32) (X5 : S4x16x8192.Idx → Elt F .f32) (X6 : S16x8192.Idx → Elt F .i32) (X7 : S16x1.Idx → Elt F .f32) (X8 : S16x1.Idx → Elt F .f32) (X9 : S16x128.Idx → Elt F .f32) (X10 : S16x128.Idx → Elt F .f32) (K : PUnit → sProp 𝕄) :
    iprop((owns (c : Thread nD τ) M1 fullShare X1 ∗ owns (c : Thread nD τ) M2 fullShare X2 ∗ owns (c : Thread nD τ) M3 fullShare X3 ∗ owns (c : Thread nD τ) M4 fullShare X4 ∗ owns (c : Thread nD τ) M5 fullShare X5 ∗ owns (c : Thread nD τ) M6 fullShare X6 ∗ owns (c : Thread nD τ) M7 fullShare X7 ∗ owns (c : Thread nD τ) M8 fullShare X8 ∗ owns (c : Thread nD τ) M9 fullShare X9 ∗ owns (c : Thread nD τ) M10 fullShare X10)
      ∗ (iprop(owns (c : Thread nD τ) M1 fullShare X1 ∗ owns (c : Thread nD τ) M2 fullShare X2 ∗ owns (c : Thread nD τ) M3 fullShare X3 ∗ owns (c : Thread nD τ) M4 fullShare X4 ∗ owns (c : Thread nD τ) M5 fullShare X5 ∗ owns (c : Thread nD τ) M6 fullShare (idxV X1 X2 X3 X4 X5) ∗ owns (c : Thread nD τ) M7 fullShare X7 ∗ owns (c : Thread nD τ) M8 fullShare X8 ∗ owns (c : Thread nD τ) M9 fullShare (accV (lfV (BitVec.ofNat 32 (i 0).val) X1 X2 X3 X4 X5) zeroV) ∗ owns (c : Thread nD τ) M10 fullShare (accV (lrV (BitVec.ofNat 32 (i 0).val) X1 X2 X3 X4 X5) zeroV)) -∗ K ⟨⟩))
      ⊢ wp frame (wpE (defs₀ (F := F)) Variants.none c none) E (cc0__step_kernel i M1 h1 M2 h2 M3 h3 M4 h4 M5 h5 M6 h6 M7 h7 M8 h8 M9 h9 M10 h10) K := by
  rw [cc0__step_kernel_eq_skeleton]
  unfold owns
  iintro ⟨⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩⟩, Hk⟩
  unfold cc0__step_kernel_skel
  sl_exec_parts
  sl_step
  have e1 : M1.view.readAt (Elt F) (Rect.unit ![0, 0] S16x8192.size inb_S16x8192_S16x8192_0_0).toLoadRect f1 = X1 := (rdz (S := S16x8192) M1.view hz2 inb_S16x8192_S16x8192_0_0 f1).trans hf1
  have e2 : M2.view.readAt (Elt F) (Rect.unit ![0, 0] S16x8192.size inb_S16x8192_S16x8192_0_0).toLoadRect f2 = X2 := (rdz (S := S16x8192) M2.view hz2 inb_S16x8192_S16x8192_0_0 f2).trans hf2
  have e3 : M3.view.readAt (Elt F) (Rect.unit ![0, 0] S16x1.size inb_S16x1_S16x1_0_0).toLoadRect f3 = X3 := (rdz (S := S16x1) M3.view hz2 inb_S16x1_S16x1_0_0 f3).trans hf3
  have e4 : M4.view.readAt (Elt F) (Rect.unit ![0, 0] S8x8192.size inb_S8x8192_S8x8192_0_0).toLoadRect f4 = X4 := (rdz (S := S8x8192) M4.view hz2 inb_S8x8192_S8x8192_0_0 f4).trans hf4
  have e5 : M5.view.readAt (Elt F) (Rect.unit ![0, 0, 0] S4x16x8192.size inb_S4x16x8192_S4x16x8192_0_0_0).toLoadRect f5 = X5 := (rdz (S := S4x16x8192) M5.view hz3 inb_S4x16x8192_S4x16x8192_0_0_0 f5).trans hf5
  subst e1 e2 e3 e4 e5
  iapply Hk
  isplitl [H1]
  · iexists f1; isplitr; ipureintro; exact hf1; iexact H1
  isplitl [H2]
  · iexists f2; isplitr; ipureintro; exact hf2; iexact H2
  isplitl [H3]
  · iexists f3; isplitr; ipureintro; exact hf3; iexact H3
  isplitl [H4]
  · iexists f4; isplitr; ipureintro; exact hf4; iexact H4
  isplitl [H5]
  · iexists f5; isplitr; ipureintro; exact hf5; iexact H5
  isplitl [H6]
  · iexists _; isplitr; swap
    · iexact H6
    · ipureintro
      refine (wrz _ hz2 _ _ _ _).trans ?_
      show idx0 (M1.view.readAt (Elt F) (Rect.unit ![0, 0] S16x8192.size inb_S16x8192_S16x8192_0_0).toLoadRect f1) (M2.view.readAt (Elt F) (Rect.unit ![0, 0] S16x8192.size inb_S16x8192_S16x8192_0_0).toLoadRect f2) (M3.view.readAt (Elt F) (Rect.unit ![0, 0] S16x1.size inb_S16x1_S16x1_0_0).toLoadRect f3) (M4.view.readAt (Elt F) (Rect.unit ![0, 0] S8x8192.size inb_S8x8192_S8x8192_0_0).toLoadRect f4) (M5.view.readAt (Elt F) (Rect.unit ![0, 0, 0] S4x16x8192.size inb_S4x16x8192_S4x16x8192_0_0_0).toLoadRect f5) = _
      rw [idx_eq0]
  isplitl [H7]
  · iexists f7; isplitr; ipureintro; exact hf7; iexact H7
  isplitl [H8]
  · iexists f8; isplitr; ipureintro; exact hf8; iexact H8
  isplitl [H9]
  · iexists _; isplitr; swap
    · iexact H9
    · ipureintro
      refine (wrz _ hz2 _ _ _ _).trans ?_
      show accF0 (BitVec.ofNat 32 (i 0).val) (M1.view.readAt (Elt F) (Rect.unit ![0, 0] S16x8192.size inb_S16x8192_S16x8192_0_0).toLoadRect f1) (M2.view.readAt (Elt F) (Rect.unit ![0, 0] S16x8192.size inb_S16x8192_S16x8192_0_0).toLoadRect f2) (M3.view.readAt (Elt F) (Rect.unit ![0, 0] S16x1.size inb_S16x1_S16x1_0_0).toLoadRect f3) (M4.view.readAt (Elt F) (Rect.unit ![0, 0] S8x8192.size inb_S8x8192_S8x8192_0_0).toLoadRect f4) (M5.view.readAt (Elt F) (Rect.unit ![0, 0, 0] S4x16x8192.size inb_S4x16x8192_S4x16x8192_0_0_0).toLoadRect f5) (M9.view.readCov [(⟨(Rect.unit ![0, 0] S16x128.size inb_S16x128_S16x128_0_0), k0_pay6⟩ : View.Piece (Elt F) S16x128 .f32)] (Rect.unit ![0, 0] S16x128.size inb_S16x128_S16x128_0_0).toLoadRect) = _
      rw [View.readCov_unit_zero _ hz2, accF_eq0, zF0]
  · iexists _; isplitr; swap
    · iexact H10
    · ipureintro
      refine (wrz _ hz2 _ _ _ _).trans ?_
      show accR0 (BitVec.ofNat 32 (i 0).val) (M1.view.readAt (Elt F) (Rect.unit ![0, 0] S16x8192.size inb_S16x8192_S16x8192_0_0).toLoadRect f1) (M2.view.readAt (Elt F) (Rect.unit ![0, 0] S16x8192.size inb_S16x8192_S16x8192_0_0).toLoadRect f2) (M3.view.readAt (Elt F) (Rect.unit ![0, 0] S16x1.size inb_S16x1_S16x1_0_0).toLoadRect f3) (M4.view.readAt (Elt F) (Rect.unit ![0, 0] S8x8192.size inb_S8x8192_S8x8192_0_0).toLoadRect f4) (M5.view.readAt (Elt F) (Rect.unit ![0, 0, 0] S4x16x8192.size inb_S4x16x8192_S4x16x8192_0_0_0).toLoadRect f5) (M10.view.readCov [(⟨(Rect.unit ![0, 0] S16x128.size inb_S16x128_S16x128_0_0), k0_pay7⟩ : View.Piece (Elt F) S16x128 .f32)] (Rect.unit ![0, 0] S16x128.size inb_S16x128_S16x128_0_0).toLoadRect) = _
      rw [View.readCov_unit_zero _ hz2, accR_eq0, zR0]

set_option maxHeartbeats 4000000 in
/-- Call 0's body at a mid grid point: the proposal, and the accumulated sums of its log-probabilities. -/
theorem body0_mid (c : Dev nD) (E : Set ℕ) (i : grid0.Coords)
    (hc1 : ¬(Scalar.cmpi .ne (Scalar.extui (Scalar.cmpi .eq (BitVec.ofNat 32 (i 0).val) 0#32) : BitVec 32) 0#32 = 1#1))
    (hc2 : ¬(k0_cond2 i = 1#1))
    (M1 : Memref sig .tc .vmem S16x8192 .i32) (h1 : M1.IsWhole)
    (M2 : Memref sig .tc .vmem S16x8192 .i32) (h2 : M2.IsWhole)
    (M3 : Memref sig .tc .vmem S16x1 .f32) (h3 : M3.IsWhole)
    (M4 : Memref sig .tc .vmem S8x8192 .f32) (h4 : M4.IsWhole)
    (M5 : Memref sig .tc .vmem S4x16x8192 .f32) (h5 : M5.IsWhole)
    (M6 : Memref sig .tc .vmem S16x8192 .i32) (h6 : M6.IsWhole)
    (M7 : Memref sig .tc .vmem S16x1 .f32) (h7 : M7.IsWhole)
    (M8 : Memref sig .tc .vmem S16x1 .f32) (h8 : M8.IsWhole)
    (M9 : Memref sig .tc .vmem S16x128 .f32) (h9 : M9.IsWhole)
    (M10 : Memref sig .tc .vmem S16x128 .f32) (h10 : M10.IsWhole)
    (X1 : S16x8192.Idx → Elt F .i32) (X2 : S16x8192.Idx → Elt F .i32) (X3 : S16x1.Idx → Elt F .f32) (X4 : S8x8192.Idx → Elt F .f32) (X5 : S4x16x8192.Idx → Elt F .f32) (X6 : S16x8192.Idx → Elt F .i32) (X7 : S16x1.Idx → Elt F .f32) (X8 : S16x1.Idx → Elt F .f32) (X9 : S16x128.Idx → Elt F .f32) (X10 : S16x128.Idx → Elt F .f32) (K : PUnit → sProp 𝕄) :
    iprop((owns (c : Thread nD τ) M1 fullShare X1 ∗ owns (c : Thread nD τ) M2 fullShare X2 ∗ owns (c : Thread nD τ) M3 fullShare X3 ∗ owns (c : Thread nD τ) M4 fullShare X4 ∗ owns (c : Thread nD τ) M5 fullShare X5 ∗ owns (c : Thread nD τ) M6 fullShare X6 ∗ owns (c : Thread nD τ) M7 fullShare X7 ∗ owns (c : Thread nD τ) M8 fullShare X8 ∗ owns (c : Thread nD τ) M9 fullShare X9 ∗ owns (c : Thread nD τ) M10 fullShare X10)
      ∗ (iprop(owns (c : Thread nD τ) M1 fullShare X1 ∗ owns (c : Thread nD τ) M2 fullShare X2 ∗ owns (c : Thread nD τ) M3 fullShare X3 ∗ owns (c : Thread nD τ) M4 fullShare X4 ∗ owns (c : Thread nD τ) M5 fullShare X5 ∗ owns (c : Thread nD τ) M6 fullShare (idxV X1 X2 X3 X4 X5) ∗ owns (c : Thread nD τ) M7 fullShare X7 ∗ owns (c : Thread nD τ) M8 fullShare X8 ∗ owns (c : Thread nD τ) M9 fullShare (accV (lfV (BitVec.ofNat 32 (i 0).val) X1 X2 X3 X4 X5) X9) ∗ owns (c : Thread nD τ) M10 fullShare (accV (lrV (BitVec.ofNat 32 (i 0).val) X1 X2 X3 X4 X5) X10)) -∗ K ⟨⟩))
      ⊢ wp frame (wpE (defs₀ (F := F)) Variants.none c none) E (cc0__step_kernel i M1 h1 M2 h2 M3 h3 M4 h4 M5 h5 M6 h6 M7 h7 M8 h8 M9 h9 M10 h10) K := by
  rw [cc0__step_kernel_eq_skeleton]
  unfold owns
  iintro ⟨⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩⟩, Hk⟩
  unfold cc0__step_kernel_skel
  sl_exec_parts
  sl_step
  have e1 : M1.view.readAt (Elt F) (Rect.unit ![0, 0] S16x8192.size inb_S16x8192_S16x8192_0_0).toLoadRect f1 = X1 := (rdz (S := S16x8192) M1.view hz2 inb_S16x8192_S16x8192_0_0 f1).trans hf1
  have e2 : M2.view.readAt (Elt F) (Rect.unit ![0, 0] S16x8192.size inb_S16x8192_S16x8192_0_0).toLoadRect f2 = X2 := (rdz (S := S16x8192) M2.view hz2 inb_S16x8192_S16x8192_0_0 f2).trans hf2
  have e3 : M3.view.readAt (Elt F) (Rect.unit ![0, 0] S16x1.size inb_S16x1_S16x1_0_0).toLoadRect f3 = X3 := (rdz (S := S16x1) M3.view hz2 inb_S16x1_S16x1_0_0 f3).trans hf3
  have e4 : M4.view.readAt (Elt F) (Rect.unit ![0, 0] S8x8192.size inb_S8x8192_S8x8192_0_0).toLoadRect f4 = X4 := (rdz (S := S8x8192) M4.view hz2 inb_S8x8192_S8x8192_0_0 f4).trans hf4
  have e5 : M5.view.readAt (Elt F) (Rect.unit ![0, 0, 0] S4x16x8192.size inb_S4x16x8192_S4x16x8192_0_0_0).toLoadRect f5 = X5 := (rdz (S := S4x16x8192) M5.view hz3 inb_S4x16x8192_S4x16x8192_0_0_0 f5).trans hf5
  have e9 : M9.view.readAt (Elt F) (Rect.unit ![0, 0] S16x128.size inb_S16x128_S16x128_0_0).toLoadRect f9 = X9 := (rdz (S := S16x128) M9.view hz2 inb_S16x128_S16x128_0_0 f9).trans hf9
  have e10 : M10.view.readAt (Elt F) (Rect.unit ![0, 0] S16x128.size inb_S16x128_S16x128_0_0).toLoadRect f10 = X10 := (rdz (S := S16x128) M10.view hz2 inb_S16x128_S16x128_0_0 f10).trans hf10
  subst e1 e2 e3 e4 e5 e9 e10
  iapply Hk
  isplitl [H1]
  · iexists f1; isplitr; ipureintro; exact hf1; iexact H1
  isplitl [H2]
  · iexists f2; isplitr; ipureintro; exact hf2; iexact H2
  isplitl [H3]
  · iexists f3; isplitr; ipureintro; exact hf3; iexact H3
  isplitl [H4]
  · iexists f4; isplitr; ipureintro; exact hf4; iexact H4
  isplitl [H5]
  · iexists f5; isplitr; ipureintro; exact hf5; iexact H5
  isplitl [H6]
  · iexists _; isplitr; swap
    · iexact H6
    · ipureintro
      refine (wrz _ hz2 _ _ _ _).trans ?_
      show idx0 (M1.view.readAt (Elt F) (Rect.unit ![0, 0] S16x8192.size inb_S16x8192_S16x8192_0_0).toLoadRect f1) (M2.view.readAt (Elt F) (Rect.unit ![0, 0] S16x8192.size inb_S16x8192_S16x8192_0_0).toLoadRect f2) (M3.view.readAt (Elt F) (Rect.unit ![0, 0] S16x1.size inb_S16x1_S16x1_0_0).toLoadRect f3) (M4.view.readAt (Elt F) (Rect.unit ![0, 0] S8x8192.size inb_S8x8192_S8x8192_0_0).toLoadRect f4) (M5.view.readAt (Elt F) (Rect.unit ![0, 0, 0] S4x16x8192.size inb_S4x16x8192_S4x16x8192_0_0_0).toLoadRect f5) = _
      rw [idx_eq0]
  isplitl [H7]
  · iexists f7; isplitr; ipureintro; exact hf7; iexact H7
  isplitl [H8]
  · iexists f8; isplitr; ipureintro; exact hf8; iexact H8
  isplitl [H9]
  · iexists _; isplitr; swap
    · iexact H9
    · ipureintro
      refine (wrz _ hz2 _ _ _ _).trans ?_
      show accF0 (BitVec.ofNat 32 (i 0).val) (M1.view.readAt (Elt F) (Rect.unit ![0, 0] S16x8192.size inb_S16x8192_S16x8192_0_0).toLoadRect f1) (M2.view.readAt (Elt F) (Rect.unit ![0, 0] S16x8192.size inb_S16x8192_S16x8192_0_0).toLoadRect f2) (M3.view.readAt (Elt F) (Rect.unit ![0, 0] S16x1.size inb_S16x1_S16x1_0_0).toLoadRect f3) (M4.view.readAt (Elt F) (Rect.unit ![0, 0] S8x8192.size inb_S8x8192_S8x8192_0_0).toLoadRect f4) (M5.view.readAt (Elt F) (Rect.unit ![0, 0, 0] S4x16x8192.size inb_S4x16x8192_S4x16x8192_0_0_0).toLoadRect f5) (M9.view.readAt (Elt F) (Rect.unit ![0, 0] S16x128.size inb_S16x128_S16x128_0_0).toLoadRect f9) = _
      rw [accF_eq0]
  · iexists _; isplitr; swap
    · iexact H10
    · ipureintro
      refine (wrz _ hz2 _ _ _ _).trans ?_
      show accR0 (BitVec.ofNat 32 (i 0).val) (M1.view.readAt (Elt F) (Rect.unit ![0, 0] S16x8192.size inb_S16x8192_S16x8192_0_0).toLoadRect f1) (M2.view.readAt (Elt F) (Rect.unit ![0, 0] S16x8192.size inb_S16x8192_S16x8192_0_0).toLoadRect f2) (M3.view.readAt (Elt F) (Rect.unit ![0, 0] S16x1.size inb_S16x1_S16x1_0_0).toLoadRect f3) (M4.view.readAt (Elt F) (Rect.unit ![0, 0] S8x8192.size inb_S8x8192_S8x8192_0_0).toLoadRect f4) (M5.view.readAt (Elt F) (Rect.unit ![0, 0, 0] S4x16x8192.size inb_S4x16x8192_S4x16x8192_0_0_0).toLoadRect f5) (M10.view.readAt (Elt F) (Rect.unit ![0, 0] S16x128.size inb_S16x128_S16x128_0_0).toLoadRect f10) = _
      rw [accR_eq0]

set_option maxHeartbeats 4000000 in
/-- Call 0's body at a last grid point: the proposal, and the accumulated sums of its log-probabilities. -/
theorem body0_last (c : Dev nD) (E : Set ℕ) (i : grid0.Coords)
    (hc1 : ¬(Scalar.cmpi .ne (Scalar.extui (Scalar.cmpi .eq (BitVec.ofNat 32 (i 0).val) 0#32) : BitVec 32) 0#32 = 1#1))
    (hc2 : (k0_cond2 i = 1#1))
    (M1 : Memref sig .tc .vmem S16x8192 .i32) (h1 : M1.IsWhole)
    (M2 : Memref sig .tc .vmem S16x8192 .i32) (h2 : M2.IsWhole)
    (M3 : Memref sig .tc .vmem S16x1 .f32) (h3 : M3.IsWhole)
    (M4 : Memref sig .tc .vmem S8x8192 .f32) (h4 : M4.IsWhole)
    (M5 : Memref sig .tc .vmem S4x16x8192 .f32) (h5 : M5.IsWhole)
    (M6 : Memref sig .tc .vmem S16x8192 .i32) (h6 : M6.IsWhole)
    (M7 : Memref sig .tc .vmem S16x1 .f32) (h7 : M7.IsWhole)
    (M8 : Memref sig .tc .vmem S16x1 .f32) (h8 : M8.IsWhole)
    (M9 : Memref sig .tc .vmem S16x128 .f32) (h9 : M9.IsWhole)
    (M10 : Memref sig .tc .vmem S16x128 .f32) (h10 : M10.IsWhole)
    (X1 : S16x8192.Idx → Elt F .i32) (X2 : S16x8192.Idx → Elt F .i32) (X3 : S16x1.Idx → Elt F .f32) (X4 : S8x8192.Idx → Elt F .f32) (X5 : S4x16x8192.Idx → Elt F .f32) (X6 : S16x8192.Idx → Elt F .i32) (X7 : S16x1.Idx → Elt F .f32) (X8 : S16x1.Idx → Elt F .f32) (X9 : S16x128.Idx → Elt F .f32) (X10 : S16x128.Idx → Elt F .f32) (K : PUnit → sProp 𝕄) :
    iprop((owns (c : Thread nD τ) M1 fullShare X1 ∗ owns (c : Thread nD τ) M2 fullShare X2 ∗ owns (c : Thread nD τ) M3 fullShare X3 ∗ owns (c : Thread nD τ) M4 fullShare X4 ∗ owns (c : Thread nD τ) M5 fullShare X5 ∗ owns (c : Thread nD τ) M6 fullShare X6 ∗ owns (c : Thread nD τ) M7 fullShare X7 ∗ owns (c : Thread nD τ) M8 fullShare X8 ∗ owns (c : Thread nD τ) M9 fullShare X9 ∗ owns (c : Thread nD τ) M10 fullShare X10)
      ∗ (iprop(owns (c : Thread nD τ) M1 fullShare X1 ∗ owns (c : Thread nD τ) M2 fullShare X2 ∗ owns (c : Thread nD τ) M3 fullShare X3 ∗ owns (c : Thread nD τ) M4 fullShare X4 ∗ owns (c : Thread nD τ) M5 fullShare X5 ∗ owns (c : Thread nD τ) M6 fullShare (idxV X1 X2 X3 X4 X5) ∗ owns (c : Thread nD τ) M7 fullShare (foldV (accV (lfV (BitVec.ofNat 32 (i 0).val) X1 X2 X3 X4 X5) X9)) ∗ owns (c : Thread nD τ) M8 fullShare (foldV (accV (lrV (BitVec.ofNat 32 (i 0).val) X1 X2 X3 X4 X5) X10)) ∗ owns (c : Thread nD τ) M9 fullShare (accV (lfV (BitVec.ofNat 32 (i 0).val) X1 X2 X3 X4 X5) X9) ∗ owns (c : Thread nD τ) M10 fullShare (accV (lrV (BitVec.ofNat 32 (i 0).val) X1 X2 X3 X4 X5) X10)) -∗ K ⟨⟩))
      ⊢ wp frame (wpE (defs₀ (F := F)) Variants.none c none) E (cc0__step_kernel i M1 h1 M2 h2 M3 h3 M4 h4 M5 h5 M6 h6 M7 h7 M8 h8 M9 h9 M10 h10) K := by
  rw [cc0__step_kernel_eq_skeleton]
  unfold owns
  iintro ⟨⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩⟩, Hk⟩
  unfold cc0__step_kernel_skel
  sl_exec_parts
  sl_step
  have e1 : M1.view.readAt (Elt F) (Rect.unit ![0, 0] S16x8192.size inb_S16x8192_S16x8192_0_0).toLoadRect f1 = X1 := (rdz (S := S16x8192) M1.view hz2 inb_S16x8192_S16x8192_0_0 f1).trans hf1
  have e2 : M2.view.readAt (Elt F) (Rect.unit ![0, 0] S16x8192.size inb_S16x8192_S16x8192_0_0).toLoadRect f2 = X2 := (rdz (S := S16x8192) M2.view hz2 inb_S16x8192_S16x8192_0_0 f2).trans hf2
  have e3 : M3.view.readAt (Elt F) (Rect.unit ![0, 0] S16x1.size inb_S16x1_S16x1_0_0).toLoadRect f3 = X3 := (rdz (S := S16x1) M3.view hz2 inb_S16x1_S16x1_0_0 f3).trans hf3
  have e4 : M4.view.readAt (Elt F) (Rect.unit ![0, 0] S8x8192.size inb_S8x8192_S8x8192_0_0).toLoadRect f4 = X4 := (rdz (S := S8x8192) M4.view hz2 inb_S8x8192_S8x8192_0_0 f4).trans hf4
  have e5 : M5.view.readAt (Elt F) (Rect.unit ![0, 0, 0] S4x16x8192.size inb_S4x16x8192_S4x16x8192_0_0_0).toLoadRect f5 = X5 := (rdz (S := S4x16x8192) M5.view hz3 inb_S4x16x8192_S4x16x8192_0_0_0 f5).trans hf5
  have e9 : M9.view.readAt (Elt F) (Rect.unit ![0, 0] S16x128.size inb_S16x128_S16x128_0_0).toLoadRect f9 = X9 := (rdz (S := S16x128) M9.view hz2 inb_S16x128_S16x128_0_0 f9).trans hf9
  have e10 : M10.view.readAt (Elt F) (Rect.unit ![0, 0] S16x128.size inb_S16x128_S16x128_0_0).toLoadRect f10 = X10 := (rdz (S := S16x128) M10.view hz2 inb_S16x128_S16x128_0_0 f10).trans hf10
  subst e1 e2 e3 e4 e5 e9 e10
  iapply Hk
  isplitl [H1]
  · iexists f1; isplitr; ipureintro; exact hf1; iexact H1
  isplitl [H2]
  · iexists f2; isplitr; ipureintro; exact hf2; iexact H2
  isplitl [H3]
  · iexists f3; isplitr; ipureintro; exact hf3; iexact H3
  isplitl [H4]
  · iexists f4; isplitr; ipureintro; exact hf4; iexact H4
  isplitl [H5]
  · iexists f5; isplitr; ipureintro; exact hf5; iexact H5
  isplitl [H6]
  · iexists _; isplitr; swap
    · iexact H6
    · ipureintro
      refine (wrz _ hz2 _ _ _ _).trans ?_
      show idx0 (M1.view.readAt (Elt F) (Rect.unit ![0, 0] S16x8192.size inb_S16x8192_S16x8192_0_0).toLoadRect f1) (M2.view.readAt (Elt F) (Rect.unit ![0, 0] S16x8192.size inb_S16x8192_S16x8192_0_0).toLoadRect f2) (M3.view.readAt (Elt F) (Rect.unit ![0, 0] S16x1.size inb_S16x1_S16x1_0_0).toLoadRect f3) (M4.view.readAt (Elt F) (Rect.unit ![0, 0] S8x8192.size inb_S8x8192_S8x8192_0_0).toLoadRect f4) (M5.view.readAt (Elt F) (Rect.unit ![0, 0, 0] S4x16x8192.size inb_S4x16x8192_S4x16x8192_0_0_0).toLoadRect f5) = _
      rw [idx_eq0]
  isplitl [H7]
  · iexists _; isplitr; swap
    · iexact H7
    · ipureintro
      refine (wrz _ hz2 _ _ _ _).trans ?_
      show foldF0 (M9.view.readCov [(⟨(Rect.unit ![0, 0] S16x128.size inb_S16x128_S16x128_0_0), accF0 (BitVec.ofNat 32 (i 0).val) (M1.view.readAt (Elt F) (Rect.unit ![0, 0] S16x8192.size inb_S16x8192_S16x8192_0_0).toLoadRect f1) (M2.view.readAt (Elt F) (Rect.unit ![0, 0] S16x8192.size inb_S16x8192_S16x8192_0_0).toLoadRect f2) (M3.view.readAt (Elt F) (Rect.unit ![0, 0] S16x1.size inb_S16x1_S16x1_0_0).toLoadRect f3) (M4.view.readAt (Elt F) (Rect.unit ![0, 0] S8x8192.size inb_S8x8192_S8x8192_0_0).toLoadRect f4) (M5.view.readAt (Elt F) (Rect.unit ![0, 0, 0] S4x16x8192.size inb_S4x16x8192_S4x16x8192_0_0_0).toLoadRect f5) (M9.view.readAt (Elt F) (Rect.unit ![0, 0] S16x128.size inb_S16x128_S16x128_0_0).toLoadRect f9)⟩ : View.Piece (Elt F) S16x128 .f32)] (Rect.unit ![0, 0] S16x128.size inb_S16x128_S16x128_0_0).toLoadRect) = _
      rw [View.readCov_unit_zero _ hz2, foldF_eq0, accF_eq0]
  isplitl [H8]
  · iexists _; isplitr; swap
    · iexact H8
    · ipureintro
      refine (wrz _ hz2 _ _ _ _).trans ?_
      show foldR0 (M10.view.readCov [(⟨(Rect.unit ![0, 0] S16x128.size inb_S16x128_S16x128_0_0), accR0 (BitVec.ofNat 32 (i 0).val) (M1.view.readAt (Elt F) (Rect.unit ![0, 0] S16x8192.size inb_S16x8192_S16x8192_0_0).toLoadRect f1) (M2.view.readAt (Elt F) (Rect.unit ![0, 0] S16x8192.size inb_S16x8192_S16x8192_0_0).toLoadRect f2) (M3.view.readAt (Elt F) (Rect.unit ![0, 0] S16x1.size inb_S16x1_S16x1_0_0).toLoadRect f3) (M4.view.readAt (Elt F) (Rect.unit ![0, 0] S8x8192.size inb_S8x8192_S8x8192_0_0).toLoadRect f4) (M5.view.readAt (Elt F) (Rect.unit ![0, 0, 0] S4x16x8192.size inb_S4x16x8192_S4x16x8192_0_0_0).toLoadRect f5) (M10.view.readAt (Elt F) (Rect.unit ![0, 0] S16x128.size inb_S16x128_S16x128_0_0).toLoadRect f10)⟩ : View.Piece (Elt F) S16x128 .f32)] (Rect.unit ![0, 0] S16x128.size inb_S16x128_S16x128_0_0).toLoadRect) = _
      rw [View.readCov_unit_zero _ hz2, foldR_eq0, accR_eq0]
  isplitl [H9]
  · iexists _; isplitr; swap
    · iexact H9
    · ipureintro
      refine (wrz _ hz2 _ _ _ _).trans ?_
      show accF0 (BitVec.ofNat 32 (i 0).val) (M1.view.readAt (Elt F) (Rect.unit ![0, 0] S16x8192.size inb_S16x8192_S16x8192_0_0).toLoadRect f1) (M2.view.readAt (Elt F) (Rect.unit ![0, 0] S16x8192.size inb_S16x8192_S16x8192_0_0).toLoadRect f2) (M3.view.readAt (Elt F) (Rect.unit ![0, 0] S16x1.size inb_S16x1_S16x1_0_0).toLoadRect f3) (M4.view.readAt (Elt F) (Rect.unit ![0, 0] S8x8192.size inb_S8x8192_S8x8192_0_0).toLoadRect f4) (M5.view.readAt (Elt F) (Rect.unit ![0, 0, 0] S4x16x8192.size inb_S4x16x8192_S4x16x8192_0_0_0).toLoadRect f5) (M9.view.readAt (Elt F) (Rect.unit ![0, 0] S16x128.size inb_S16x128_S16x128_0_0).toLoadRect f9) = _
      rw [accF_eq0]
  · iexists _; isplitr; swap
    · iexact H10
    · ipureintro
      refine (wrz _ hz2 _ _ _ _).trans ?_
      show accR0 (BitVec.ofNat 32 (i 0).val) (M1.view.readAt (Elt F) (Rect.unit ![0, 0] S16x8192.size inb_S16x8192_S16x8192_0_0).toLoadRect f1) (M2.view.readAt (Elt F) (Rect.unit ![0, 0] S16x8192.size inb_S16x8192_S16x8192_0_0).toLoadRect f2) (M3.view.readAt (Elt F) (Rect.unit ![0, 0] S16x1.size inb_S16x1_S16x1_0_0).toLoadRect f3) (M4.view.readAt (Elt F) (Rect.unit ![0, 0] S8x8192.size inb_S8x8192_S8x8192_0_0).toLoadRect f4) (M5.view.readAt (Elt F) (Rect.unit ![0, 0, 0] S4x16x8192.size inb_S4x16x8192_S4x16x8192_0_0_0).toLoadRect f5) (M10.view.readAt (Elt F) (Rect.unit ![0, 0] S16x128.size inb_S16x128_S16x128_0_0).toLoadRect f10) = _
      rw [accR_eq0]

/-- The final choice, pixel by pixel: the second proposal where it was taken, else the first where that was, else the input. -/
def selV (x xd0 : IVec S16x8192 32) (a0 : FVec F S16x1 .f32) (xd1 : IVec S16x8192 32) (a1 : FVec F S16x1 .f32) : IVec S16x8192 32 :=
  fun j => xcS (a1 (ix2 (j 0 : Fin 16) (0 : Fin 1))) (xd1 j) (xcS (a0 (ix2 (j 0 : Fin 16) (0 : Fin 1))) (xd0 j) (x j))

theorem sel_eq (x xd0 : IVec S16x8192 32) (a0 : FVec F S16x1 .f32) (xd1 : IVec S16x8192 32) (a1 : FVec F S16x1 .f32) :
    k2_pay1 a0 xd0 x a1 xd1 = selV x xd0 a0 xd1 a1 := by
  funext j
  simp only [k2_pay1, shapeCast_self, select, bc_col, cmpf]
  rfl

set_option maxHeartbeats 4000000 in
/-- Call 2's body. -/
theorem body2 (c : Dev nD) (E : Set ℕ) (i : grid2.Coords)
    (M1 : Memref sig .tc .vmem S16x8192 .i32) (h1 : M1.IsWhole)
    (M2 : Memref sig .tc .vmem S16x8192 .i32) (h2 : M2.IsWhole)
    (M3 : Memref sig .tc .vmem S16x1 .f32) (h3 : M3.IsWhole)
    (M4 : Memref sig .tc .vmem S16x8192 .i32) (h4 : M4.IsWhole)
    (M5 : Memref sig .tc .vmem S16x1 .f32) (h5 : M5.IsWhole)
    (M6 : Memref sig .tc .vmem S16x8192 .i32) (h6 : M6.IsWhole)
    (X1 : S16x8192.Idx → Elt F .i32) (X2 : S16x8192.Idx → Elt F .i32) (X3 : S16x1.Idx → Elt F .f32) (X4 : S16x8192.Idx → Elt F .i32) (X5 : S16x1.Idx → Elt F .f32) (X6 : S16x8192.Idx → Elt F .i32) (K : PUnit → sProp 𝕄) :
    iprop((owns (c : Thread nD τ) M1 fullShare X1 ∗ owns (c : Thread nD τ) M2 fullShare X2 ∗ owns (c : Thread nD τ) M3 fullShare X3 ∗ owns (c : Thread nD τ) M4 fullShare X4 ∗ owns (c : Thread nD τ) M5 fullShare X5 ∗ owns (c : Thread nD τ) M6 fullShare X6)
      ∗ (iprop(owns (c : Thread nD τ) M1 fullShare X1 ∗ owns (c : Thread nD τ) M2 fullShare X2 ∗ owns (c : Thread nD τ) M3 fullShare X3 ∗ owns (c : Thread nD τ) M4 fullShare X4 ∗ owns (c : Thread nD τ) M5 fullShare X5 ∗ owns (c : Thread nD τ) M6 fullShare (selV X1 X2 X3 X4 X5)) -∗ K ⟨⟩))
      ⊢ wp frame (wpE (defs₀ (F := F)) Variants.none c none) E (cc2__select_kernel i M1 h1 M2 h2 M3 h3 M4 h4 M5 h5 M6 h6) K := by
  rw [cc2__select_kernel_eq_skeleton]
  unfold owns
  iintro ⟨⟨⟨%f1, %hf1, H1⟩, ⟨%f2, %hf2, H2⟩, ⟨%f3, %hf3, H3⟩, ⟨%f4, %hf4, H4⟩, ⟨%f5, %hf5, H5⟩, ⟨%f6, %hf6, H6⟩⟩, Hk⟩
  unfold cc2__select_kernel_skel
  sl_exec
  sl_step
  have e1 : M1.view.readAt (Elt F) (Rect.unit ![0, 0] S16x8192.size inb_S16x8192_S16x8192_0_0).toLoadRect f1 = X1 := (rdz (S := S16x8192) M1.view hz2 inb_S16x8192_S16x8192_0_0 f1).trans hf1
  have e2 : M2.view.readAt (Elt F) (Rect.unit ![0, 0] S16x8192.size inb_S16x8192_S16x8192_0_0).toLoadRect f2 = X2 := (rdz (S := S16x8192) M2.view hz2 inb_S16x8192_S16x8192_0_0 f2).trans hf2
  have e3 : M3.view.readAt (Elt F) (Rect.unit ![0, 0] S16x1.size inb_S16x1_S16x1_0_0).toLoadRect f3 = X3 := (rdz (S := S16x1) M3.view hz2 inb_S16x1_S16x1_0_0 f3).trans hf3
  have e4 : M4.view.readAt (Elt F) (Rect.unit ![0, 0] S16x8192.size inb_S16x8192_S16x8192_0_0).toLoadRect f4 = X4 := (rdz (S := S16x8192) M4.view hz2 inb_S16x8192_S16x8192_0_0 f4).trans hf4
  have e5 : M5.view.readAt (Elt F) (Rect.unit ![0, 0] S16x1.size inb_S16x1_S16x1_0_0).toLoadRect f5 = X5 := (rdz (S := S16x1) M5.view hz2 inb_S16x1_S16x1_0_0 f5).trans hf5
  subst e1 e2 e3 e4 e5
  iapply Hk
  isplitl [H1]
  · iexists f1; isplitr; ipureintro; exact hf1; iexact H1
  isplitl [H2]
  · iexists f2; isplitr; ipureintro; exact hf2; iexact H2
  isplitl [H3]
  · iexists f3; isplitr; ipureintro; exact hf3; iexact H3
  isplitl [H4]
  · iexists f4; isplitr; ipureintro; exact hf4; iexact H4
  isplitl [H5]
  · iexists f5; isplitr; ipureintro; exact hf5; iexact H5
  · iexists _; isplitr; swap
    · iexact H6
    · ipureintro
      refine (wrz _ hz2 _ _ _ _).trans ?_
      exact sel_eq _ _ _ _ _

end Cert.KernelIdeal.Own

end
-- ==== Proof.Dat0.lean ====
module

public import proofs.«01_k».proof.Proof.Win
public import proofs.«01_k».proof.Proof.Body0
public import Idealize.ShloMosaic.Lib.Pipeline.FrameBody
public import Idealize.ShloMosaic.Lib.Pipeline.RegionsLoop

@[expose] public section

noncomputable section

namespace Cert.KernelIdeal.Own

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ UU ℕ

variable (V : (c : Dev nD) → (b : Ref sig .tc) → Buf (Elt F) ((c : Thread nD τ).loc b))

/-- The arrays call 0 reads. -/
abbrev ax0 (c : Dev nD) : IVec S16x100000 32 := V c main_arg0
abbrev axp0 (c : Dev nD) : IVec S16x100000 32 := V c main_arg0
abbrev aa0 (c : Dev nD) : FVec F S16x1 .f32 := V c main_v6
abbrev aw0 (c : Dev nD) : FVec F S8x100000 .f32 := V c main_v5
abbrev ag0 (c : Dev nD) : FVec F S4x16x100000 .f32 := V c main_v0

/-- What call 0 leaves: the proposed classes, and the two sums of log-probabilities. -/
def IDX0 (c : Dev nD) : IVec S16x100000 32 := IDXw (ax0 V c) (axp0 V c) (aa0 V c) (aw0 V c) (ag0 V c)
def LF0 (c : Dev nD) : FVec F S16x100000 .f32 := LFw (ax0 V c) (axp0 V c) (aa0 V c) (aw0 V c) (ag0 V c)
def LR0 (c : Dev nD) : FVec F S16x100000 .f32 := LRw (ax0 V c) (axp0 V c) (aa0 V c) (aw0 V c) (ag0 V c)

/-- The body's invariant before point `n`: the two accumulators hold the sums of the blocks before it. -/
def Phi0 (c : Dev nD) (n : Nat) : sProp 𝕄 :=
  iprop((∃ X, ⌜n ≠ 0 → X = ACC (LF0 V c) n⌝ ∗ owns (c : Thread nD τ) (Memref.whole cc0_scratch0) fullShare X)
    ∗ (∃ X, ⌜n ≠ 0 → X = ACC (LR0 V c) n⌝ ∗ owns (c : Thread nD τ) (Memref.whole cc0_scratch1) fullShare X)
    ∗ Pipeline.scopedRestBut (Ix := Unit) (Name := ℕ) (U := UU) (Lvl := ℕ) (Val := Elt F) spec0 c [cc0_scratch0, cc0_scratch1])

/-- The proof data of call 0 entered at `V`. -/
def dat0 (c : Dev nD) : Dat τ (Elt F) Unit ℕ UU ℕ cfg0 c where
  A w := V c (Pipeline.arrRef spec0 w)
  after w t := match w with
    | ⟨0, _⟩ => fb (b := 16) (ax0 V c) (fun _ => 0#32) t.val
    | ⟨1, _⟩ => fb (b := 16) (axp0 V c) (fun _ => 0#32) t.val
    | ⟨2, _⟩ => aa0 V c
    | ⟨3, _⟩ => fb (b := 8) (aw0 V c) (fun _ => zf) t.val
    | ⟨4, _⟩ => fb3 (ag0 V c) (fun _ => zf) t.val
    | ⟨5, _⟩ => fb (b := 16) (IDX0 V c) (fun _ => 0#32) t.val
    | ⟨6, _⟩ => foldV (ACC (LF0 V c) 13)
    | ⟨7, _⟩ => foldV (ACC (LR0 V c) 13)
  Φ t := Phi0 V c t.val
  q w := Pipeline.shareOf spec0 w
  owed _ := 0

/-- What the body finds in window 0. -/
theorem bef0_0 (c : Dev nD) (t : Fin cfg0.N) (d) : (dat0 V c).before (0 : Fin 8) t d = fb (b := 16) (ax0 V c) d t.val := by
  unfold Dat.before; rw [if_pos (fetch0_0 t)]
  exact fill0_0 (F := F) (ax0 V c) t d

/-- What the body finds in window 1. -/
theorem bef0_1 (c : Dev nD) (t : Fin cfg0.N) (d) : (dat0 V c).before (1 : Fin 8) t d = fb (b := 16) (axp0 V c) d t.val := by
  unfold Dat.before; rw [if_pos (fetch0_1 t)]
  exact fill0_1 (F := F) (axp0 V c) t d

/-- What the body finds in window 3. -/
theorem bef0_3 (c : Dev nD) (t : Fin cfg0.N) (d) : (dat0 V c).before (3 : Fin 8) t d = fb (b := 8) (aw0 V c) d t.val := by
  unfold Dat.before; rw [if_pos (fetch0_3 t)]
  exact fill0_3 (F := F) (aw0 V c) t d

/-- What the body finds in window 4. -/
theorem bef0_4 (c : Dev nD) (t : Fin cfg0.N) (d) : (dat0 V c).before (4 : Fin 8) t d = fb3 (ag0 V c) d t.val := by
  unfold Dat.before; rw [if_pos (fetch0_4 t)]
  exact fill0_4 (F := F) (ag0 V c) t d

/-- What the body finds in window 2. -/
theorem bef0_2 (c : Dev nD) (t : Fin cfg0.N) (d) : (dat0 V c).before (2 : Fin 8) t d = aa0 V c :=
  (Dat.before_in_eq_fetched (dat0 V c) (2 : Fin 8) rfl (fun _ => rfl) (fun _ _ _ => rfl)
    (fun t => (fill0_2 (F := F) (aa0 V c) t).symm) t d).trans (fill0_2 (F := F) (aa0 V c) t)

theorem coord0 (t : Fin grid0.N) : (grid0.coords t 0).val = t.val := by
  rcases fin_N0 t with rfl | rfl | rfl | rfl | rfl | rfl | rfl | rfl | rfl | rfl | rfl | rfl | rfl <;> decide +kernel

theorem cond1_0 (t : Fin grid0.N) :
    (Scalar.cmpi .ne (Scalar.extui (Scalar.cmpi .eq (BitVec.ofNat 32 (grid0.coords t 0).val) 0#32) : BitVec 32) 0#32 = 1#1) ↔ t.val = 0 := by
  rcases fin_N0 t with rfl | rfl | rfl | rfl | rfl | rfl | rfl | rfl | rfl | rfl | rfl | rfl | rfl <;> decide +kernel

theorem cond2_0 (t : Fin grid0.N) : (k0_cond2 (grid0.coords t) = 1#1) ↔ t.val = 12 := by
  rcases fin_N0 t with rfl | rfl | rfl | rfl | rfl | rfl | rfl | rfl | rfl | rfl | rfl | rfl | rfl <;> decide +kernel

theorem lt0 (t : Fin grid0.N) : t.val < 13 := by have := t.isLt; have := N_0; omega

/-- The first result's block is the body's, whatever fills the part outside the array. -/
theorem eq0_5 (c : Dev nD) (t : Fin grid0.N) (d) :
    win0_5.fill (grid0.coords t) d (win0_5.cut (grid0.coords t) (fb (b := 16) (IDX0 V c) (fun _ => 0#32) t.val)) = fb (b := 16) (IDX0 V c) d t.val := by
  exact (congrArg (win0_5.fill (grid0.coords t) d) (cut0_5 (IDX0 V c) t _)).trans (fill0_5 (F := F) (IDX0 V c) t d)

set_option maxHeartbeats 2000000 in
/-- The obligation of call 0's body at every point. -/
theorem body_obligation0 (c : Dev nD) : BodyObligationLoose (dat0 V c) (defs₀ (F := F)) Variants.none () Set.univ := fun t => by
  rw [bigSep_W0, bigSep_W0]
  simp only
  have hlt := lt0 t
  have hco := coord0 t
  have hN := N_0
  rw [show (dat0 V c).owesAt () t.succ = (dat0 V c).owesAt () t.castSucc from rfl,
    show (dat0 V c).Φ t.castSucc = Phi0 V c t.val from rfl, show (dat0 V c).Φ t.succ = Phi0 V c (t.val + 1) from rfl]
  change _ ⊢ wp _ _ _ (bodyAt0 t) _
  unfold Phi0
  iintro ⟨⟨⟨%s0, %hs0, HS0⟩, ⟨%s1, %hs1, HS1⟩, HR⟩, Ho, ⟨%d0, H0⟩, ⟨%d1, H1⟩, ⟨%d2, H2⟩, ⟨%d3, H3⟩, ⟨%d4, H4⟩, ⟨%d5, H5⟩, ⟨%d6, H6⟩, ⟨%d7, H7⟩⟩
  rw [bef0_0 V c t d0, bef0_1 V c t d1, bef0_2 V c t d2, bef0_3 V c t d3, bef0_4 V c t d4]
  have hlf : lfV (BitVec.ofNat 32 (grid0.coords t 0).val) (fb (b := 16) (ax0 V c) d0 t.val) (fb (b := 16) (axp0 V c) d1 t.val) (aa0 V c) (fb (b := 8) (aw0 V c) d3 t.val) (fb3 (ag0 V c) d4 t.val) = blkF (LF0 V c) t.val := by
    rw [hco]; exact lf_fb (ax0 V c) (axp0 V c) (aa0 V c) (aw0 V c) (ag0 V c) t.val d0 d1 d3 d4 hlt
  have hlr : lrV (BitVec.ofNat 32 (grid0.coords t 0).val) (fb (b := 16) (ax0 V c) d0 t.val) (fb (b := 16) (axp0 V c) d1 t.val) (aa0 V c) (fb (b := 8) (aw0 V c) d3 t.val) (fb3 (ag0 V c) d4 t.val) = blkF (LR0 V c) t.val := by
    rw [hco]; exact lr_fb (ax0 V c) (axp0 V c) (aa0 V c) (aw0 V c) (ag0 V c) t.val d0 d1 d3 d4 hlt
  have hix := idxV_fb (ax0 V c) (axp0 V c) (aa0 V c) (aw0 V c) (ag0 V c) t.val d0 d1 d3 d4
  have k0 : win0_0.cut (grid0.coords t) (fb (b := 16) (ax0 V c) (fun _ => 0#32) t.val) = (win0_0.blk t).view.read (Elt F) (ax0 V c) := by
    rw [← fill0_0 (F := F) (ax0 V c) t]; exact win0_0.cut_fill _ _ _
  have k1 : win0_1.cut (grid0.coords t) (fb (b := 16) (axp0 V c) (fun _ => 0#32) t.val) = (win0_1.blk t).view.read (Elt F) (axp0 V c) := by
    rw [← fill0_1 (F := F) (axp0 V c) t]; exact win0_1.cut_fill _ _ _
  have k3 : win0_3.cut (grid0.coords t) (fb (b := 8) (aw0 V c) (fun _ => zf) t.val) = (win0_3.blk t).view.read (Elt F) (aw0 V c) := by
    rw [← fill0_3 (F := F) (aw0 V c) t]; exact win0_3.cut_fill _ _ _
  have k4 : win0_4.cut (grid0.coords t) (fb3 (ag0 V c) (fun _ => zf) t.val) = (win0_4.blk t).view.read (Elt F) (ag0 V c) := by
    rw [← fill0_4 (F := F) (ag0 V c) t]; exact win0_4.cut_fill _ _ _
  by_cases h0 : t.val = 0
  · have hid : (!(k0_cond2 (grid0.coords t) == 1#1)) = true := by
      have hne : ¬(k0_cond2 (grid0.coords t) = 1#1) := fun h => by have := (cond2_0 t).mp h; omega
      simp [hne]
    have hf6 : win0_6.flush t = false := by
      have := mt (flush0_6 t).mp (by omega); exact Bool.eq_false_iff.mpr this
    have hf7 : win0_7.flush t = false := by
      have := mt (flush0_7 t).mp (by omega); exact Bool.eq_false_iff.mpr this
    simp only [hid, hf6, hf7]
    iapply (body0_first (F := F) c Set.univ (grid0.coords t) ((cond1_0 t).mpr h0) (fun h => by have := (cond2_0 t).mp h; omega)
      _ _ _ _ _ _ _ _ _ _ _ _ _ _ _ _ _ _ _ _
      (fb (b := 16) (ax0 V c) d0 t.val) (fb (b := 16) (axp0 V c) d1 t.val) (aa0 V c) (fb (b := 8) (aw0 V c) d3 t.val) (fb3 (ag0 V c) d4 t.val)
      ((dat0 V c).before (5 : Fin 8) t d5) ((dat0 V c).before (6 : Fin 8) t d6) ((dat0 V c).before (7 : Fin 8) t d7) s0 s1 _)
    isplitl [H0 H1 H2 H3 H4 H5 H6 H7 HS0 HS1]
    · isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS0]; · iexact HS0
      iexact HS1
    iintro ⟨H0, H1, H2, H3, H4, H5, H6, H7, HS0, HS1⟩
    isplitl [HS0 HS1 HR]
    · isplitl [HS0]
      · iexists _; isplitr; swap; (· iexact HS0); ipureintro; intro _
        rw [hlf, h0]; rfl
      isplitl [HS1]
      · iexists _; isplitr; swap; (· iexact HS1); ipureintro; intro _
        rw [hlr, h0]; rfl
      iexact HR
    isplitl [Ho]; · iexact Ho
    isplitl [H0]
    · iexists d0
      change _ ⊢ owns (Val := Elt F) (c : Thread nD τ) (stage0_0 (cfg0.slots t 0)) fullShare (win0_0.fill (grid0.coords t) d0 (win0_0.cut (grid0.coords t) (fb (b := 16) (ax0 V c) (fun _ => 0#32) t.val)))
      rw [k0, fill0_0 (F := F)]
    isplitl [H1]
    · iexists d1
      change _ ⊢ owns (Val := Elt F) (c : Thread nD τ) (stage0_1 (cfg0.slots t 1)) fullShare (win0_1.fill (grid0.coords t) d1 (win0_1.cut (grid0.coords t) (fb (b := 16) (axp0 V c) (fun _ => 0#32) t.val)))
      rw [k1, fill0_1 (F := F)]
    isplitl [H2]; · iexact H2
    isplitl [H3]
    · iexists d3
      change _ ⊢ owns (Val := Elt F) (c : Thread nD τ) (stage0_3 (cfg0.slots t 3)) fullShare (win0_3.fill (grid0.coords t) d3 (win0_3.cut (grid0.coords t) (fb (b := 8) (aw0 V c) (fun _ => zf) t.val)))
      rw [k3, fill0_3 (F := F)]
    isplitl [H4]
    · iexists d4
      change _ ⊢ owns (Val := Elt F) (c : Thread nD τ) (stage0_4 (cfg0.slots t 4)) fullShare (win0_4.fill (grid0.coords t) d4 (win0_4.cut (grid0.coords t) (fb3 (ag0 V c) (fun _ => zf) t.val)))
      rw [k4, fill0_4 (F := F)]
    isplitl [H5]
    · obtain ⟨X5, hX5⟩ : ∃ X5, X5 = idxV (fb (b := 16) (ax0 V c) d0 t.val) (fb (b := 16) (axp0 V c) d1 t.val) (aa0 V c) (fb (b := 8) (aw0 V c) d3 t.val) (fb3 (ag0 V c) d4 t.val) := ⟨_, rfl⟩
      have hfin : fb (b := 16) (IDX0 V c) X5 t.val = idxV (fb (b := 16) (ax0 V c) d0 t.val) (fb (b := 16) (axp0 V c) d1 t.val) (aa0 V c) (fb (b := 8) (aw0 V c) d3 t.val) (fb3 (ag0 V c) d4 t.val) := by rw [hX5]; exact hix.symm
      iexists X5
      change _ ⊢ owns (Val := Elt F) (c : Thread nD τ) (stage0_5 (cfg0.slots t 5)) fullShare (win0_5.fill (grid0.coords t) X5 (win0_5.cut (grid0.coords t) (fb (b := 16) (IDX0 V c) (fun _ => 0#32) t.val)))
      rw [eq0_5 V c t X5, hfin]
    isplitl [H6]
    · iexists d6; iexact H6
    · iexists d7; iexact H7
  by_cases h12 : t.val = 12
  · have hid : (!(k0_cond2 (grid0.coords t) == 1#1)) = false := by simp [(cond2_0 t).mpr h12]
    simp only [hid]
    iapply (body0_last (F := F) c Set.univ (grid0.coords t) (fun h => h0 ((cond1_0 t).mp h)) ((cond2_0 t).mpr h12)
      _ _ _ _ _ _ _ _ _ _ _ _ _ _ _ _ _ _ _ _
      (fb (b := 16) (ax0 V c) d0 t.val) (fb (b := 16) (axp0 V c) d1 t.val) (aa0 V c) (fb (b := 8) (aw0 V c) d3 t.val) (fb3 (ag0 V c) d4 t.val)
      ((dat0 V c).before (5 : Fin 8) t d5) ((dat0 V c).before (6 : Fin 8) t d6) ((dat0 V c).before (7 : Fin 8) t d7) s0 s1 _)
    isplitl [H0 H1 H2 H3 H4 H5 H6 H7 HS0 HS1]
    · isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS0]; · iexact HS0
      iexact HS1
    iintro ⟨H0, H1, H2, H3, H4, H5, H6, H7, HS0, HS1⟩
    isplitl [HS0 HS1 HR]
    · isplitl [HS0]
      · iexists _; isplitr; swap; (· iexact HS0); ipureintro; intro _
        rw [hs0 h0, hlf]; rfl
      isplitl [HS1]
      · iexists _; isplitr; swap; (· iexact HS1); ipureintro; intro _
        rw [hs1 h0, hlr]; rfl
      iexact HR
    isplitl [Ho]; · iexact Ho
    isplitl [H0]
    · iexists d0
      change _ ⊢ owns (Val := Elt F) (c : Thread nD τ) (stage0_0 (cfg0.slots t 0)) fullShare (win0_0.fill (grid0.coords t) d0 (win0_0.cut (grid0.coords t) (fb (b := 16) (ax0 V c) (fun _ => 0#32) t.val)))
      rw [k0, fill0_0 (F := F)]
    isplitl [H1]
    · iexists d1
      change _ ⊢ owns (Val := Elt F) (c : Thread nD τ) (stage0_1 (cfg0.slots t 1)) fullShare (win0_1.fill (grid0.coords t) d1 (win0_1.cut (grid0.coords t) (fb (b := 16) (axp0 V c) (fun _ => 0#32) t.val)))
      rw [k1, fill0_1 (F := F)]
    isplitl [H2]; · iexact H2
    isplitl [H3]
    · iexists d3
      change _ ⊢ owns (Val := Elt F) (c : Thread nD τ) (stage0_3 (cfg0.slots t 3)) fullShare (win0_3.fill (grid0.coords t) d3 (win0_3.cut (grid0.coords t) (fb (b := 8) (aw0 V c) (fun _ => zf) t.val)))
      rw [k3, fill0_3 (F := F)]
    isplitl [H4]
    · iexists d4
      change _ ⊢ owns (Val := Elt F) (c : Thread nD τ) (stage0_4 (cfg0.slots t 4)) fullShare (win0_4.fill (grid0.coords t) d4 (win0_4.cut (grid0.coords t) (fb3 (ag0 V c) (fun _ => zf) t.val)))
      rw [k4, fill0_4 (F := F)]
    isplitl [H5]
    · obtain ⟨X5, hX5⟩ : ∃ X5, X5 = idxV (fb (b := 16) (ax0 V c) d0 t.val) (fb (b := 16) (axp0 V c) d1 t.val) (aa0 V c) (fb (b := 8) (aw0 V c) d3 t.val) (fb3 (ag0 V c) d4 t.val) := ⟨_, rfl⟩
      have hfin : fb (b := 16) (IDX0 V c) X5 t.val = idxV (fb (b := 16) (ax0 V c) d0 t.val) (fb (b := 16) (axp0 V c) d1 t.val) (aa0 V c) (fb (b := 8) (aw0 V c) d3 t.val) (fb3 (ag0 V c) d4 t.val) := by rw [hX5]; exact hix.symm
      iexists X5
      change _ ⊢ owns (Val := Elt F) (c : Thread nD τ) (stage0_5 (cfg0.slots t 5)) fullShare (win0_5.fill (grid0.coords t) X5 (win0_5.cut (grid0.coords t) (fb (b := 16) (IDX0 V c) (fun _ => 0#32) t.val)))
      rw [eq0_5 V c t X5, hfin]
    have e6 : accV (blkF (LF0 V c) t.val) s0 = ACC (LF0 V c) 13 := by rw [hs0 h0, h12]; rfl
    have e7 : accV (blkF (LR0 V c) t.val) s1 = ACC (LR0 V c) 13 := by rw [hs1 h0, h12]; rfl
    rw [hlf, hlr]
    isplitl [H6]
    · change _ ⊢ owns (Val := Elt F) (c : Thread nD τ) (stage0_6 (cfg0.slots t 6)) fullShare (foldV (ACC (LF0 V c) 13))
      rw [← e6]
    · change _ ⊢ owns (Val := Elt F) (c : Thread nD τ) (stage0_7 (cfg0.slots t 7)) fullShare (foldV (ACC (LR0 V c) 13))
      rw [← e7]
  · have hid : (!(k0_cond2 (grid0.coords t) == 1#1)) = true := by
      have hne : ¬(k0_cond2 (grid0.coords t) = 1#1) := fun h => by have := (cond2_0 t).mp h; omega
      simp [hne]
    have hf6 : win0_6.flush t = false := by
      have := mt (flush0_6 t).mp (by omega); exact Bool.eq_false_iff.mpr this
    have hf7 : win0_7.flush t = false := by
      have := mt (flush0_7 t).mp (by omega); exact Bool.eq_false_iff.mpr this
    simp only [hid, hf6, hf7]
    iapply (body0_mid (F := F) c Set.univ (grid0.coords t) (fun h => h0 ((cond1_0 t).mp h)) (fun h => h12 ((cond2_0 t).mp h))
      _ _ _ _ _ _ _ _ _ _ _ _ _ _ _ _ _ _ _ _
      (fb (b := 16) (ax0 V c) d0 t.val) (fb (b := 16) (axp0 V c) d1 t.val) (aa0 V c) (fb (b := 8) (aw0 V c) d3 t.val) (fb3 (ag0 V c) d4 t.val)
      ((dat0 V c).before (5 : Fin 8) t d5) ((dat0 V c).before (6 : Fin 8) t d6) ((dat0 V c).before (7 : Fin 8) t d7) s0 s1 _)
    isplitl [H0 H1 H2 H3 H4 H5 H6 H7 HS0 HS1]
    · isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS0]; · iexact HS0
      iexact HS1
    iintro ⟨H0, H1, H2, H3, H4, H5, H6, H7, HS0, HS1⟩
    isplitl [HS0 HS1 HR]
    · isplitl [HS0]
      · iexists _; isplitr; swap; (· iexact HS0); ipureintro; intro _
        rw [hs0 h0, hlf]; rfl
      isplitl [HS1]
      · iexists _; isplitr; swap; (· iexact HS1); ipureintro; intro _
        rw [hs1 h0, hlr]; rfl
      iexact HR
    isplitl [Ho]; · iexact Ho
    isplitl [H0]
    · iexists d0
      change _ ⊢ owns (Val := Elt F) (c : Thread nD τ) (stage0_0 (cfg0.slots t 0)) fullShare (win0_0.fill (grid0.coords t) d0 (win0_0.cut (grid0.coords t) (fb (b := 16) (ax0 V c) (fun _ => 0#32) t.val)))
      rw [k0, fill0_0 (F := F)]
    isplitl [H1]
    · iexists d1
      change _ ⊢ owns (Val := Elt F) (c : Thread nD τ) (stage0_1 (cfg0.slots t 1)) fullShare (win0_1.fill (grid0.coords t) d1 (win0_1.cut (grid0.coords t) (fb (b := 16) (axp0 V c) (fun _ => 0#32) t.val)))
      rw [k1, fill0_1 (F := F)]
    isplitl [H2]; · iexact H2
    isplitl [H3]
    · iexists d3
      change _ ⊢ owns (Val := Elt F) (c : Thread nD τ) (stage0_3 (cfg0.slots t 3)) fullShare (win0_3.fill (grid0.coords t) d3 (win0_3.cut (grid0.coords t) (fb (b := 8) (aw0 V c) (fun _ => zf) t.val)))
      rw [k3, fill0_3 (F := F)]
    isplitl [H4]
    · iexists d4
      change _ ⊢ owns (Val := Elt F) (c : Thread nD τ) (stage0_4 (cfg0.slots t 4)) fullShare (win0_4.fill (grid0.coords t) d4 (win0_4.cut (grid0.coords t) (fb3 (ag0 V c) (fun _ => zf) t.val)))
      rw [k4, fill0_4 (F := F)]
    isplitl [H5]
    · obtain ⟨X5, hX5⟩ : ∃ X5, X5 = idxV (fb (b := 16) (ax0 V c) d0 t.val) (fb (b := 16) (axp0 V c) d1 t.val) (aa0 V c) (fb (b := 8) (aw0 V c) d3 t.val) (fb3 (ag0 V c) d4 t.val) := ⟨_, rfl⟩
      have hfin : fb (b := 16) (IDX0 V c) X5 t.val = idxV (fb (b := 16) (ax0 V c) d0 t.val) (fb (b := 16) (axp0 V c) d1 t.val) (aa0 V c) (fb (b := 8) (aw0 V c) d3 t.val) (fb3 (ag0 V c) d4 t.val) := by rw [hX5]; exact hix.symm
      iexists X5
      change _ ⊢ owns (Val := Elt F) (c : Thread nD τ) (stage0_5 (cfg0.slots t 5)) fullShare (win0_5.fill (grid0.coords t) X5 (win0_5.cut (grid0.coords t) (fb (b := 16) (IDX0 V c) (fun _ => 0#32) t.val)))
      rw [eq0_5 V c t X5, hfin]
    isplitl [H6]
    · iexists d6; iexact H6
    · iexists d7; iexact H7

/-- What call 0 leaves in its first result. -/
theorem final0_5 (c : Dev nD) : (dat0 V c).arrAt (5 : Fin 8) cfg0.N = IDX0 V c :=
  (dat0 V c).arrAt_eq_of_cover (5 : Fin 8) (IDX0 V c) (fun t _ => cut0_5 (IDX0 V c) t _)
    (fun i => (cover0_5 i).imp fun t h => ⟨flush0_5 t, h⟩)

/-- What call 0 leaves in its other two results. -/
theorem final0_6 (c : Dev nD) : (dat0 V c).arrAt (6 : Fin 8) cfg0.N = foldV (ACC (LF0 V c) 13) :=
  (dat0 V c).arrAt_eq_of_cover (6 : Fin 8) (foldV (ACC (LF0 V c) 13)) (fun t _ => (fill0_6 (F := F) (foldV (ACC (LF0 V c) 13)) t).symm)
    (fun i => ⟨t0_12, (flush0_6 t0_12).mpr (by decide), cover0_6 i t0_12⟩)
theorem final0_7 (c : Dev nD) : (dat0 V c).arrAt (7 : Fin 8) cfg0.N = foldV (ACC (LR0 V c) 13) :=
  (dat0 V c).arrAt_eq_of_cover (7 : Fin 8) (foldV (ACC (LR0 V c) 13)) (fun t _ => (fill0_7 (F := F) (foldV (ACC (LR0 V c) 13)) t).symm)
    (fun i => ⟨t0_12, (flush0_7 t0_12).mpr (by decide), cover0_7 i t0_12⟩)

end Cert.KernelIdeal.Own

end
-- ==== Proof.Body1.lean ====
module

public import proofs.«01_k».proof.Proof.Gen.KernelIdeal.Launch
public import proofs.«01_k».proof.Proof.Gen.KernelIdeal.Points
public import proofs.«01_k».proof.Proof.Gen.KernelIdeal.Skeleton
public import Idealize.ShloMosaic.Lib.Pipeline.TableIdle
public import Idealize.ShloMosaic.Lib.Tactic
public import proofs.«01_k».proof.Proof.Body0

@[expose] public section

noncomputable section

namespace Cert.KernelIdeal.Own

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ UU ℕ

set_option maxHeartbeats 4000000 in
/-- Call 1's body at a first grid point: the proposal, and the accumulated sums of its log-probabilities. -/
theorem body1_first (c : Dev nD) (E : Set ℕ) (i : grid1.Coords)
    (hc1 : (Scalar.cmpi .ne (Scalar.extui (Scalar.cmpi .eq (BitVec.ofNat 32 (i 0).val) 0#32) : BitVec 32) 0#32 = 1#1))
    (hc2 : ¬(k1_cond2 i = 1#1))
    (M1 : Memref sig .tc .vmem S16x8192 .i32) (h1 : M1.IsWhole)
    (M2 : Memref sig .tc .vmem S16x8192 .i32) (h2 : M2.IsWhole)
    (M3 : Memref sig .tc .vmem S16x1 .f32) (h3 : M3.IsWhole)
    (M4 : Memref sig .tc .vmem S8x8192 .f32) (h4 : M4.IsWhole)
    (M5 : Memref sig .tc .vmem S4x16x8192 .f32) (h5 : M5.IsWhole)
    (M6 : Memref sig .tc .vmem S16x8192 .i32) (h6 : M6.IsWhole)
    (M7 : Memref sig .tc .vmem S16x1 .f32) (h7 : M7.IsWhole)
    (M8 : Memref sig .tc .vmem S16x1 .f32) (h8 : M8.IsWhole)
    (M9 : Memref sig .tc .vmem S16x128 .f32) (h9 : M9.IsWhole)
    (M10 : Memref sig .tc .vmem S16x128 .f32) (h10 : M10.IsWhole)
    (X1 : S16x8192.Idx → Elt F .i32) (X2 : S16x8192.Idx → Elt F .i32) (X3 : S16x1.Idx → Elt F .f32) (X4 : S8x8192.Idx → Elt F .f32) (X5 : S4x16x8192.Idx → Elt F .f32) (X6 : S16x8192.Idx → Elt F .i32) (X7 : S16x1.Idx → Elt F .f32) (X8 : S16x1.Idx → Elt F .f32) (X9 : S16x128.Idx → Elt F .f32) (X10 : S16x128.Idx → Elt F .f32) (K : PUnit → sProp 𝕄) :
    iprop((owns (c : Thread nD τ) M1 fullShare X1 ∗ owns (c : Thread nD τ) M2 fullShare X2 ∗ owns (c : Thread nD τ) M3 fullShare X3 ∗ owns (c : Thread nD τ) M4 fullShare X4 ∗ owns (c : Thread nD τ) M5 fullShare X5 ∗ owns (c : Thread nD τ) M6 fullShare X6 ∗ owns (c : Thread nD τ) M7 fullShare X7 ∗ owns (c : Thread nD τ) M8 fullShare X8 ∗ owns (c : Thread nD τ) M9 fullShare X9 ∗ owns (c : Thread nD τ) M10 fullShare X10)
      ∗ (iprop(owns (c : Thread nD τ) M1 fullShare X1 ∗ owns (c : Thread nD τ) M2 fullShare X2 ∗ owns (c : Thread nD τ) M3 fullShare X3 ∗ owns (c : Thread nD τ) M4 fullShare X4 ∗ owns (c : Thread nD τ) M5 fullShare X5 ∗ owns (c : Thread nD τ) M6 fullShare (idxV X1 X2 X3 X4 X5) ∗ owns (c : Thread nD τ) M7 fullShare X7 ∗ owns (c : Thread nD τ) M8 fullShare X8 ∗ owns (c : Thread nD τ) M9 fullShare (accV (lfV (BitVec.ofNat 32 (i 0).val) X1 X2 X3 X4 X5) zeroV) ∗ owns (c : Thread nD τ) M10 fullShare (accV (lrV (BitVec.ofNat 32 (i 0).val) X1 X2 X3 X4 X5) zeroV)) -∗ K ⟨⟩))
      ⊢ wp frame (wpE (defs₀ (F := F)) Variants.none c none) E (cc1__step_kernel i M1 h1 M2 h2 M3 h3 M4 h4 M5 h5 M6 h6 M7 h7 M8 h8 M9 h9 M10 h10) K := by
  rw [cc1__step_kernel_eq_skeleton]
  unfold owns
  iintro ⟨⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩⟩, Hk⟩
  unfold cc1__step_kernel_skel
  sl_exec_parts
  sl_step
  have e1 : M1.view.readAt (Elt F) (Rect.unit ![0, 0] S16x8192.size inb_S16x8192_S16x8192_0_0).toLoadRect f1 = X1 := (rdz (S := S16x8192) M1.view hz2 inb_S16x8192_S16x8192_0_0 f1).trans hf1
  have e2 : M2.view.readAt (Elt F) (Rect.unit ![0, 0] S16x8192.size inb_S16x8192_S16x8192_0_0).toLoadRect f2 = X2 := (rdz (S := S16x8192) M2.view hz2 inb_S16x8192_S16x8192_0_0 f2).trans hf2
  have e3 : M3.view.readAt (Elt F) (Rect.unit ![0, 0] S16x1.size inb_S16x1_S16x1_0_0).toLoadRect f3 = X3 := (rdz (S := S16x1) M3.view hz2 inb_S16x1_S16x1_0_0 f3).trans hf3
  have e4 : M4.view.readAt (Elt F) (Rect.unit ![0, 0] S8x8192.size inb_S8x8192_S8x8192_0_0).toLoadRect f4 = X4 := (rdz (S := S8x8192) M4.view hz2 inb_S8x8192_S8x8192_0_0 f4).trans hf4
  have e5 : M5.view.readAt (Elt F) (Rect.unit ![0, 0, 0] S4x16x8192.size inb_S4x16x8192_S4x16x8192_0_0_0).toLoadRect f5 = X5 := (rdz (S := S4x16x8192) M5.view hz3 inb_S4x16x8192_S4x16x8192_0_0_0 f5).trans hf5
  subst e1 e2 e3 e4 e5
  iapply Hk
  isplitl [H1]
  · iexists f1; isplitr; ipureintro; exact hf1; iexact H1
  isplitl [H2]
  · iexists f2; isplitr; ipureintro; exact hf2; iexact H2
  isplitl [H3]
  · iexists f3; isplitr; ipureintro; exact hf3; iexact H3
  isplitl [H4]
  · iexists f4; isplitr; ipureintro; exact hf4; iexact H4
  isplitl [H5]
  · iexists f5; isplitr; ipureintro; exact hf5; iexact H5
  isplitl [H6]
  · iexists _; isplitr; swap
    · iexact H6
    · ipureintro
      refine (wrz _ hz2 _ _ _ _).trans ?_
      show idx1 (M1.view.readAt (Elt F) (Rect.unit ![0, 0] S16x8192.size inb_S16x8192_S16x8192_0_0).toLoadRect f1) (M2.view.readAt (Elt F) (Rect.unit ![0, 0] S16x8192.size inb_S16x8192_S16x8192_0_0).toLoadRect f2) (M3.view.readAt (Elt F) (Rect.unit ![0, 0] S16x1.size inb_S16x1_S16x1_0_0).toLoadRect f3) (M4.view.readAt (Elt F) (Rect.unit ![0, 0] S8x8192.size inb_S8x8192_S8x8192_0_0).toLoadRect f4) (M5.view.readAt (Elt F) (Rect.unit ![0, 0, 0] S4x16x8192.size inb_S4x16x8192_S4x16x8192_0_0_0).toLoadRect f5) = _
      rw [idx_eq1]
  isplitl [H7]
  · iexists f7; isplitr; ipureintro; exact hf7; iexact H7
  isplitl [H8]
  · iexists f8; isplitr; ipureintro; exact hf8; iexact H8
  isplitl [H9]
  · iexists _; isplitr; swap
    · iexact H9
    · ipureintro
      refine (wrz _ hz2 _ _ _ _).trans ?_
      show accF1 (BitVec.ofNat 32 (i 0).val) (M1.view.readAt (Elt F) (Rect.unit ![0, 0] S16x8192.size inb_S16x8192_S16x8192_0_0).toLoadRect f1) (M2.view.readAt (Elt F) (Rect.unit ![0, 0] S16x8192.size inb_S16x8192_S16x8192_0_0).toLoadRect f2) (M3.view.readAt (Elt F) (Rect.unit ![0, 0] S16x1.size inb_S16x1_S16x1_0_0).toLoadRect f3) (M4.view.readAt (Elt F) (Rect.unit ![0, 0] S8x8192.size inb_S8x8192_S8x8192_0_0).toLoadRect f4) (M5.view.readAt (Elt F) (Rect.unit ![0, 0, 0] S4x16x8192.size inb_S4x16x8192_S4x16x8192_0_0_0).toLoadRect f5) (M9.view.readCov [(⟨(Rect.unit ![0, 0] S16x128.size inb_S16x128_S16x128_0_0), k1_pay6⟩ : View.Piece (Elt F) S16x128 .f32)] (Rect.unit ![0, 0] S16x128.size inb_S16x128_S16x128_0_0).toLoadRect) = _
      rw [View.readCov_unit_zero _ hz2, accF_eq1, zF1]
  · iexists _; isplitr; swap
    · iexact H10
    · ipureintro
      refine (wrz _ hz2 _ _ _ _).trans ?_
      show accR1 (BitVec.ofNat 32 (i 0).val) (M1.view.readAt (Elt F) (Rect.unit ![0, 0] S16x8192.size inb_S16x8192_S16x8192_0_0).toLoadRect f1) (M2.view.readAt (Elt F) (Rect.unit ![0, 0] S16x8192.size inb_S16x8192_S16x8192_0_0).toLoadRect f2) (M3.view.readAt (Elt F) (Rect.unit ![0, 0] S16x1.size inb_S16x1_S16x1_0_0).toLoadRect f3) (M4.view.readAt (Elt F) (Rect.unit ![0, 0] S8x8192.size inb_S8x8192_S8x8192_0_0).toLoadRect f4) (M5.view.readAt (Elt F) (Rect.unit ![0, 0, 0] S4x16x8192.size inb_S4x16x8192_S4x16x8192_0_0_0).toLoadRect f5) (M10.view.readCov [(⟨(Rect.unit ![0, 0] S16x128.size inb_S16x128_S16x128_0_0), k1_pay7⟩ : View.Piece (Elt F) S16x128 .f32)] (Rect.unit ![0, 0] S16x128.size inb_S16x128_S16x128_0_0).toLoadRect) = _
      rw [View.readCov_unit_zero _ hz2, accR_eq1, zR1]

set_option maxHeartbeats 4000000 in
/-- Call 1's body at a mid grid point: the proposal, and the accumulated sums of its log-probabilities. -/
theorem body1_mid (c : Dev nD) (E : Set ℕ) (i : grid1.Coords)
    (hc1 : ¬(Scalar.cmpi .ne (Scalar.extui (Scalar.cmpi .eq (BitVec.ofNat 32 (i 0).val) 0#32) : BitVec 32) 0#32 = 1#1))
    (hc2 : ¬(k1_cond2 i = 1#1))
    (M1 : Memref sig .tc .vmem S16x8192 .i32) (h1 : M1.IsWhole)
    (M2 : Memref sig .tc .vmem S16x8192 .i32) (h2 : M2.IsWhole)
    (M3 : Memref sig .tc .vmem S16x1 .f32) (h3 : M3.IsWhole)
    (M4 : Memref sig .tc .vmem S8x8192 .f32) (h4 : M4.IsWhole)
    (M5 : Memref sig .tc .vmem S4x16x8192 .f32) (h5 : M5.IsWhole)
    (M6 : Memref sig .tc .vmem S16x8192 .i32) (h6 : M6.IsWhole)
    (M7 : Memref sig .tc .vmem S16x1 .f32) (h7 : M7.IsWhole)
    (M8 : Memref sig .tc .vmem S16x1 .f32) (h8 : M8.IsWhole)
    (M9 : Memref sig .tc .vmem S16x128 .f32) (h9 : M9.IsWhole)
    (M10 : Memref sig .tc .vmem S16x128 .f32) (h10 : M10.IsWhole)
    (X1 : S16x8192.Idx → Elt F .i32) (X2 : S16x8192.Idx → Elt F .i32) (X3 : S16x1.Idx → Elt F .f32) (X4 : S8x8192.Idx → Elt F .f32) (X5 : S4x16x8192.Idx → Elt F .f32) (X6 : S16x8192.Idx → Elt F .i32) (X7 : S16x1.Idx → Elt F .f32) (X8 : S16x1.Idx → Elt F .f32) (X9 : S16x128.Idx → Elt F .f32) (X10 : S16x128.Idx → Elt F .f32) (K : PUnit → sProp 𝕄) :
    iprop((owns (c : Thread nD τ) M1 fullShare X1 ∗ owns (c : Thread nD τ) M2 fullShare X2 ∗ owns (c : Thread nD τ) M3 fullShare X3 ∗ owns (c : Thread nD τ) M4 fullShare X4 ∗ owns (c : Thread nD τ) M5 fullShare X5 ∗ owns (c : Thread nD τ) M6 fullShare X6 ∗ owns (c : Thread nD τ) M7 fullShare X7 ∗ owns (c : Thread nD τ) M8 fullShare X8 ∗ owns (c : Thread nD τ) M9 fullShare X9 ∗ owns (c : Thread nD τ) M10 fullShare X10)
      ∗ (iprop(owns (c : Thread nD τ) M1 fullShare X1 ∗ owns (c : Thread nD τ) M2 fullShare X2 ∗ owns (c : Thread nD τ) M3 fullShare X3 ∗ owns (c : Thread nD τ) M4 fullShare X4 ∗ owns (c : Thread nD τ) M5 fullShare X5 ∗ owns (c : Thread nD τ) M6 fullShare (idxV X1 X2 X3 X4 X5) ∗ owns (c : Thread nD τ) M7 fullShare X7 ∗ owns (c : Thread nD τ) M8 fullShare X8 ∗ owns (c : Thread nD τ) M9 fullShare (accV (lfV (BitVec.ofNat 32 (i 0).val) X1 X2 X3 X4 X5) X9) ∗ owns (c : Thread nD τ) M10 fullShare (accV (lrV (BitVec.ofNat 32 (i 0).val) X1 X2 X3 X4 X5) X10)) -∗ K ⟨⟩))
      ⊢ wp frame (wpE (defs₀ (F := F)) Variants.none c none) E (cc1__step_kernel i M1 h1 M2 h2 M3 h3 M4 h4 M5 h5 M6 h6 M7 h7 M8 h8 M9 h9 M10 h10) K := by
  rw [cc1__step_kernel_eq_skeleton]
  unfold owns
  iintro ⟨⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩⟩, Hk⟩
  unfold cc1__step_kernel_skel
  sl_exec_parts
  sl_step
  have e1 : M1.view.readAt (Elt F) (Rect.unit ![0, 0] S16x8192.size inb_S16x8192_S16x8192_0_0).toLoadRect f1 = X1 := (rdz (S := S16x8192) M1.view hz2 inb_S16x8192_S16x8192_0_0 f1).trans hf1
  have e2 : M2.view.readAt (Elt F) (Rect.unit ![0, 0] S16x8192.size inb_S16x8192_S16x8192_0_0).toLoadRect f2 = X2 := (rdz (S := S16x8192) M2.view hz2 inb_S16x8192_S16x8192_0_0 f2).trans hf2
  have e3 : M3.view.readAt (Elt F) (Rect.unit ![0, 0] S16x1.size inb_S16x1_S16x1_0_0).toLoadRect f3 = X3 := (rdz (S := S16x1) M3.view hz2 inb_S16x1_S16x1_0_0 f3).trans hf3
  have e4 : M4.view.readAt (Elt F) (Rect.unit ![0, 0] S8x8192.size inb_S8x8192_S8x8192_0_0).toLoadRect f4 = X4 := (rdz (S := S8x8192) M4.view hz2 inb_S8x8192_S8x8192_0_0 f4).trans hf4
  have e5 : M5.view.readAt (Elt F) (Rect.unit ![0, 0, 0] S4x16x8192.size inb_S4x16x8192_S4x16x8192_0_0_0).toLoadRect f5 = X5 := (rdz (S := S4x16x8192) M5.view hz3 inb_S4x16x8192_S4x16x8192_0_0_0 f5).trans hf5
  have e9 : M9.view.readAt (Elt F) (Rect.unit ![0, 0] S16x128.size inb_S16x128_S16x128_0_0).toLoadRect f9 = X9 := (rdz (S := S16x128) M9.view hz2 inb_S16x128_S16x128_0_0 f9).trans hf9
  have e10 : M10.view.readAt (Elt F) (Rect.unit ![0, 0] S16x128.size inb_S16x128_S16x128_0_0).toLoadRect f10 = X10 := (rdz (S := S16x128) M10.view hz2 inb_S16x128_S16x128_0_0 f10).trans hf10
  subst e1 e2 e3 e4 e5 e9 e10
  iapply Hk
  isplitl [H1]
  · iexists f1; isplitr; ipureintro; exact hf1; iexact H1
  isplitl [H2]
  · iexists f2; isplitr; ipureintro; exact hf2; iexact H2
  isplitl [H3]
  · iexists f3; isplitr; ipureintro; exact hf3; iexact H3
  isplitl [H4]
  · iexists f4; isplitr; ipureintro; exact hf4; iexact H4
  isplitl [H5]
  · iexists f5; isplitr; ipureintro; exact hf5; iexact H5
  isplitl [H6]
  · iexists _; isplitr; swap
    · iexact H6
    · ipureintro
      refine (wrz _ hz2 _ _ _ _).trans ?_
      show idx1 (M1.view.readAt (Elt F) (Rect.unit ![0, 0] S16x8192.size inb_S16x8192_S16x8192_0_0).toLoadRect f1) (M2.view.readAt (Elt F) (Rect.unit ![0, 0] S16x8192.size inb_S16x8192_S16x8192_0_0).toLoadRect f2) (M3.view.readAt (Elt F) (Rect.unit ![0, 0] S16x1.size inb_S16x1_S16x1_0_0).toLoadRect f3) (M4.view.readAt (Elt F) (Rect.unit ![0, 0] S8x8192.size inb_S8x8192_S8x8192_0_0).toLoadRect f4) (M5.view.readAt (Elt F) (Rect.unit ![0, 0, 0] S4x16x8192.size inb_S4x16x8192_S4x16x8192_0_0_0).toLoadRect f5) = _
      rw [idx_eq1]
  isplitl [H7]
  · iexists f7; isplitr; ipureintro; exact hf7; iexact H7
  isplitl [H8]
  · iexists f8; isplitr; ipureintro; exact hf8; iexact H8
  isplitl [H9]
  · iexists _; isplitr; swap
    · iexact H9
    · ipureintro
      refine (wrz _ hz2 _ _ _ _).trans ?_
      show accF1 (BitVec.ofNat 32 (i 0).val) (M1.view.readAt (Elt F) (Rect.unit ![0, 0] S16x8192.size inb_S16x8192_S16x8192_0_0).toLoadRect f1) (M2.view.readAt (Elt F) (Rect.unit ![0, 0] S16x8192.size inb_S16x8192_S16x8192_0_0).toLoadRect f2) (M3.view.readAt (Elt F) (Rect.unit ![0, 0] S16x1.size inb_S16x1_S16x1_0_0).toLoadRect f3) (M4.view.readAt (Elt F) (Rect.unit ![0, 0] S8x8192.size inb_S8x8192_S8x8192_0_0).toLoadRect f4) (M5.view.readAt (Elt F) (Rect.unit ![0, 0, 0] S4x16x8192.size inb_S4x16x8192_S4x16x8192_0_0_0).toLoadRect f5) (M9.view.readAt (Elt F) (Rect.unit ![0, 0] S16x128.size inb_S16x128_S16x128_0_0).toLoadRect f9) = _
      rw [accF_eq1]
  · iexists _; isplitr; swap
    · iexact H10
    · ipureintro
      refine (wrz _ hz2 _ _ _ _).trans ?_
      show accR1 (BitVec.ofNat 32 (i 0).val) (M1.view.readAt (Elt F) (Rect.unit ![0, 0] S16x8192.size inb_S16x8192_S16x8192_0_0).toLoadRect f1) (M2.view.readAt (Elt F) (Rect.unit ![0, 0] S16x8192.size inb_S16x8192_S16x8192_0_0).toLoadRect f2) (M3.view.readAt (Elt F) (Rect.unit ![0, 0] S16x1.size inb_S16x1_S16x1_0_0).toLoadRect f3) (M4.view.readAt (Elt F) (Rect.unit ![0, 0] S8x8192.size inb_S8x8192_S8x8192_0_0).toLoadRect f4) (M5.view.readAt (Elt F) (Rect.unit ![0, 0, 0] S4x16x8192.size inb_S4x16x8192_S4x16x8192_0_0_0).toLoadRect f5) (M10.view.readAt (Elt F) (Rect.unit ![0, 0] S16x128.size inb_S16x128_S16x128_0_0).toLoadRect f10) = _
      rw [accR_eq1]

set_option maxHeartbeats 4000000 in
/-- Call 1's body at a last grid point: the proposal, and the accumulated sums of its log-probabilities. -/
theorem body1_last (c : Dev nD) (E : Set ℕ) (i : grid1.Coords)
    (hc1 : ¬(Scalar.cmpi .ne (Scalar.extui (Scalar.cmpi .eq (BitVec.ofNat 32 (i 0).val) 0#32) : BitVec 32) 0#32 = 1#1))
    (hc2 : (k1_cond2 i = 1#1))
    (M1 : Memref sig .tc .vmem S16x8192 .i32) (h1 : M1.IsWhole)
    (M2 : Memref sig .tc .vmem S16x8192 .i32) (h2 : M2.IsWhole)
    (M3 : Memref sig .tc .vmem S16x1 .f32) (h3 : M3.IsWhole)
    (M4 : Memref sig .tc .vmem S8x8192 .f32) (h4 : M4.IsWhole)
    (M5 : Memref sig .tc .vmem S4x16x8192 .f32) (h5 : M5.IsWhole)
    (M6 : Memref sig .tc .vmem S16x8192 .i32) (h6 : M6.IsWhole)
    (M7 : Memref sig .tc .vmem S16x1 .f32) (h7 : M7.IsWhole)
    (M8 : Memref sig .tc .vmem S16x1 .f32) (h8 : M8.IsWhole)
    (M9 : Memref sig .tc .vmem S16x128 .f32) (h9 : M9.IsWhole)
    (M10 : Memref sig .tc .vmem S16x128 .f32) (h10 : M10.IsWhole)
    (X1 : S16x8192.Idx → Elt F .i32) (X2 : S16x8192.Idx → Elt F .i32) (X3 : S16x1.Idx → Elt F .f32) (X4 : S8x8192.Idx → Elt F .f32) (X5 : S4x16x8192.Idx → Elt F .f32) (X6 : S16x8192.Idx → Elt F .i32) (X7 : S16x1.Idx → Elt F .f32) (X8 : S16x1.Idx → Elt F .f32) (X9 : S16x128.Idx → Elt F .f32) (X10 : S16x128.Idx → Elt F .f32) (K : PUnit → sProp 𝕄) :
    iprop((owns (c : Thread nD τ) M1 fullShare X1 ∗ owns (c : Thread nD τ) M2 fullShare X2 ∗ owns (c : Thread nD τ) M3 fullShare X3 ∗ owns (c : Thread nD τ) M4 fullShare X4 ∗ owns (c : Thread nD τ) M5 fullShare X5 ∗ owns (c : Thread nD τ) M6 fullShare X6 ∗ owns (c : Thread nD τ) M7 fullShare X7 ∗ owns (c : Thread nD τ) M8 fullShare X8 ∗ owns (c : Thread nD τ) M9 fullShare X9 ∗ owns (c : Thread nD τ) M10 fullShare X10)
      ∗ (iprop(owns (c : Thread nD τ) M1 fullShare X1 ∗ owns (c : Thread nD τ) M2 fullShare X2 ∗ owns (c : Thread nD τ) M3 fullShare X3 ∗ owns (c : Thread nD τ) M4 fullShare X4 ∗ owns (c : Thread nD τ) M5 fullShare X5 ∗ owns (c : Thread nD τ) M6 fullShare (idxV X1 X2 X3 X4 X5) ∗ owns (c : Thread nD τ) M7 fullShare (foldV (accV (lfV (BitVec.ofNat 32 (i 0).val) X1 X2 X3 X4 X5) X9)) ∗ owns (c : Thread nD τ) M8 fullShare (foldV (accV (lrV (BitVec.ofNat 32 (i 0).val) X1 X2 X3 X4 X5) X10)) ∗ owns (c : Thread nD τ) M9 fullShare (accV (lfV (BitVec.ofNat 32 (i 0).val) X1 X2 X3 X4 X5) X9) ∗ owns (c : Thread nD τ) M10 fullShare (accV (lrV (BitVec.ofNat 32 (i 0).val) X1 X2 X3 X4 X5) X10)) -∗ K ⟨⟩))
      ⊢ wp frame (wpE (defs₀ (F := F)) Variants.none c none) E (cc1__step_kernel i M1 h1 M2 h2 M3 h3 M4 h4 M5 h5 M6 h6 M7 h7 M8 h8 M9 h9 M10 h10) K := by
  rw [cc1__step_kernel_eq_skeleton]
  unfold owns
  iintro ⟨⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩⟩, Hk⟩
  unfold cc1__step_kernel_skel
  sl_exec_parts
  sl_step
  have e1 : M1.view.readAt (Elt F) (Rect.unit ![0, 0] S16x8192.size inb_S16x8192_S16x8192_0_0).toLoadRect f1 = X1 := (rdz (S := S16x8192) M1.view hz2 inb_S16x8192_S16x8192_0_0 f1).trans hf1
  have e2 : M2.view.readAt (Elt F) (Rect.unit ![0, 0] S16x8192.size inb_S16x8192_S16x8192_0_0).toLoadRect f2 = X2 := (rdz (S := S16x8192) M2.view hz2 inb_S16x8192_S16x8192_0_0 f2).trans hf2
  have e3 : M3.view.readAt (Elt F) (Rect.unit ![0, 0] S16x1.size inb_S16x1_S16x1_0_0).toLoadRect f3 = X3 := (rdz (S := S16x1) M3.view hz2 inb_S16x1_S16x1_0_0 f3).trans hf3
  have e4 : M4.view.readAt (Elt F) (Rect.unit ![0, 0] S8x8192.size inb_S8x8192_S8x8192_0_0).toLoadRect f4 = X4 := (rdz (S := S8x8192) M4.view hz2 inb_S8x8192_S8x8192_0_0 f4).trans hf4
  have e5 : M5.view.readAt (Elt F) (Rect.unit ![0, 0, 0] S4x16x8192.size inb_S4x16x8192_S4x16x8192_0_0_0).toLoadRect f5 = X5 := (rdz (S := S4x16x8192) M5.view hz3 inb_S4x16x8192_S4x16x8192_0_0_0 f5).trans hf5
  have e9 : M9.view.readAt (Elt F) (Rect.unit ![0, 0] S16x128.size inb_S16x128_S16x128_0_0).toLoadRect f9 = X9 := (rdz (S := S16x128) M9.view hz2 inb_S16x128_S16x128_0_0 f9).trans hf9
  have e10 : M10.view.readAt (Elt F) (Rect.unit ![0, 0] S16x128.size inb_S16x128_S16x128_0_0).toLoadRect f10 = X10 := (rdz (S := S16x128) M10.view hz2 inb_S16x128_S16x128_0_0 f10).trans hf10
  subst e1 e2 e3 e4 e5 e9 e10
  iapply Hk
  isplitl [H1]
  · iexists f1; isplitr; ipureintro; exact hf1; iexact H1
  isplitl [H2]
  · iexists f2; isplitr; ipureintro; exact hf2; iexact H2
  isplitl [H3]
  · iexists f3; isplitr; ipureintro; exact hf3; iexact H3
  isplitl [H4]
  · iexists f4; isplitr; ipureintro; exact hf4; iexact H4
  isplitl [H5]
  · iexists f5; isplitr; ipureintro; exact hf5; iexact H5
  isplitl [H6]
  · iexists _; isplitr; swap
    · iexact H6
    · ipureintro
      refine (wrz _ hz2 _ _ _ _).trans ?_
      show idx1 (M1.view.readAt (Elt F) (Rect.unit ![0, 0] S16x8192.size inb_S16x8192_S16x8192_0_0).toLoadRect f1) (M2.view.readAt (Elt F) (Rect.unit ![0, 0] S16x8192.size inb_S16x8192_S16x8192_0_0).toLoadRect f2) (M3.view.readAt (Elt F) (Rect.unit ![0, 0] S16x1.size inb_S16x1_S16x1_0_0).toLoadRect f3) (M4.view.readAt (Elt F) (Rect.unit ![0, 0] S8x8192.size inb_S8x8192_S8x8192_0_0).toLoadRect f4) (M5.view.readAt (Elt F) (Rect.unit ![0, 0, 0] S4x16x8192.size inb_S4x16x8192_S4x16x8192_0_0_0).toLoadRect f5) = _
      rw [idx_eq1]
  isplitl [H7]
  · iexists _; isplitr; swap
    · iexact H7
    · ipureintro
      refine (wrz _ hz2 _ _ _ _).trans ?_
      show foldF1 (M9.view.readCov [(⟨(Rect.unit ![0, 0] S16x128.size inb_S16x128_S16x128_0_0), accF1 (BitVec.ofNat 32 (i 0).val) (M1.view.readAt (Elt F) (Rect.unit ![0, 0] S16x8192.size inb_S16x8192_S16x8192_0_0).toLoadRect f1) (M2.view.readAt (Elt F) (Rect.unit ![0, 0] S16x8192.size inb_S16x8192_S16x8192_0_0).toLoadRect f2) (M3.view.readAt (Elt F) (Rect.unit ![0, 0] S16x1.size inb_S16x1_S16x1_0_0).toLoadRect f3) (M4.view.readAt (Elt F) (Rect.unit ![0, 0] S8x8192.size inb_S8x8192_S8x8192_0_0).toLoadRect f4) (M5.view.readAt (Elt F) (Rect.unit ![0, 0, 0] S4x16x8192.size inb_S4x16x8192_S4x16x8192_0_0_0).toLoadRect f5) (M9.view.readAt (Elt F) (Rect.unit ![0, 0] S16x128.size inb_S16x128_S16x128_0_0).toLoadRect f9)⟩ : View.Piece (Elt F) S16x128 .f32)] (Rect.unit ![0, 0] S16x128.size inb_S16x128_S16x128_0_0).toLoadRect) = _
      rw [View.readCov_unit_zero _ hz2, foldF_eq1, accF_eq1]
  isplitl [H8]
  · iexists _; isplitr; swap
    · iexact H8
    · ipureintro
      refine (wrz _ hz2 _ _ _ _).trans ?_
      show foldR1 (M10.view.readCov [(⟨(Rect.unit ![0, 0] S16x128.size inb_S16x128_S16x128_0_0), accR1 (BitVec.ofNat 32 (i 0).val) (M1.view.readAt (Elt F) (Rect.unit ![0, 0] S16x8192.size inb_S16x8192_S16x8192_0_0).toLoadRect f1) (M2.view.readAt (Elt F) (Rect.unit ![0, 0] S16x8192.size inb_S16x8192_S16x8192_0_0).toLoadRect f2) (M3.view.readAt (Elt F) (Rect.unit ![0, 0] S16x1.size inb_S16x1_S16x1_0_0).toLoadRect f3) (M4.view.readAt (Elt F) (Rect.unit ![0, 0] S8x8192.size inb_S8x8192_S8x8192_0_0).toLoadRect f4) (M5.view.readAt (Elt F) (Rect.unit ![0, 0, 0] S4x16x8192.size inb_S4x16x8192_S4x16x8192_0_0_0).toLoadRect f5) (M10.view.readAt (Elt F) (Rect.unit ![0, 0] S16x128.size inb_S16x128_S16x128_0_0).toLoadRect f10)⟩ : View.Piece (Elt F) S16x128 .f32)] (Rect.unit ![0, 0] S16x128.size inb_S16x128_S16x128_0_0).toLoadRect) = _
      rw [View.readCov_unit_zero _ hz2, foldR_eq1, accR_eq1]
  isplitl [H9]
  · iexists _; isplitr; swap
    · iexact H9
    · ipureintro
      refine (wrz _ hz2 _ _ _ _).trans ?_
      show accF1 (BitVec.ofNat 32 (i 0).val) (M1.view.readAt (Elt F) (Rect.unit ![0, 0] S16x8192.size inb_S16x8192_S16x8192_0_0).toLoadRect f1) (M2.view.readAt (Elt F) (Rect.unit ![0, 0] S16x8192.size inb_S16x8192_S16x8192_0_0).toLoadRect f2) (M3.view.readAt (Elt F) (Rect.unit ![0, 0] S16x1.size inb_S16x1_S16x1_0_0).toLoadRect f3) (M4.view.readAt (Elt F) (Rect.unit ![0, 0] S8x8192.size inb_S8x8192_S8x8192_0_0).toLoadRect f4) (M5.view.readAt (Elt F) (Rect.unit ![0, 0, 0] S4x16x8192.size inb_S4x16x8192_S4x16x8192_0_0_0).toLoadRect f5) (M9.view.readAt (Elt F) (Rect.unit ![0, 0] S16x128.size inb_S16x128_S16x128_0_0).toLoadRect f9) = _
      rw [accF_eq1]
  · iexists _; isplitr; swap
    · iexact H10
    · ipureintro
      refine (wrz _ hz2 _ _ _ _).trans ?_
      show accR1 (BitVec.ofNat 32 (i 0).val) (M1.view.readAt (Elt F) (Rect.unit ![0, 0] S16x8192.size inb_S16x8192_S16x8192_0_0).toLoadRect f1) (M2.view.readAt (Elt F) (Rect.unit ![0, 0] S16x8192.size inb_S16x8192_S16x8192_0_0).toLoadRect f2) (M3.view.readAt (Elt F) (Rect.unit ![0, 0] S16x1.size inb_S16x1_S16x1_0_0).toLoadRect f3) (M4.view.readAt (Elt F) (Rect.unit ![0, 0] S8x8192.size inb_S8x8192_S8x8192_0_0).toLoadRect f4) (M5.view.readAt (Elt F) (Rect.unit ![0, 0, 0] S4x16x8192.size inb_S4x16x8192_S4x16x8192_0_0_0).toLoadRect f5) (M10.view.readAt (Elt F) (Rect.unit ![0, 0] S16x128.size inb_S16x128_S16x128_0_0).toLoadRect f10) = _
      rw [accR_eq1]

end Cert.KernelIdeal.Own

end
-- ==== Proof.Dat1.lean ====
module

public import proofs.«01_k».proof.Proof.Win
public import proofs.«01_k».proof.Proof.Body1
public import Idealize.ShloMosaic.Lib.Pipeline.FrameBody
public import Idealize.ShloMosaic.Lib.Pipeline.RegionsLoop

@[expose] public section

noncomputable section

namespace Cert.KernelIdeal.Own

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ UU ℕ

variable (V : (c : Dev nD) → (b : Ref sig .tc) → Buf (Elt F) ((c : Thread nD τ).loc b))

/-- The arrays call 1 reads. -/
abbrev ax1 (c : Dev nD) : IVec S16x100000 32 := V c main_arg0
abbrev axp1 (c : Dev nD) : IVec S16x100000 32 := V c main_v7_0
abbrev aa1 (c : Dev nD) : FVec F S16x1 .f32 := V c main_v62
abbrev aw1 (c : Dev nD) : FVec F S8x100000 .f32 := V c main_v5
abbrev ag1 (c : Dev nD) : FVec F S4x16x100000 .f32 := V c main_v1

/-- What call 1 leaves: the proposed classes, and the two sums of log-probabilities. -/
def IDX1 (c : Dev nD) : IVec S16x100000 32 := IDXw (ax1 V c) (axp1 V c) (aa1 V c) (aw1 V c) (ag1 V c)
def LF1 (c : Dev nD) : FVec F S16x100000 .f32 := LFw (ax1 V c) (axp1 V c) (aa1 V c) (aw1 V c) (ag1 V c)
def LR1 (c : Dev nD) : FVec F S16x100000 .f32 := LRw (ax1 V c) (axp1 V c) (aa1 V c) (aw1 V c) (ag1 V c)

/-- The body's invariant before point `n`: the two accumulators hold the sums of the blocks before it. -/
def Phi1 (c : Dev nD) (n : Nat) : sProp 𝕄 :=
  iprop((∃ X, ⌜n ≠ 0 → X = ACC (LF1 V c) n⌝ ∗ owns (c : Thread nD τ) (Memref.whole cc1_scratch0) fullShare X)
    ∗ (∃ X, ⌜n ≠ 0 → X = ACC (LR1 V c) n⌝ ∗ owns (c : Thread nD τ) (Memref.whole cc1_scratch1) fullShare X)
    ∗ Pipeline.scopedRestBut (Ix := Unit) (Name := ℕ) (U := UU) (Lvl := ℕ) (Val := Elt F) spec1 c [cc1_scratch0, cc1_scratch1])

/-- The proof data of call 1 entered at `V`. -/
def dat1 (c : Dev nD) : Dat τ (Elt F) Unit ℕ UU ℕ cfg1 c where
  A w := V c (Pipeline.arrRef spec1 w)
  after w t := match w with
    | ⟨0, _⟩ => fb (b := 16) (ax1 V c) (fun _ => 0#32) t.val
    | ⟨1, _⟩ => fb (b := 16) (axp1 V c) (fun _ => 0#32) t.val
    | ⟨2, _⟩ => aa1 V c
    | ⟨3, _⟩ => fb (b := 8) (aw1 V c) (fun _ => zf) t.val
    | ⟨4, _⟩ => fb3 (ag1 V c) (fun _ => zf) t.val
    | ⟨5, _⟩ => fb (b := 16) (IDX1 V c) (fun _ => 0#32) t.val
    | ⟨6, _⟩ => foldV (ACC (LF1 V c) 13)
    | ⟨7, _⟩ => foldV (ACC (LR1 V c) 13)
  Φ t := Phi1 V c t.val
  q w := fullShare
  owed _ := 0

/-- What the body finds in window 0. -/
theorem bef1_0 (c : Dev nD) (t : Fin cfg1.N) (d) : (dat1 V c).before (0 : Fin 8) t d = fb (b := 16) (ax1 V c) d t.val := by
  unfold Dat.before; rw [if_pos (fetch1_0 t)]
  exact fill1_0 (F := F) (ax1 V c) t d

/-- What the body finds in window 1. -/
theorem bef1_1 (c : Dev nD) (t : Fin cfg1.N) (d) : (dat1 V c).before (1 : Fin 8) t d = fb (b := 16) (axp1 V c) d t.val := by
  unfold Dat.before; rw [if_pos (fetch1_1 t)]
  exact fill1_1 (F := F) (axp1 V c) t d

/-- What the body finds in window 3. -/
theorem bef1_3 (c : Dev nD) (t : Fin cfg1.N) (d) : (dat1 V c).before (3 : Fin 8) t d = fb (b := 8) (aw1 V c) d t.val := by
  unfold Dat.before; rw [if_pos (fetch1_3 t)]
  exact fill1_3 (F := F) (aw1 V c) t d

/-- What the body finds in window 4. -/
theorem bef1_4 (c : Dev nD) (t : Fin cfg1.N) (d) : (dat1 V c).before (4 : Fin 8) t d = fb3 (ag1 V c) d t.val := by
  unfold Dat.before; rw [if_pos (fetch1_4 t)]
  exact fill1_4 (F := F) (ag1 V c) t d

/-- What the body finds in window 2. -/
theorem bef1_2 (c : Dev nD) (t : Fin cfg1.N) (d) : (dat1 V c).before (2 : Fin 8) t d = aa1 V c :=
  (Dat.before_in_eq_fetched (dat1 V c) (2 : Fin 8) rfl (fun _ => rfl) (fun _ _ _ => rfl)
    (fun t => (fill1_2 (F := F) (aa1 V c) t).symm) t d).trans (fill1_2 (F := F) (aa1 V c) t)

theorem coord1 (t : Fin grid1.N) : (grid1.coords t 0).val = t.val := by
  rcases fin_N1 t with rfl | rfl | rfl | rfl | rfl | rfl | rfl | rfl | rfl | rfl | rfl | rfl | rfl <;> decide +kernel

theorem cond1_1 (t : Fin grid1.N) :
    (Scalar.cmpi .ne (Scalar.extui (Scalar.cmpi .eq (BitVec.ofNat 32 (grid1.coords t 0).val) 0#32) : BitVec 32) 0#32 = 1#1) ↔ t.val = 0 := by
  rcases fin_N1 t with rfl | rfl | rfl | rfl | rfl | rfl | rfl | rfl | rfl | rfl | rfl | rfl | rfl <;> decide +kernel

theorem cond2_1 (t : Fin grid1.N) : (k1_cond2 (grid1.coords t) = 1#1) ↔ t.val = 12 := by
  rcases fin_N1 t with rfl | rfl | rfl | rfl | rfl | rfl | rfl | rfl | rfl | rfl | rfl | rfl | rfl <;> decide +kernel

theorem lt1 (t : Fin grid1.N) : t.val < 13 := by have := t.isLt; have := N_1; omega

/-- The first result's block is the body's, whatever fills the part outside the array. -/
theorem eq1_5 (c : Dev nD) (t : Fin grid1.N) (d) :
    win1_5.fill (grid1.coords t) d (win1_5.cut (grid1.coords t) (fb (b := 16) (IDX1 V c) (fun _ => 0#32) t.val)) = fb (b := 16) (IDX1 V c) d t.val := by
  exact (congrArg (win1_5.fill (grid1.coords t) d) (cut1_5 (IDX1 V c) t _)).trans (fill1_5 (F := F) (IDX1 V c) t d)

set_option maxHeartbeats 2000000 in
/-- The obligation of call 1's body at every point. -/
theorem body_obligation1 (c : Dev nD) : BodyObligationLoose (dat1 V c) (defs₀ (F := F)) Variants.none () Set.univ := fun t => by
  rw [bigSep_W1, bigSep_W1]
  simp only
  have hlt := lt1 t
  have hco := coord1 t
  have hN := N_1
  rw [show (dat1 V c).owesAt () t.succ = (dat1 V c).owesAt () t.castSucc from rfl,
    show (dat1 V c).Φ t.castSucc = Phi1 V c t.val from rfl, show (dat1 V c).Φ t.succ = Phi1 V c (t.val + 1) from rfl]
  change _ ⊢ wp _ _ _ (bodyAt1 t) _
  unfold Phi1
  iintro ⟨⟨⟨%s0, %hs0, HS0⟩, ⟨%s1, %hs1, HS1⟩, HR⟩, Ho, ⟨%d0, H0⟩, ⟨%d1, H1⟩, ⟨%d2, H2⟩, ⟨%d3, H3⟩, ⟨%d4, H4⟩, ⟨%d5, H5⟩, ⟨%d6, H6⟩, ⟨%d7, H7⟩⟩
  rw [bef1_0 V c t d0, bef1_1 V c t d1, bef1_2 V c t d2, bef1_3 V c t d3, bef1_4 V c t d4]
  have hlf : lfV (BitVec.ofNat 32 (grid1.coords t 0).val) (fb (b := 16) (ax1 V c) d0 t.val) (fb (b := 16) (axp1 V c) d1 t.val) (aa1 V c) (fb (b := 8) (aw1 V c) d3 t.val) (fb3 (ag1 V c) d4 t.val) = blkF (LF1 V c) t.val := by
    rw [hco]; exact lf_fb (ax1 V c) (axp1 V c) (aa1 V c) (aw1 V c) (ag1 V c) t.val d0 d1 d3 d4 hlt
  have hlr : lrV (BitVec.ofNat 32 (grid1.coords t 0).val) (fb (b := 16) (ax1 V c) d0 t.val) (fb (b := 16) (axp1 V c) d1 t.val) (aa1 V c) (fb (b := 8) (aw1 V c) d3 t.val) (fb3 (ag1 V c) d4 t.val) = blkF (LR1 V c) t.val := by
    rw [hco]; exact lr_fb (ax1 V c) (axp1 V c) (aa1 V c) (aw1 V c) (ag1 V c) t.val d0 d1 d3 d4 hlt
  have hix := idxV_fb (ax1 V c) (axp1 V c) (aa1 V c) (aw1 V c) (ag1 V c) t.val d0 d1 d3 d4
  have k0 : win1_0.cut (grid1.coords t) (fb (b := 16) (ax1 V c) (fun _ => 0#32) t.val) = (win1_0.blk t).view.read (Elt F) (ax1 V c) := by
    rw [← fill1_0 (F := F) (ax1 V c) t]; exact win1_0.cut_fill _ _ _
  have k1 : win1_1.cut (grid1.coords t) (fb (b := 16) (axp1 V c) (fun _ => 0#32) t.val) = (win1_1.blk t).view.read (Elt F) (axp1 V c) := by
    rw [← fill1_1 (F := F) (axp1 V c) t]; exact win1_1.cut_fill _ _ _
  have k3 : win1_3.cut (grid1.coords t) (fb (b := 8) (aw1 V c) (fun _ => zf) t.val) = (win1_3.blk t).view.read (Elt F) (aw1 V c) := by
    rw [← fill1_3 (F := F) (aw1 V c) t]; exact win1_3.cut_fill _ _ _
  have k4 : win1_4.cut (grid1.coords t) (fb3 (ag1 V c) (fun _ => zf) t.val) = (win1_4.blk t).view.read (Elt F) (ag1 V c) := by
    rw [← fill1_4 (F := F) (ag1 V c) t]; exact win1_4.cut_fill _ _ _
  by_cases h0 : t.val = 0
  · have hid : (!(k1_cond2 (grid1.coords t) == 1#1)) = true := by
      have hne : ¬(k1_cond2 (grid1.coords t) = 1#1) := fun h => by have := (cond2_1 t).mp h; omega
      simp [hne]
    have hf6 : win1_6.flush t = false := by
      have := mt (flush1_6 t).mp (by omega); exact Bool.eq_false_iff.mpr this
    have hf7 : win1_7.flush t = false := by
      have := mt (flush1_7 t).mp (by omega); exact Bool.eq_false_iff.mpr this
    simp only [hid, hf6, hf7]
    iapply (body1_first (F := F) c Set.univ (grid1.coords t) ((cond1_1 t).mpr h0) (fun h => by have := (cond2_1 t).mp h; omega)
      _ _ _ _ _ _ _ _ _ _ _ _ _ _ _ _ _ _ _ _
      (fb (b := 16) (ax1 V c) d0 t.val) (fb (b := 16) (axp1 V c) d1 t.val) (aa1 V c) (fb (b := 8) (aw1 V c) d3 t.val) (fb3 (ag1 V c) d4 t.val)
      ((dat1 V c).before (5 : Fin 8) t d5) ((dat1 V c).before (6 : Fin 8) t d6) ((dat1 V c).before (7 : Fin 8) t d7) s0 s1 _)
    isplitl [H0 H1 H2 H3 H4 H5 H6 H7 HS0 HS1]
    · isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS0]; · iexact HS0
      iexact HS1
    iintro ⟨H0, H1, H2, H3, H4, H5, H6, H7, HS0, HS1⟩
    isplitl [HS0 HS1 HR]
    · isplitl [HS0]
      · iexists _; isplitr; swap; (· iexact HS0); ipureintro; intro _
        rw [hlf, h0]; rfl
      isplitl [HS1]
      · iexists _; isplitr; swap; (· iexact HS1); ipureintro; intro _
        rw [hlr, h0]; rfl
      iexact HR
    isplitl [Ho]; · iexact Ho
    isplitl [H0]
    · iexists d0
      change _ ⊢ owns (Val := Elt F) (c : Thread nD τ) (stage1_0 (cfg1.slots t 0)) fullShare (win1_0.fill (grid1.coords t) d0 (win1_0.cut (grid1.coords t) (fb (b := 16) (ax1 V c) (fun _ => 0#32) t.val)))
      rw [k0, fill1_0 (F := F)]
    isplitl [H1]
    · iexists d1
      change _ ⊢ owns (Val := Elt F) (c : Thread nD τ) (stage1_1 (cfg1.slots t 1)) fullShare (win1_1.fill (grid1.coords t) d1 (win1_1.cut (grid1.coords t) (fb (b := 16) (axp1 V c) (fun _ => 0#32) t.val)))
      rw [k1, fill1_1 (F := F)]
    isplitl [H2]; · iexact H2
    isplitl [H3]
    · iexists d3
      change _ ⊢ owns (Val := Elt F) (c : Thread nD τ) (stage1_3 (cfg1.slots t 3)) fullShare (win1_3.fill (grid1.coords t) d3 (win1_3.cut (grid1.coords t) (fb (b := 8) (aw1 V c) (fun _ => zf) t.val)))
      rw [k3, fill1_3 (F := F)]
    isplitl [H4]
    · iexists d4
      change _ ⊢ owns (Val := Elt F) (c : Thread nD τ) (stage1_4 (cfg1.slots t 4)) fullShare (win1_4.fill (grid1.coords t) d4 (win1_4.cut (grid1.coords t) (fb3 (ag1 V c) (fun _ => zf) t.val)))
      rw [k4, fill1_4 (F := F)]
    isplitl [H5]
    · obtain ⟨X5, hX5⟩ : ∃ X5, X5 = idxV (fb (b := 16) (ax1 V c) d0 t.val) (fb (b := 16) (axp1 V c) d1 t.val) (aa1 V c) (fb (b := 8) (aw1 V c) d3 t.val) (fb3 (ag1 V c) d4 t.val) := ⟨_, rfl⟩
      have hfin : fb (b := 16) (IDX1 V c) X5 t.val = idxV (fb (b := 16) (ax1 V c) d0 t.val) (fb (b := 16) (axp1 V c) d1 t.val) (aa1 V c) (fb (b := 8) (aw1 V c) d3 t.val) (fb3 (ag1 V c) d4 t.val) := by rw [hX5]; exact hix.symm
      iexists X5
      change _ ⊢ owns (Val := Elt F) (c : Thread nD τ) (stage1_5 (cfg1.slots t 5)) fullShare (win1_5.fill (grid1.coords t) X5 (win1_5.cut (grid1.coords t) (fb (b := 16) (IDX1 V c) (fun _ => 0#32) t.val)))
      rw [eq1_5 V c t X5, hfin]
    isplitl [H6]
    · iexists d6; iexact H6
    · iexists d7; iexact H7
  by_cases h12 : t.val = 12
  · have hid : (!(k1_cond2 (grid1.coords t) == 1#1)) = false := by simp [(cond2_1 t).mpr h12]
    simp only [hid]
    iapply (body1_last (F := F) c Set.univ (grid1.coords t) (fun h => h0 ((cond1_1 t).mp h)) ((cond2_1 t).mpr h12)
      _ _ _ _ _ _ _ _ _ _ _ _ _ _ _ _ _ _ _ _
      (fb (b := 16) (ax1 V c) d0 t.val) (fb (b := 16) (axp1 V c) d1 t.val) (aa1 V c) (fb (b := 8) (aw1 V c) d3 t.val) (fb3 (ag1 V c) d4 t.val)
      ((dat1 V c).before (5 : Fin 8) t d5) ((dat1 V c).before (6 : Fin 8) t d6) ((dat1 V c).before (7 : Fin 8) t d7) s0 s1 _)
    isplitl [H0 H1 H2 H3 H4 H5 H6 H7 HS0 HS1]
    · isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS0]; · iexact HS0
      iexact HS1
    iintro ⟨H0, H1, H2, H3, H4, H5, H6, H7, HS0, HS1⟩
    isplitl [HS0 HS1 HR]
    · isplitl [HS0]
      · iexists _; isplitr; swap; (· iexact HS0); ipureintro; intro _
        rw [hs0 h0, hlf]; rfl
      isplitl [HS1]
      · iexists _; isplitr; swap; (· iexact HS1); ipureintro; intro _
        rw [hs1 h0, hlr]; rfl
      iexact HR
    isplitl [Ho]; · iexact Ho
    isplitl [H0]
    · iexists d0
      change _ ⊢ owns (Val := Elt F) (c : Thread nD τ) (stage1_0 (cfg1.slots t 0)) fullShare (win1_0.fill (grid1.coords t) d0 (win1_0.cut (grid1.coords t) (fb (b := 16) (ax1 V c) (fun _ => 0#32) t.val)))
      rw [k0, fill1_0 (F := F)]
    isplitl [H1]
    · iexists d1
      change _ ⊢ owns (Val := Elt F) (c : Thread nD τ) (stage1_1 (cfg1.slots t 1)) fullShare (win1_1.fill (grid1.coords t) d1 (win1_1.cut (grid1.coords t) (fb (b := 16) (axp1 V c) (fun _ => 0#32) t.val)))
      rw [k1, fill1_1 (F := F)]
    isplitl [H2]; · iexact H2
    isplitl [H3]
    · iexists d3
      change _ ⊢ owns (Val := Elt F) (c : Thread nD τ) (stage1_3 (cfg1.slots t 3)) fullShare (win1_3.fill (grid1.coords t) d3 (win1_3.cut (grid1.coords t) (fb (b := 8) (aw1 V c) (fun _ => zf) t.val)))
      rw [k3, fill1_3 (F := F)]
    isplitl [H4]
    · iexists d4
      change _ ⊢ owns (Val := Elt F) (c : Thread nD τ) (stage1_4 (cfg1.slots t 4)) fullShare (win1_4.fill (grid1.coords t) d4 (win1_4.cut (grid1.coords t) (fb3 (ag1 V c) (fun _ => zf) t.val)))
      rw [k4, fill1_4 (F := F)]
    isplitl [H5]
    · obtain ⟨X5, hX5⟩ : ∃ X5, X5 = idxV (fb (b := 16) (ax1 V c) d0 t.val) (fb (b := 16) (axp1 V c) d1 t.val) (aa1 V c) (fb (b := 8) (aw1 V c) d3 t.val) (fb3 (ag1 V c) d4 t.val) := ⟨_, rfl⟩
      have hfin : fb (b := 16) (IDX1 V c) X5 t.val = idxV (fb (b := 16) (ax1 V c) d0 t.val) (fb (b := 16) (axp1 V c) d1 t.val) (aa1 V c) (fb (b := 8) (aw1 V c) d3 t.val) (fb3 (ag1 V c) d4 t.val) := by rw [hX5]; exact hix.symm
      iexists X5
      change _ ⊢ owns (Val := Elt F) (c : Thread nD τ) (stage1_5 (cfg1.slots t 5)) fullShare (win1_5.fill (grid1.coords t) X5 (win1_5.cut (grid1.coords t) (fb (b := 16) (IDX1 V c) (fun _ => 0#32) t.val)))
      rw [eq1_5 V c t X5, hfin]
    have e6 : accV (blkF (LF1 V c) t.val) s0 = ACC (LF1 V c) 13 := by rw [hs0 h0, h12]; rfl
    have e7 : accV (blkF (LR1 V c) t.val) s1 = ACC (LR1 V c) 13 := by rw [hs1 h0, h12]; rfl
    rw [hlf, hlr]
    isplitl [H6]
    · change _ ⊢ owns (Val := Elt F) (c : Thread nD τ) (stage1_6 (cfg1.slots t 6)) fullShare (foldV (ACC (LF1 V c) 13))
      rw [← e6]
    · change _ ⊢ owns (Val := Elt F) (c : Thread nD τ) (stage1_7 (cfg1.slots t 7)) fullShare (foldV (ACC (LR1 V c) 13))
      rw [← e7]
  · have hid : (!(k1_cond2 (grid1.coords t) == 1#1)) = true := by
      have hne : ¬(k1_cond2 (grid1.coords t) = 1#1) := fun h => by have := (cond2_1 t).mp h; omega
      simp [hne]
    have hf6 : win1_6.flush t = false := by
      have := mt (flush1_6 t).mp (by omega); exact Bool.eq_false_iff.mpr this
    have hf7 : win1_7.flush t = false := by
      have := mt (flush1_7 t).mp (by omega); exact Bool.eq_false_iff.mpr this
    simp only [hid, hf6, hf7]
    iapply (body1_mid (F := F) c Set.univ (grid1.coords t) (fun h => h0 ((cond1_1 t).mp h)) (fun h => h12 ((cond2_1 t).mp h))
      _ _ _ _ _ _ _ _ _ _ _ _ _ _ _ _ _ _ _ _
      (fb (b := 16) (ax1 V c) d0 t.val) (fb (b := 16) (axp1 V c) d1 t.val) (aa1 V c) (fb (b := 8) (aw1 V c) d3 t.val) (fb3 (ag1 V c) d4 t.val)
      ((dat1 V c).before (5 : Fin 8) t d5) ((dat1 V c).before (6 : Fin 8) t d6) ((dat1 V c).before (7 : Fin 8) t d7) s0 s1 _)
    isplitl [H0 H1 H2 H3 H4 H5 H6 H7 HS0 HS1]
    · isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS0]; · iexact HS0
      iexact HS1
    iintro ⟨H0, H1, H2, H3, H4, H5, H6, H7, HS0, HS1⟩
    isplitl [HS0 HS1 HR]
    · isplitl [HS0]
      · iexists _; isplitr; swap; (· iexact HS0); ipureintro; intro _
        rw [hs0 h0, hlf]; rfl
      isplitl [HS1]
      · iexists _; isplitr; swap; (· iexact HS1); ipureintro; intro _
        rw [hs1 h0, hlr]; rfl
      iexact HR
    isplitl [Ho]; · iexact Ho
    isplitl [H0]
    · iexists d0
      change _ ⊢ owns (Val := Elt F) (c : Thread nD τ) (stage1_0 (cfg1.slots t 0)) fullShare (win1_0.fill (grid1.coords t) d0 (win1_0.cut (grid1.coords t) (fb (b := 16) (ax1 V c) (fun _ => 0#32) t.val)))
      rw [k0, fill1_0 (F := F)]
    isplitl [H1]
    · iexists d1
      change _ ⊢ owns (Val := Elt F) (c : Thread nD τ) (stage1_1 (cfg1.slots t 1)) fullShare (win1_1.fill (grid1.coords t) d1 (win1_1.cut (grid1.coords t) (fb (b := 16) (axp1 V c) (fun _ => 0#32) t.val)))
      rw [k1, fill1_1 (F := F)]
    isplitl [H2]; · iexact H2
    isplitl [H3]
    · iexists d3
      change _ ⊢ owns (Val := Elt F) (c : Thread nD τ) (stage1_3 (cfg1.slots t 3)) fullShare (win1_3.fill (grid1.coords t) d3 (win1_3.cut (grid1.coords t) (fb (b := 8) (aw1 V c) (fun _ => zf) t.val)))
      rw [k3, fill1_3 (F := F)]
    isplitl [H4]
    · iexists d4
      change _ ⊢ owns (Val := Elt F) (c : Thread nD τ) (stage1_4 (cfg1.slots t 4)) fullShare (win1_4.fill (grid1.coords t) d4 (win1_4.cut (grid1.coords t) (fb3 (ag1 V c) (fun _ => zf) t.val)))
      rw [k4, fill1_4 (F := F)]
    isplitl [H5]
    · obtain ⟨X5, hX5⟩ : ∃ X5, X5 = idxV (fb (b := 16) (ax1 V c) d0 t.val) (fb (b := 16) (axp1 V c) d1 t.val) (aa1 V c) (fb (b := 8) (aw1 V c) d3 t.val) (fb3 (ag1 V c) d4 t.val) := ⟨_, rfl⟩
      have hfin : fb (b := 16) (IDX1 V c) X5 t.val = idxV (fb (b := 16) (ax1 V c) d0 t.val) (fb (b := 16) (axp1 V c) d1 t.val) (aa1 V c) (fb (b := 8) (aw1 V c) d3 t.val) (fb3 (ag1 V c) d4 t.val) := by rw [hX5]; exact hix.symm
      iexists X5
      change _ ⊢ owns (Val := Elt F) (c : Thread nD τ) (stage1_5 (cfg1.slots t 5)) fullShare (win1_5.fill (grid1.coords t) X5 (win1_5.cut (grid1.coords t) (fb (b := 16) (IDX1 V c) (fun _ => 0#32) t.val)))
      rw [eq1_5 V c t X5, hfin]
    isplitl [H6]
    · iexists d6; iexact H6
    · iexists d7; iexact H7

/-- What call 1 leaves in its first result. -/
theorem final1_5 (c : Dev nD) : (dat1 V c).arrAt (5 : Fin 8) cfg1.N = IDX1 V c :=
  (dat1 V c).arrAt_eq_of_cover (5 : Fin 8) (IDX1 V c) (fun t _ => cut1_5 (IDX1 V c) t _)
    (fun i => (cover1_5 i).imp fun t h => ⟨flush1_5 t, h⟩)

/-- What call 1 leaves in its other two results. -/
theorem final1_6 (c : Dev nD) : (dat1 V c).arrAt (6 : Fin 8) cfg1.N = foldV (ACC (LF1 V c) 13) :=
  (dat1 V c).arrAt_eq_of_cover (6 : Fin 8) (foldV (ACC (LF1 V c) 13)) (fun t _ => (fill1_6 (F := F) (foldV (ACC (LF1 V c) 13)) t).symm)
    (fun i => ⟨t1_12, (flush1_6 t1_12).mpr (by decide), cover1_6 i t1_12⟩)
theorem final1_7 (c : Dev nD) : (dat1 V c).arrAt (7 : Fin 8) cfg1.N = foldV (ACC (LR1 V c) 13) :=
  (dat1 V c).arrAt_eq_of_cover (7 : Fin 8) (foldV (ACC (LR1 V c) 13)) (fun t _ => (fill1_7 (F := F) (foldV (ACC (LR1 V c) 13)) t).symm)
    (fun i => ⟨t1_12, (flush1_7 t1_12).mpr (by decide), cover1_7 i t1_12⟩)

end Cert.KernelIdeal.Own

end
-- ==== Proof.Dat2.lean ====
module

public import proofs.«01_k».proof.Proof.Win
public import proofs.«01_k».proof.Proof.Body0
public import Idealize.ShloMosaic.Lib.Pipeline.FrameBody
public import Idealize.ShloMosaic.Lib.Pipeline.RegionsLoop

@[expose] public section

noncomputable section

namespace Cert.KernelIdeal.Own

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ UU ℕ

variable (V : (c : Dev nD) → (b : Ref sig .tc) → Buf (Elt F) ((c : Thread nD τ).loc b))

/-- The arrays call 2 reads. -/
abbrev sx (c : Dev nD) : IVec S16x100000 32 := V c main_arg0
abbrev sp0 (c : Dev nD) : IVec S16x100000 32 := V c main_v7_0
abbrev sa0 (c : Dev nD) : FVec F S16x1 .f32 := V c main_v124
abbrev sp1 (c : Dev nD) : IVec S16x100000 32 := V c main_v63_0
abbrev sa1 (c : Dev nD) : FVec F S16x1 .f32 := V c main_v125

/-- What call 2 leaves. -/
def SEL (c : Dev nD) : IVec S16x100000 32 := SELw (sx V c) (sp0 V c) (sa0 V c) (sp1 V c) (sa1 V c)

/-- The block of the result is the body's on the columns inside the array. -/
theorem sel_fb (X P0 : IVec S16x100000 32) (a0 : FVec F S16x1 .f32) (P1 : IVec S16x100000 32) (a1 : FVec F S16x1 .f32) (n : Nat)
    (d0 d1 d3 : IVec S16x8192 32) :
    selV (fb (b := 16) X d0 n) (fb (b := 16) P0 d1 n) a0 (fb (b := 16) P1 d3 n) a1
      = fb (b := 16) (SELw X P0 a0 P1 a1) (selV (fb (b := 16) X d0 n) (fb (b := 16) P0 d1 n) a0 (fb (b := 16) P1 d3 n) a1) n := by
  funext j
  obtain ⟨r, l, rfl⟩ : ∃ r l, j = ix2 r l := ⟨_, _, eq_ix2' j⟩
  by_cases h : n * 8192 + l.val < 100000
  · refine Eq.trans ?_ (fb_pos (b := 16) (SELw X P0 a0 P1 a1) _ n r l h).symm
    show xcS _ (fb (b := 16) P1 d3 n (ix2 r l)) (xcS _ (fb (b := 16) P0 d1 n (ix2 r l)) (fb (b := 16) X d0 n (ix2 r l))) = _
    rw [fb_pos (b := 16) P1 d3 n r l h, fb_pos (b := 16) P0 d1 n r l h, fb_pos (b := 16) X d0 n r l h]; rfl
  · exact (dif_neg h : fb (b := 16) (SELw X P0 a0 P1 a1) _ n (ix2 r l) = _).symm

/-- The proof data of call 2 entered at `V`. -/
def dat2 (c : Dev nD) : Dat τ (Elt F) Unit ℕ UU ℕ cfg2 c where
  A w := V c (Pipeline.arrRef spec2 w)
  after w t := match w with
    | ⟨0, _⟩ => fb (b := 16) (sx V c) (fun _ => 0#32) t.val
    | ⟨1, _⟩ => fb (b := 16) (sp0 V c) (fun _ => 0#32) t.val
    | ⟨2, _⟩ => sa0 V c
    | ⟨3, _⟩ => fb (b := 16) (sp1 V c) (fun _ => 0#32) t.val
    | ⟨4, _⟩ => sa1 V c
    | ⟨5, _⟩ => fb (b := 16) (SEL V c) (fun _ => 0#32) t.val
  Φ _ := Pipeline.scopedRest (Ix := Unit) (Name := ℕ) (U := UU) (Lvl := ℕ) (Val := Elt F) spec2 c
  q _ := fullShare
  owed _ := 0

/-- What the body finds in window 0. -/
theorem bef2_0 (c : Dev nD) (t : Fin cfg2.N) (d) : (dat2 V c).before (0 : Fin 6) t d = fb (b := 16) (sx V c) d t.val := by
  unfold Dat.before; rw [if_pos (fetch2_0 t)]
  exact fill2_0 (F := F) (sx V c) t d

/-- What the body finds in window 1. -/
theorem bef2_1 (c : Dev nD) (t : Fin cfg2.N) (d) : (dat2 V c).before (1 : Fin 6) t d = fb (b := 16) (sp0 V c) d t.val := by
  unfold Dat.before; rw [if_pos (fetch2_1 t)]
  exact fill2_1 (F := F) (sp0 V c) t d

/-- What the body finds in window 3. -/
theorem bef2_3 (c : Dev nD) (t : Fin cfg2.N) (d) : (dat2 V c).before (3 : Fin 6) t d = fb (b := 16) (sp1 V c) d t.val := by
  unfold Dat.before; rw [if_pos (fetch2_3 t)]
  exact fill2_3 (F := F) (sp1 V c) t d

/-- What the body finds in window 2. -/
theorem bef2_2 (c : Dev nD) (t : Fin cfg2.N) (d) : (dat2 V c).before (2 : Fin 6) t d = sa0 V c :=
  (Dat.before_in_eq_fetched (dat2 V c) (2 : Fin 6) rfl (fun _ => rfl) (fun _ _ _ => rfl)
    (fun t => (fill2_2 (F := F) (sa0 V c) t).symm) t d).trans (fill2_2 (F := F) (sa0 V c) t)

/-- What the body finds in window 4. -/
theorem bef2_4 (c : Dev nD) (t : Fin cfg2.N) (d) : (dat2 V c).before (4 : Fin 6) t d = sa1 V c :=
  (Dat.before_in_eq_fetched (dat2 V c) (4 : Fin 6) rfl (fun _ => rfl) (fun _ _ _ => rfl)
    (fun t => (fill2_4 (F := F) (sa1 V c) t).symm) t d).trans (fill2_4 (F := F) (sa1 V c) t)

theorem eq2_5 (c : Dev nD) (t : Fin grid2.N) (d) :
    win2_5.fill (grid2.coords t) d (win2_5.cut (grid2.coords t) (fb (b := 16) (SEL V c) (fun _ => 0#32) t.val)) = fb (b := 16) (SEL V c) d t.val := by
  exact (congrArg (win2_5.fill (grid2.coords t) d) (cut2_5 (SEL V c) t _)).trans (fill2_5 (F := F) (SEL V c) t d)

set_option maxHeartbeats 2000000 in
/-- The obligation of call 2's body at every point. -/
theorem body_obligation2 (c : Dev nD) : BodyObligationLoose (dat2 V c) (defs₀ (F := F)) Variants.none () Set.univ := fun t => by
  rw [bigSep_W2, bigSep_W2]
  simp only
  rw [show (dat2 V c).owesAt () t.succ = (dat2 V c).owesAt () t.castSucc from rfl,
    show (dat2 V c).Φ t.succ = (dat2 V c).Φ t.castSucc from rfl]
  change _ ⊢ wp _ _ _ (bodyAt2 t) _
  iintro ⟨HΦ, Ho, ⟨%d0, H0⟩, ⟨%d1, H1⟩, ⟨%d2, H2⟩, ⟨%d3, H3⟩, ⟨%d4, H4⟩, ⟨%d5, H5⟩⟩
  rw [bef2_0 V c t d0, bef2_1 V c t d1, bef2_2 V c t d2, bef2_3 V c t d3, bef2_4 V c t d4]
  have k0 : win2_0.cut (grid2.coords t) (fb (b := 16) (sx V c) (fun _ => 0#32) t.val) = (win2_0.blk t).view.read (Elt F) (sx V c) := by
    rw [← fill2_0 (F := F) (sx V c) t]; exact win2_0.cut_fill _ _ _
  have k1 : win2_1.cut (grid2.coords t) (fb (b := 16) (sp0 V c) (fun _ => 0#32) t.val) = (win2_1.blk t).view.read (Elt F) (sp0 V c) := by
    rw [← fill2_1 (F := F) (sp0 V c) t]; exact win2_1.cut_fill _ _ _
  have k3 : win2_3.cut (grid2.coords t) (fb (b := 16) (sp1 V c) (fun _ => 0#32) t.val) = (win2_3.blk t).view.read (Elt F) (sp1 V c) := by
    rw [← fill2_3 (F := F) (sp1 V c) t]; exact win2_3.cut_fill _ _ _
  iapply (body2 (F := F) c Set.univ (grid2.coords t) _ _ _ _ _ _ _ _ _ _ _ _ (fb (b := 16) (sx V c) d0 t.val) (fb (b := 16) (sp0 V c) d1 t.val) (sa0 V c) (fb (b := 16) (sp1 V c) d3 t.val) (sa1 V c) ((dat2 V c).before (5 : Fin 6) t d5) _)
  isplitl [H0 H1 H2 H3 H4 H5]
  · isplitl [H0]; · iexact H0
    isplitl [H1]; · iexact H1
    isplitl [H2]; · iexact H2
    isplitl [H3]; · iexact H3
    isplitl [H4]; · iexact H4
    iexact H5
  iintro ⟨H0, H1, H2, H3, H4, H5⟩
  isplitl [HΦ]; · iexact HΦ
  isplitl [Ho]; · iexact Ho
  isplitl [H0]
  · iexists d0
    change _ ⊢ owns (Val := Elt F) (c : Thread nD τ) (stage2_0 (cfg2.slots t 0)) fullShare (win2_0.fill (grid2.coords t) d0 (win2_0.cut (grid2.coords t) (fb (b := 16) (sx V c) (fun _ => 0#32) t.val)))
    rw [k0, fill2_0 (F := F)]
  isplitl [H1]
  · iexists d1
    change _ ⊢ owns (Val := Elt F) (c : Thread nD τ) (stage2_1 (cfg2.slots t 1)) fullShare (win2_1.fill (grid2.coords t) d1 (win2_1.cut (grid2.coords t) (fb (b := 16) (sp0 V c) (fun _ => 0#32) t.val)))
    rw [k1, fill2_1 (F := F)]
  isplitl [H2]; · iexact H2
  isplitl [H3]
  · iexists d3
    change _ ⊢ owns (Val := Elt F) (c : Thread nD τ) (stage2_3 (cfg2.slots t 3)) fullShare (win2_3.fill (grid2.coords t) d3 (win2_3.cut (grid2.coords t) (fb (b := 16) (sp1 V c) (fun _ => 0#32) t.val)))
    rw [k3, fill2_3 (F := F)]
  isplitl [H4]; · iexact H4
  obtain ⟨X5, hX5⟩ : ∃ X5, X5 = selV (fb (b := 16) (sx V c) d0 t.val) (fb (b := 16) (sp0 V c) d1 t.val) (sa0 V c) (fb (b := 16) (sp1 V c) d3 t.val) (sa1 V c) := ⟨_, rfl⟩
  have hfin : fb (b := 16) (SEL V c) X5 t.val = selV (fb (b := 16) (sx V c) d0 t.val) (fb (b := 16) (sp0 V c) d1 t.val) (sa0 V c) (fb (b := 16) (sp1 V c) d3 t.val) (sa1 V c) := by
    rw [hX5]; exact (sel_fb (sx V c) (sp0 V c) (sa0 V c) (sp1 V c) (sa1 V c) t.val d0 d1 d3).symm
  iexists X5
  change _ ⊢ owns (Val := Elt F) (c : Thread nD τ) (stage2_5 (cfg2.slots t 5)) fullShare (win2_5.fill (grid2.coords t) X5 (win2_5.cut (grid2.coords t) (fb (b := 16) (SEL V c) (fun _ => 0#32) t.val)))
  rw [eq2_5 V c t X5, hfin]

/-- What call 2 leaves in its result. -/
theorem final2_5 (c : Dev nD) : (dat2 V c).arrAt (5 : Fin 6) cfg2.N = SEL V c :=
  (dat2 V c).arrAt_eq_of_cover (5 : Fin 6) (SEL V c) (fun t _ => cut2_5 (SEL V c) t _)
    (fun i => (cover2_5 i).imp fun t h => ⟨flush2_5 t, h⟩)

end Cert.KernelIdeal.Own

end
-- ==== Proof.Regs.lean ====
module

public import proofs.«01_k».proof.Proof.Dat0
public import proofs.«01_k».proof.Proof.Dat1
public import proofs.«01_k».proof.Proof.Dat2
public import proofs.«01_k».proof.Proof.Gen.KernelIdeal.Regions

@[expose] public section

set_option maxRecDepth 1900

noncomputable section

namespace Cert.KernelIdeal.Own

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ UU ℕ

variable (X1 X3 X7 : Dev nD → Valuation τ sig (Elt F))

/-- The buffers as references' contents. -/
abbrev En (X : Dev nD → Valuation τ sig (Elt F)) (c : Dev nD) (b : Ref sig .tc) : Buf (Elt F) ((c : Thread nD τ).loc b) := X c b

/-- The buffers after each call entered at `X`. -/
def U0 (X : Dev nD → Valuation τ sig (Elt F)) (c : Dev nD) : Valuation τ sig (Elt F) :=
  Function.update (Function.update (Function.update (X c) main_v7_0 (IDX0 (En X) c)) main_v7_1 (foldV (ACC (LF0 (En X) c) 13))) main_v7_2 (foldV (ACC (LR0 (En X) c) 13))
def U1 (X : Dev nD → Valuation τ sig (Elt F)) (c : Dev nD) : Valuation τ sig (Elt F) :=
  Function.update (Function.update (Function.update (X c) main_v63_0 (IDX1 (En X) c)) main_v63_1 (foldV (ACC (LF1 (En X) c) 13))) main_v63_2 (foldV (ACC (LR1 (En X) c) 13))
def U2 (X : Dev nD → Valuation τ sig (Elt F)) (c : Dev nD) : Valuation τ sig (Elt F) := Function.update (X c) main_v126 (SEL (En X) c)

/-- What the calls leave. -/
def outs : Outs (F := F) := fun k r c => match k with
  | 2 => U0 X1 c r
  | 4 => U1 X3 c r
  | _ => U2 X7 c r

/-- The three calls' proof data. -/
def pdats : (p : Fin 3) → (c : Dev nD) → Dat τ (Elt F) Unit ℕ UU ℕ (Pipeline.pin (pcfgs (F := F)) adm p) c
  | ⟨0, _⟩ => dat0 (En X1)
  | ⟨1, _⟩ => dat1 (En X3)
  | ⟨2, _⟩ => dat2 (En X7)

abbrev Lz : GSem nD τ sig → Finset Unit := fun _ => ∅
abbrev lvz : GSem nD τ sig → Unit → ℕ := fun _ _ => 0

/-- What a core holds beside its buffers. -/
abbrev Owe (c : Dev nD) : sProp 𝕄 := iprop(∃ W, owes (c : Thread nD τ) (0 : CellTallies nD τ sig Unit) W)

/-- Call 0 changes only its results. -/
theorem U0_of (X : Dev nD → Valuation τ sig (Elt F)) (c : Dev nD) (b : Ref sig .tc) (h : b ∉ ([main_v7_0, main_v7_1, main_v7_2] : List (Ref sig .tc))) : U0 X c b = X c b := by
  unfold U0
  rw [Function.update_of_ne (StableHlo.devRef_ne_of_ne (fun e => h (by rw [e]; decide)) : (Proc.devRef .tc b : DevRef τ sig) ≠ Proc.devRef .tc main_v7_2), Function.update_of_ne (StableHlo.devRef_ne_of_ne (fun e => h (by rw [e]; decide)) : (Proc.devRef .tc b : DevRef τ sig) ≠ Proc.devRef .tc main_v7_1), Function.update_of_ne (StableHlo.devRef_ne_of_ne (fun e => h (by rw [e]; decide)) : (Proc.devRef .tc b : DevRef τ sig) ≠ Proc.devRef .tc main_v7_0)]

/-- Call 1 changes only its results. -/
theorem U1_of (X : Dev nD → Valuation τ sig (Elt F)) (c : Dev nD) (b : Ref sig .tc) (h : b ∉ ([main_v63_0, main_v63_1, main_v63_2] : List (Ref sig .tc))) : U1 X c b = X c b := by
  unfold U1
  rw [Function.update_of_ne (StableHlo.devRef_ne_of_ne (fun e => h (by rw [e]; decide)) : (Proc.devRef .tc b : DevRef τ sig) ≠ Proc.devRef .tc main_v63_2), Function.update_of_ne (StableHlo.devRef_ne_of_ne (fun e => h (by rw [e]; decide)) : (Proc.devRef .tc b : DevRef τ sig) ≠ Proc.devRef .tc main_v63_1), Function.update_of_ne (StableHlo.devRef_ne_of_ne (fun e => h (by rw [e]; decide)) : (Proc.devRef .tc b : DevRef τ sig) ≠ Proc.devRef .tc main_v63_0)]

/-- Call 2 changes only its results. -/
theorem U2_of (X : Dev nD → Valuation τ sig (Elt F)) (c : Dev nD) (b : Ref sig .tc) (h : b ∉ ([main_v126] : List (Ref sig .tc))) : U2 X c b = X c b := by
  unfold U2
  rw [Function.update_of_ne (StableHlo.devRef_ne_of_ne (fun e => h (by rw [e]; decide)) : (Proc.devRef .tc b : DevRef τ sig) ≠ Proc.devRef .tc main_v126)]

theorem arrA0_0 (V : (c : Dev nD) → (b : Ref sig .tc) → Buf (Elt F) ((c : Thread nD τ).loc b)) (c : Dev nD) : (dat0 V c).arrAt (0 : Fin 8) cfg0.N = V c main_arg0 :=
  (dat0 V c).arrAt_in (0 : Fin 8) rfl _
theorem exit0_0 (X : Dev nD → Valuation τ sig (Elt F)) (c : Dev nD) : (dat0 (En X) c).arrAt (0 : Fin 8) cfg0.N = U0 X c main_arg0 :=
  (arrA0_0 (En X) c).trans (U0_of X c main_arg0 (by decide)).symm
theorem arrA0_1 (V : (c : Dev nD) → (b : Ref sig .tc) → Buf (Elt F) ((c : Thread nD τ).loc b)) (c : Dev nD) : (dat0 V c).arrAt (1 : Fin 8) cfg0.N = V c main_arg0 :=
  (dat0 V c).arrAt_in (1 : Fin 8) rfl _
theorem exit0_1 (X : Dev nD → Valuation τ sig (Elt F)) (c : Dev nD) : (dat0 (En X) c).arrAt (1 : Fin 8) cfg0.N = U0 X c main_arg0 :=
  (arrA0_1 (En X) c).trans (U0_of X c main_arg0 (by decide)).symm
theorem arrA0_2 (V : (c : Dev nD) → (b : Ref sig .tc) → Buf (Elt F) ((c : Thread nD τ).loc b)) (c : Dev nD) : (dat0 V c).arrAt (2 : Fin 8) cfg0.N = V c main_v6 :=
  (dat0 V c).arrAt_in (2 : Fin 8) rfl _
theorem exit0_2 (X : Dev nD → Valuation τ sig (Elt F)) (c : Dev nD) : (dat0 (En X) c).arrAt (2 : Fin 8) cfg0.N = U0 X c main_v6 :=
  (arrA0_2 (En X) c).trans (U0_of X c main_v6 (by decide)).symm
theorem arrA0_3 (V : (c : Dev nD) → (b : Ref sig .tc) → Buf (Elt F) ((c : Thread nD τ).loc b)) (c : Dev nD) : (dat0 V c).arrAt (3 : Fin 8) cfg0.N = V c main_v5 :=
  (dat0 V c).arrAt_in (3 : Fin 8) rfl _
theorem exit0_3 (X : Dev nD → Valuation τ sig (Elt F)) (c : Dev nD) : (dat0 (En X) c).arrAt (3 : Fin 8) cfg0.N = U0 X c main_v5 :=
  (arrA0_3 (En X) c).trans (U0_of X c main_v5 (by decide)).symm
theorem arrA0_4 (V : (c : Dev nD) → (b : Ref sig .tc) → Buf (Elt F) ((c : Thread nD τ).loc b)) (c : Dev nD) : (dat0 V c).arrAt (4 : Fin 8) cfg0.N = V c main_v0 :=
  (dat0 V c).arrAt_in (4 : Fin 8) rfl _
theorem exit0_4 (X : Dev nD → Valuation τ sig (Elt F)) (c : Dev nD) : (dat0 (En X) c).arrAt (4 : Fin 8) cfg0.N = U0 X c main_v0 :=
  (arrA0_4 (En X) c).trans (U0_of X c main_v0 (by decide)).symm
theorem exit0_5 (X : Dev nD → Valuation τ sig (Elt F)) (c : Dev nD) : (dat0 (En X) c).arrAt (5 : Fin 8) cfg0.N = U0 X c main_v7_0 :=
  (final0_5 (En X) c).trans (show U0 X c main_v7_0 = _ from (Function.update_of_ne (StableHlo.devRef_ne_of_ne (by decide)) _ _).trans <| (Function.update_of_ne (StableHlo.devRef_ne_of_ne (by decide)) _ _).trans <| Function.update_self ..).symm
theorem exit0_6 (X : Dev nD → Valuation τ sig (Elt F)) (c : Dev nD) : (dat0 (En X) c).arrAt (6 : Fin 8) cfg0.N = U0 X c main_v7_1 :=
  (final0_6 (En X) c).trans (show U0 X c main_v7_1 = _ from (Function.update_of_ne (StableHlo.devRef_ne_of_ne (by decide)) _ _).trans <| Function.update_self ..).symm
theorem exit0_7 (X : Dev nD → Valuation τ sig (Elt F)) (c : Dev nD) : (dat0 (En X) c).arrAt (7 : Fin 8) cfg0.N = U0 X c main_v7_2 :=
  (final0_7 (En X) c).trans (show U0 X c main_v7_2 = _ from Function.update_self ..).symm

/-- Each array as call 0 leaves it. -/
theorem exit0 (X : Dev nD → Valuation τ sig (Elt F)) (c : Dev nD) : ∀ w : Fin 8, (dat0 (En X) c).arrAt w cfg0.N = U0 X c (Pipeline.arrRef spec0 w)
  | ⟨0, _⟩ => exit0_0 X c
  | ⟨1, _⟩ => exit0_1 X c
  | ⟨2, _⟩ => exit0_2 X c
  | ⟨3, _⟩ => exit0_3 X c
  | ⟨4, _⟩ => exit0_4 X c
  | ⟨5, _⟩ => exit0_5 X c
  | ⟨6, _⟩ => exit0_6 X c
  | ⟨7, _⟩ => exit0_7 X c
  | ⟨_ + 8, h⟩ => absurd h (Nat.not_lt.2 (Nat.le_add_left _ _))

theorem rest0 (X : Dev nD → Valuation τ sig (Elt F)) (c : Dev nD) (b : Ref sig .tc) (hb : b ∉ Finset.univ.image (Pipeline.arrRef spec0)) : U0 X c b = X c b :=
  U0_of X c b fun h => by
    simp only [List.mem_cons, List.not_mem_nil, or_false] at h
    rcases h with rfl | rfl | rfl
    · exact hb (Finset.mem_image.mpr ⟨(5 : Fin 8), Finset.mem_univ _, rfl⟩)
    · exact hb (Finset.mem_image.mpr ⟨(6 : Fin 8), Finset.mem_univ _, rfl⟩)
    · exact hb (Finset.mem_image.mpr ⟨(7 : Fin 8), Finset.mem_univ _, rfl⟩)

set_option backward.isDefEq.respectTransparency.types false in
/-- Call 0 as a segment of the program. -/
def reg0 : RegionSeg (pcfgs (F := F)) adm (pdats X1 X3 X7) () defs₀ Variants.none Lz lvz 0 where
  win := winFacts₀0
  block_pos := block_pos0
  stage_whole := stage_whole0
  K := PEmpty
  osem k := k.elim
  ho := Pipeline.OwnSemFacts.none _
  hbody c := body_obligation0 (En X1) c
  hwaits := Pipeline.hwaits_of_owed_zero _ _ _ _ Lz lvz 0 fun _ _ => rfl
  pre c := iprop(unscopedBufs c (En X1 c) ∗ Owe (F := F) c)
  post c := iprop(unscopedBufs c (fun b => U0 X1 c b) ∗ Owe (F := F) c)
  X _ := BI.emp
  Y _ := BI.emp
  Z c := Pipeline.unscopedRest (Ix := Unit) (Name := ℕ) (U := UU) (Lvl := ℕ) spec0 c (En X1 c)
  hentry c := by
    rw [Pipeline.ownSems0_none]
    have hsplit := Pipeline.arrays_of_unscopedBufs_shared (p := 0) (pcfgs (F := F)) adm (pdats X1 X3 X7) winFacts₀0 sharedIn0 arr_whole0 c (fun _ _ => rfl) (En X1 c) fun _ => rfl
    iintro ⟨⟨Hub, HO⟩, -, -⟩
    ihave H := hsplit $$ Hub
    icases H with ⟨Ha, Hrest⟩
    imodintro
    isplitl [Ha]; · iexact Ha
    isplitr
    · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩
      iexists W
      isplitr; · ipureintro; exact fun _ _ => Or.inl trivial
      iexact HO
    isplitr; · iempintro
    iexact Hrest
  hin c := by
    rw [show (pdats X1 X3 X7 0 c).Φ 0 = Phi0 (En X1) c 0 from rfl,
      show Pipeline.scopedRest (Ix := Unit) (Name := ℕ) (U := UU) (Lvl := ℕ) (Val := Elt F) (Pipeline.pin (pcfgs (F := F)) adm 0).spec c = _ from scopedRest0_split c]
    unfold Phi0
    iintro ⟨-, -, ⟨⟨⟨%f0, H0⟩, ⟨%f1, H1⟩⟩, HR⟩⟩
    isplitl [H0]
    · iexists f0; isplitr; · ipureintro; intro h; exact absurd rfl h
      rw [owns_whole_eq]; iexists f0; isplitr; · ipureintro; rfl
      iexact H0
    isplitl [H1]
    · iexists f1; isplitr; · ipureintro; intro h; exact absurd rfl h
      rw [owns_whole_eq]; iexists f1; isplitr; · ipureintro; rfl
      iexact H1
    iexact HR
  hout c := by
    rw [Pipeline.ownSems0_none, show (pdats X1 X3 X7 0 c).Φ (Fin.last _) = Phi0 (En X1) c _ from rfl,
      show Pipeline.scopedRest (Ix := Unit) (Name := ℕ) (U := UU) (Lvl := ℕ) (Val := Elt F) (Pipeline.pin (pcfgs (F := F)) adm 0).spec c = _ from scopedRest0_split c]
    unfold Phi0
    simp only [owns_whole_eq]
    iintro ⟨⟨%g0, -, ⟨%f0, -, H0⟩⟩, ⟨%g1, -, ⟨%f1, -, H1⟩⟩, HR⟩
    isplitr; · iempintro
    isplitr; · iempintro
    isplitr [HR]
    · isplitl [H0]
      · iexists f0; iexact H0
      · iexists f1; iexact H1
    iexact HR
  hexit c := by
    have hjoin := Pipeline.unscopedBufs_of_arrays_shared (p := 0) (pcfgs (F := F)) adm (Ix := Unit) (Name := ℕ) (U := UU) (Lvl := ℕ) winFacts₀0 sharedIn0 arr_whole0 c (pdats X1 X3 X7) (fun _ _ => rfl) (En X1 c) (fun b => U0 X1 c b) ((pdats X1 X3 X7 0 c).arrAt · cfg0.N)
        (exit0 X1 c)
        (rest0 X1 c)
    iintro ⟨Ha, HO, -, Hrest⟩
    imodintro
    isplitl [Ha Hrest]
    · iapply hjoin; isplitl [Ha] <;> iassumption
    unfold Pipeline.Dat.owesAt Pipeline.owesWithin
    icases HO with ⟨%W, -, HO⟩
    iexists W; iexact HO

theorem arrA1_0 (V : (c : Dev nD) → (b : Ref sig .tc) → Buf (Elt F) ((c : Thread nD τ).loc b)) (c : Dev nD) : (dat1 V c).arrAt (0 : Fin 8) cfg1.N = V c main_arg0 :=
  (dat1 V c).arrAt_in (0 : Fin 8) rfl _
theorem exit1_0 (X : Dev nD → Valuation τ sig (Elt F)) (c : Dev nD) : (dat1 (En X) c).arrAt (0 : Fin 8) cfg1.N = U1 X c main_arg0 :=
  (arrA1_0 (En X) c).trans (U1_of X c main_arg0 (by decide)).symm
theorem arrA1_1 (V : (c : Dev nD) → (b : Ref sig .tc) → Buf (Elt F) ((c : Thread nD τ).loc b)) (c : Dev nD) : (dat1 V c).arrAt (1 : Fin 8) cfg1.N = V c main_v7_0 :=
  (dat1 V c).arrAt_in (1 : Fin 8) rfl _
theorem exit1_1 (X : Dev nD → Valuation τ sig (Elt F)) (c : Dev nD) : (dat1 (En X) c).arrAt (1 : Fin 8) cfg1.N = U1 X c main_v7_0 :=
  (arrA1_1 (En X) c).trans (U1_of X c main_v7_0 (by decide)).symm
theorem arrA1_2 (V : (c : Dev nD) → (b : Ref sig .tc) → Buf (Elt F) ((c : Thread nD τ).loc b)) (c : Dev nD) : (dat1 V c).arrAt (2 : Fin 8) cfg1.N = V c main_v62 :=
  (dat1 V c).arrAt_in (2 : Fin 8) rfl _
theorem exit1_2 (X : Dev nD → Valuation τ sig (Elt F)) (c : Dev nD) : (dat1 (En X) c).arrAt (2 : Fin 8) cfg1.N = U1 X c main_v62 :=
  (arrA1_2 (En X) c).trans (U1_of X c main_v62 (by decide)).symm
theorem arrA1_3 (V : (c : Dev nD) → (b : Ref sig .tc) → Buf (Elt F) ((c : Thread nD τ).loc b)) (c : Dev nD) : (dat1 V c).arrAt (3 : Fin 8) cfg1.N = V c main_v5 :=
  (dat1 V c).arrAt_in (3 : Fin 8) rfl _
theorem exit1_3 (X : Dev nD → Valuation τ sig (Elt F)) (c : Dev nD) : (dat1 (En X) c).arrAt (3 : Fin 8) cfg1.N = U1 X c main_v5 :=
  (arrA1_3 (En X) c).trans (U1_of X c main_v5 (by decide)).symm
theorem arrA1_4 (V : (c : Dev nD) → (b : Ref sig .tc) → Buf (Elt F) ((c : Thread nD τ).loc b)) (c : Dev nD) : (dat1 V c).arrAt (4 : Fin 8) cfg1.N = V c main_v1 :=
  (dat1 V c).arrAt_in (4 : Fin 8) rfl _
theorem exit1_4 (X : Dev nD → Valuation τ sig (Elt F)) (c : Dev nD) : (dat1 (En X) c).arrAt (4 : Fin 8) cfg1.N = U1 X c main_v1 :=
  (arrA1_4 (En X) c).trans (U1_of X c main_v1 (by decide)).symm
theorem exit1_5 (X : Dev nD → Valuation τ sig (Elt F)) (c : Dev nD) : (dat1 (En X) c).arrAt (5 : Fin 8) cfg1.N = U1 X c main_v63_0 :=
  (final1_5 (En X) c).trans (show U1 X c main_v63_0 = _ from (Function.update_of_ne (StableHlo.devRef_ne_of_ne (by decide)) _ _).trans <| (Function.update_of_ne (StableHlo.devRef_ne_of_ne (by decide)) _ _).trans <| Function.update_self ..).symm
theorem exit1_6 (X : Dev nD → Valuation τ sig (Elt F)) (c : Dev nD) : (dat1 (En X) c).arrAt (6 : Fin 8) cfg1.N = U1 X c main_v63_1 :=
  (final1_6 (En X) c).trans (show U1 X c main_v63_1 = _ from (Function.update_of_ne (StableHlo.devRef_ne_of_ne (by decide)) _ _).trans <| Function.update_self ..).symm
theorem exit1_7 (X : Dev nD → Valuation τ sig (Elt F)) (c : Dev nD) : (dat1 (En X) c).arrAt (7 : Fin 8) cfg1.N = U1 X c main_v63_2 :=
  (final1_7 (En X) c).trans (show U1 X c main_v63_2 = _ from Function.update_self ..).symm

/-- Each array as call 1 leaves it. -/
theorem exit1 (X : Dev nD → Valuation τ sig (Elt F)) (c : Dev nD) : ∀ w : Fin 8, (dat1 (En X) c).arrAt w cfg1.N = U1 X c (Pipeline.arrRef spec1 w)
  | ⟨0, _⟩ => exit1_0 X c
  | ⟨1, _⟩ => exit1_1 X c
  | ⟨2, _⟩ => exit1_2 X c
  | ⟨3, _⟩ => exit1_3 X c
  | ⟨4, _⟩ => exit1_4 X c
  | ⟨5, _⟩ => exit1_5 X c
  | ⟨6, _⟩ => exit1_6 X c
  | ⟨7, _⟩ => exit1_7 X c
  | ⟨_ + 8, h⟩ => absurd h (Nat.not_lt.2 (Nat.le_add_left _ _))

theorem rest1 (X : Dev nD → Valuation τ sig (Elt F)) (c : Dev nD) (b : Ref sig .tc) (hb : b ∉ Finset.univ.image (Pipeline.arrRef spec1)) : U1 X c b = X c b :=
  U1_of X c b fun h => by
    simp only [List.mem_cons, List.not_mem_nil, or_false] at h
    rcases h with rfl | rfl | rfl
    · exact hb (Finset.mem_image.mpr ⟨(5 : Fin 8), Finset.mem_univ _, rfl⟩)
    · exact hb (Finset.mem_image.mpr ⟨(6 : Fin 8), Finset.mem_univ _, rfl⟩)
    · exact hb (Finset.mem_image.mpr ⟨(7 : Fin 8), Finset.mem_univ _, rfl⟩)

set_option backward.isDefEq.respectTransparency.types false in
/-- Call 1 as a segment of the program. -/
def reg1 : RegionSeg (pcfgs (F := F)) adm (pdats X1 X3 X7) () defs₀ Variants.none Lz lvz 1 where
  win := (launch1).win.to₀
  block_pos := launch1.block_pos
  stage_whole := launch1.stage_whole
  K := PEmpty
  osem k := k.elim
  ho := Pipeline.OwnSemFacts.none _
  hbody c := body_obligation1 (En X3) c
  hwaits := Pipeline.hwaits_of_owed_zero _ _ _ _ Lz lvz 1 fun _ _ => rfl
  pre c := iprop(unscopedBufs c (En X3 c) ∗ Owe (F := F) c)
  post c := iprop(unscopedBufs c (fun b => U1 X3 c b) ∗ Owe (F := F) c)
  X _ := BI.emp
  Y _ := BI.emp
  Z c := Pipeline.unscopedRest (Ix := Unit) (Name := ℕ) (U := UU) (Lvl := ℕ) spec1 c (En X3 c)
  hentry c := by
    rw [Pipeline.ownSems0_none]
    have hsplit := Pipeline.arrays_of_unscopedBufs (p := 1) (pcfgs (F := F)) adm (pdats X1 X3 X7) launch1.win launch1.arr_whole c ((pdats X1 X3 X7 1 c).share_full fun _ => rfl) (En X3 c) fun _ => rfl
    iintro ⟨⟨Hub, HO⟩, -, -⟩
    ihave H := hsplit $$ Hub
    icases H with ⟨Ha, Hrest⟩
    imodintro
    isplitl [Ha]; · iexact Ha
    isplitr
    · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩
      iexists W
      isplitr; · ipureintro; exact fun _ _ => Or.inl trivial
      iexact HO
    isplitr; · iempintro
    iexact Hrest
  hin c := by
    rw [show (pdats X1 X3 X7 1 c).Φ 0 = Phi1 (En X3) c 0 from rfl,
      show Pipeline.scopedRest (Ix := Unit) (Name := ℕ) (U := UU) (Lvl := ℕ) (Val := Elt F) (Pipeline.pin (pcfgs (F := F)) adm 1).spec c = _ from scopedRest1_split c]
    unfold Phi1
    iintro ⟨-, -, ⟨⟨⟨%f0, H0⟩, ⟨%f1, H1⟩⟩, HR⟩⟩
    isplitl [H0]
    · iexists f0; isplitr; · ipureintro; intro h; exact absurd rfl h
      rw [owns_whole_eq]; iexists f0; isplitr; · ipureintro; rfl
      iexact H0
    isplitl [H1]
    · iexists f1; isplitr; · ipureintro; intro h; exact absurd rfl h
      rw [owns_whole_eq]; iexists f1; isplitr; · ipureintro; rfl
      iexact H1
    iexact HR
  hout c := by
    rw [Pipeline.ownSems0_none, show (pdats X1 X3 X7 1 c).Φ (Fin.last _) = Phi1 (En X3) c _ from rfl,
      show Pipeline.scopedRest (Ix := Unit) (Name := ℕ) (U := UU) (Lvl := ℕ) (Val := Elt F) (Pipeline.pin (pcfgs (F := F)) adm 1).spec c = _ from scopedRest1_split c]
    unfold Phi1
    simp only [owns_whole_eq]
    iintro ⟨⟨%g0, -, ⟨%f0, -, H0⟩⟩, ⟨%g1, -, ⟨%f1, -, H1⟩⟩, HR⟩
    isplitr; · iempintro
    isplitr; · iempintro
    isplitr [HR]
    · isplitl [H0]
      · iexists f0; iexact H0
      · iexists f1; iexact H1
    iexact HR
  hexit c := by
    have hjoin := Pipeline.unscopedBufs_of_arrays (p := 1) (pcfgs (F := F)) adm (Ix := Unit) (Name := ℕ) (U := UU) (Lvl := ℕ) launch1.win launch1.arr_whole c (pdats X1 X3 X7) ((pdats X1 X3 X7 1 c).share_full fun _ => rfl) (En X3 c) (fun b => U1 X3 c b) ((pdats X1 X3 X7 1 c).arrAt · cfg1.N)
        (exit1 X3 c)
        (rest1 X3 c)
    iintro ⟨Ha, HO, -, Hrest⟩
    imodintro
    isplitl [Ha Hrest]
    · iapply hjoin; isplitl [Ha] <;> iassumption
    unfold Pipeline.Dat.owesAt Pipeline.owesWithin
    icases HO with ⟨%W, -, HO⟩
    iexists W; iexact HO

theorem arrA2_0 (V : (c : Dev nD) → (b : Ref sig .tc) → Buf (Elt F) ((c : Thread nD τ).loc b)) (c : Dev nD) : (dat2 V c).arrAt (0 : Fin 6) cfg2.N = V c main_arg0 :=
  (dat2 V c).arrAt_in (0 : Fin 6) rfl _
theorem exit2_0 (X : Dev nD → Valuation τ sig (Elt F)) (c : Dev nD) : (dat2 (En X) c).arrAt (0 : Fin 6) cfg2.N = U2 X c main_arg0 :=
  (arrA2_0 (En X) c).trans (U2_of X c main_arg0 (by decide)).symm
theorem arrA2_1 (V : (c : Dev nD) → (b : Ref sig .tc) → Buf (Elt F) ((c : Thread nD τ).loc b)) (c : Dev nD) : (dat2 V c).arrAt (1 : Fin 6) cfg2.N = V c main_v7_0 :=
  (dat2 V c).arrAt_in (1 : Fin 6) rfl _
theorem exit2_1 (X : Dev nD → Valuation τ sig (Elt F)) (c : Dev nD) : (dat2 (En X) c).arrAt (1 : Fin 6) cfg2.N = U2 X c main_v7_0 :=
  (arrA2_1 (En X) c).trans (U2_of X c main_v7_0 (by decide)).symm
theorem arrA2_2 (V : (c : Dev nD) → (b : Ref sig .tc) → Buf (Elt F) ((c : Thread nD τ).loc b)) (c : Dev nD) : (dat2 V c).arrAt (2 : Fin 6) cfg2.N = V c main_v124 :=
  (dat2 V c).arrAt_in (2 : Fin 6) rfl _
theorem exit2_2 (X : Dev nD → Valuation τ sig (Elt F)) (c : Dev nD) : (dat2 (En X) c).arrAt (2 : Fin 6) cfg2.N = U2 X c main_v124 :=
  (arrA2_2 (En X) c).trans (U2_of X c main_v124 (by decide)).symm
theorem arrA2_3 (V : (c : Dev nD) → (b : Ref sig .tc) → Buf (Elt F) ((c : Thread nD τ).loc b)) (c : Dev nD) : (dat2 V c).arrAt (3 : Fin 6) cfg2.N = V c main_v63_0 :=
  (dat2 V c).arrAt_in (3 : Fin 6) rfl _
theorem exit2_3 (X : Dev nD → Valuation τ sig (Elt F)) (c : Dev nD) : (dat2 (En X) c).arrAt (3 : Fin 6) cfg2.N = U2 X c main_v63_0 :=
  (arrA2_3 (En X) c).trans (U2_of X c main_v63_0 (by decide)).symm
theorem arrA2_4 (V : (c : Dev nD) → (b : Ref sig .tc) → Buf (Elt F) ((c : Thread nD τ).loc b)) (c : Dev nD) : (dat2 V c).arrAt (4 : Fin 6) cfg2.N = V c main_v125 :=
  (dat2 V c).arrAt_in (4 : Fin 6) rfl _
theorem exit2_4 (X : Dev nD → Valuation τ sig (Elt F)) (c : Dev nD) : (dat2 (En X) c).arrAt (4 : Fin 6) cfg2.N = U2 X c main_v125 :=
  (arrA2_4 (En X) c).trans (U2_of X c main_v125 (by decide)).symm
theorem exit2_5 (X : Dev nD → Valuation τ sig (Elt F)) (c : Dev nD) : (dat2 (En X) c).arrAt (5 : Fin 6) cfg2.N = U2 X c main_v126 :=
  (final2_5 (En X) c).trans (show U2 X c main_v126 = _ from Function.update_self ..).symm

/-- Each array as call 2 leaves it. -/
theorem exit2 (X : Dev nD → Valuation τ sig (Elt F)) (c : Dev nD) : ∀ w : Fin 6, (dat2 (En X) c).arrAt w cfg2.N = U2 X c (Pipeline.arrRef spec2 w)
  | ⟨0, _⟩ => exit2_0 X c
  | ⟨1, _⟩ => exit2_1 X c
  | ⟨2, _⟩ => exit2_2 X c
  | ⟨3, _⟩ => exit2_3 X c
  | ⟨4, _⟩ => exit2_4 X c
  | ⟨5, _⟩ => exit2_5 X c
  | ⟨_ + 6, h⟩ => absurd h (Nat.not_lt.2 (Nat.le_add_left _ _))

theorem rest2 (X : Dev nD → Valuation τ sig (Elt F)) (c : Dev nD) (b : Ref sig .tc) (hb : b ∉ Finset.univ.image (Pipeline.arrRef spec2)) : U2 X c b = X c b :=
  U2_of X c b fun h => by
    simp only [List.mem_cons, List.not_mem_nil, or_false] at h
    subst h; exact hb (Finset.mem_image.mpr ⟨(5 : Fin 6), Finset.mem_univ _, rfl⟩)

set_option backward.isDefEq.respectTransparency.types false in
/-- Call 2 as a segment of the program. -/
def reg2 : RegionSeg (pcfgs (F := F)) adm (pdats X1 X3 X7) () defs₀ Variants.none Lz lvz 2 where
  win := (launch2).win.to₀
  block_pos := launch2.block_pos
  stage_whole := launch2.stage_whole
  K := PEmpty
  osem k := k.elim
  ho := Pipeline.OwnSemFacts.none _
  hbody c := body_obligation2 (En X7) c
  hwaits := Pipeline.hwaits_of_owed_zero _ _ _ _ Lz lvz 2 fun _ _ => rfl
  pre c := iprop(unscopedBufs c (En X7 c) ∗ Owe (F := F) c)
  post c := iprop(unscopedBufs c (fun b => U2 X7 c b) ∗ Owe (F := F) c)
  X _ := BI.emp
  Y _ := BI.emp
  Z c := Pipeline.unscopedRest (Ix := Unit) (Name := ℕ) (U := UU) (Lvl := ℕ) spec2 c (En X7 c)
  hentry c := by
    rw [Pipeline.ownSems0_none]
    have hsplit := Pipeline.arrays_of_unscopedBufs (p := 2) (pcfgs (F := F)) adm (pdats X1 X3 X7) launch2.win launch2.arr_whole c ((pdats X1 X3 X7 2 c).share_full fun _ => rfl) (En X7 c) fun _ => rfl
    iintro ⟨⟨Hub, HO⟩, -, -⟩
    ihave H := hsplit $$ Hub
    icases H with ⟨Ha, Hrest⟩
    imodintro
    isplitl [Ha]; · iexact Ha
    isplitr
    · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩
      iexists W
      isplitr; · ipureintro; exact fun _ _ => Or.inl trivial
      iexact HO
    isplitr; · iempintro
    iexact Hrest
  hin c := by
    rw [show (pdats X1 X3 X7 2 c).Φ 0 = Pipeline.scopedRest (Ix := Unit) (Name := ℕ) (U := UU) (Lvl := ℕ) (Val := Elt F) spec2 c from rfl]
    iintro ⟨-, -, Hr⟩; iexact Hr
  hout c := by
    rw [Pipeline.ownSems0_none, show (pdats X1 X3 X7 2 c).Φ (Fin.last _) = Pipeline.scopedRest (Ix := Unit) (Name := ℕ) (U := UU) (Lvl := ℕ) (Val := Elt F) spec2 c from rfl]
    iintro Hr
    isplitr; · iempintro
    isplitr; · iempintro
    iexact Hr
  hexit c := by
    have hjoin := Pipeline.unscopedBufs_of_arrays (p := 2) (pcfgs (F := F)) adm (Ix := Unit) (Name := ℕ) (U := UU) (Lvl := ℕ) launch2.win launch2.arr_whole c (pdats X1 X3 X7) ((pdats X1 X3 X7 2 c).share_full fun _ => rfl) (En X7 c) (fun b => U2 X7 c b) ((pdats X1 X3 X7 2 c).arrAt · cfg2.N)
        (exit2 X7 c)
        (rest2 X7 c)
    iintro ⟨Ha, HO, -, Hrest⟩
    imodintro
    isplitl [Ha Hrest]
    · iapply hjoin; isplitl [Ha] <;> iassumption
    unfold Pipeline.Dat.owesAt Pipeline.owesWithin
    icases HO with ⟨%W, -, HO⟩
    iexists W; iexact HO

end Cert.KernelIdeal.Own

end
-- ==== Proof.Run.lean ====
module

public import proofs.«01_k».proof.Proof.Regs

@[expose] public section

set_option maxRecDepth 1900

noncomputable section

namespace Cert.KernelIdeal.Own

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ UU ℕ

variable (m : (ℓ : Loc nD τ sig) → Buf (Elt F) ℓ) (X1 X3 X7 : Dev nD → Valuation τ sig (Elt F))

theorem U0_at0 (X : Dev nD → Valuation τ sig (Elt F)) (c : Dev nD) : U0 X c main_v7_0 = IDX0 (En X) c :=
  ((exit0_5 X c).symm.trans (final0_5 (En X) c))
theorem U0_at1 (X : Dev nD → Valuation τ sig (Elt F)) (c : Dev nD) : U0 X c main_v7_1 = foldV (ACC (LF0 (En X) c) 13) :=
  ((exit0_6 X c).symm.trans (final0_6 (En X) c))
theorem U0_at2 (X : Dev nD → Valuation τ sig (Elt F)) (c : Dev nD) : U0 X c main_v7_2 = foldV (ACC (LR0 (En X) c) 13) :=
  ((exit0_7 X c).symm.trans (final0_7 (En X) c))
theorem U1_at0 (X : Dev nD → Valuation τ sig (Elt F)) (c : Dev nD) : U1 X c main_v63_0 = IDX1 (En X) c :=
  ((exit1_5 X c).symm.trans (final1_5 (En X) c))
theorem U1_at1 (X : Dev nD → Valuation τ sig (Elt F)) (c : Dev nD) : U1 X c main_v63_1 = foldV (ACC (LF1 (En X) c) 13) :=
  ((exit1_6 X c).symm.trans (final1_6 (En X) c))
theorem U1_at2 (X : Dev nD → Valuation τ sig (Elt F)) (c : Dev nD) : U1 X c main_v63_2 = foldV (ACC (LR1 (En X) c) 13) :=
  ((exit1_7 X c).symm.trans (final1_7 (En X) c))
theorem U2_at (X : Dev nD → Valuation τ sig (Elt F)) (c : Dev nD) : U2 X c main_v126 = SEL (En X) c :=
  ((exit2_5 X c).symm.trans (final2_5 (En X) c))

/-- The buffers after call 0, the calls' results being what the calls leave. -/
theorem V2_at (h1 : ∀ c, V1 m c = X1 c) (c : Dev nD) : V2 m (outs X1 X3 X7) c = U0 X1 c := by
  have e : ∀ r, outs X1 X3 X7 2 r c = U0 X1 c r := fun _ => rfl
  show Function.update (Function.update (Function.update (V1 m c) main_v7_0 (outs X1 X3 X7 2 main_v7_0 c)) main_v7_1 (outs X1 X3 X7 2 main_v7_1 c)) main_v7_2 (outs X1 X3 X7 2 main_v7_2 c) = _
  rw [h1 c, e, e, e, U0_at0, U0_at1, U0_at2]; rfl

theorem V3_at (h1 : ∀ c, V1 m c = X1 c) (h3 : ∀ c, StableHlo.after hostOps1 (U0 X1 c) = X3 c) (c : Dev nD) : V3 m (outs X1 X3 X7) c = X3 c :=
  (congrArg (StableHlo.after hostOps1) (V2_at m X1 X3 X7 h1 c)).trans (h3 c)

/-- The buffers after call 1. -/
theorem V4_at (h1 : ∀ c, V1 m c = X1 c) (h3 : ∀ c, StableHlo.after hostOps1 (U0 X1 c) = X3 c) (c : Dev nD) : V4 m (outs X1 X3 X7) c = U1 X3 c := by
  have e : ∀ r, outs X1 X3 X7 4 r c = U1 X3 c r := fun _ => rfl
  show Function.update (Function.update (Function.update (V3 m (outs X1 X3 X7) c) main_v63_0 (outs X1 X3 X7 4 main_v63_0 c)) main_v63_1 (outs X1 X3 X7 4 main_v63_1 c)) main_v63_2 (outs X1 X3 X7 4 main_v63_2 c) = _
  rw [V3_at m X1 X3 X7 h1 h3, e, e, e, U1_at0, U1_at1, U1_at2]; rfl

theorem V7_at (h1 : ∀ c, V1 m c = X1 c) (h3 : ∀ c, StableHlo.after hostOps1 (U0 X1 c) = X3 c)
    (h7 : ∀ c, StableHlo.after hostOps2_2 (StableHlo.after hostOps2_1 (StableHlo.after hostOps2 (U1 X3 c))) = X7 c) (c : Dev nD) :
    V7 m (outs X1 X3 X7) c = X7 c :=
  (congrArg (fun Y => StableHlo.after hostOps2_2 (StableHlo.after hostOps2_1 (StableHlo.after hostOps2 Y))) (V4_at m X1 X3 X7 h1 h3 c)).trans (h7 c)

/-- The buffers after call 2. -/
theorem V8_at (h1 : ∀ c, V1 m c = X1 c) (h3 : ∀ c, StableHlo.after hostOps1 (U0 X1 c) = X3 c)
    (h7 : ∀ c, StableHlo.after hostOps2_2 (StableHlo.after hostOps2_1 (StableHlo.after hostOps2 (U1 X3 c))) = X7 c) (c : Dev nD) :
    V8 m (outs X1 X3 X7) c = U2 X7 c := by
  have e : ∀ r, outs X1 X3 X7 8 r c = U2 X7 c r := fun _ => rfl
  show Function.update (V7 m (outs X1 X3 X7) c) main_v126 (outs X1 X3 X7 8 main_v126 c) = _
  rw [V7_at m X1 X3 X7 h1 h3 h7, e, U2_at]; rfl

set_option backward.isDefEq.respectTransparency.types false in
theorem lpre0 (h1 : ∀ c, V1 m c = X1 c) (c : Dev nD) :
    iprop(StableHlo.held (c : Thread nD τ) (Pipeline.ucRefs τ sig) (V1 m c) ∗ Owe (F := F) c) ⊢ (reg0 X1 X3 X7).pre c := by
  refine Entails.of_eq ?_
  rw [h1 c, ← Pipeline.unscopedBufs_held (Ix := Unit) (Name := ℕ) (U := UU) (Lvl := ℕ) c (X1 c)]
  rfl

set_option backward.isDefEq.respectTransparency.types false in
theorem lpost0 (h1 : ∀ c, V1 m c = X1 c) (c : Dev nD) :
    (reg0 X1 X3 X7).post c ⊢ iprop(StableHlo.held (c : Thread nD τ) (Pipeline.ucRefs τ sig) (V2 m (outs X1 X3 X7) c) ∗ Owe (F := F) c) := by
  refine Entails.of_eq ?_
  rw [V2_at m X1 X3 X7 h1 c, ← Pipeline.unscopedBufs_held (Ix := Unit) (Name := ℕ) (U := UU) (Lvl := ℕ) c (U0 X1 c)]
  rfl

set_option backward.isDefEq.respectTransparency.types false in
theorem lpre1 (h1 : ∀ c, V1 m c = X1 c) (h3 : ∀ c, StableHlo.after hostOps1 (U0 X1 c) = X3 c) (c : Dev nD) :
    iprop(StableHlo.held (c : Thread nD τ) (Pipeline.ucRefs τ sig) (V3 m (outs X1 X3 X7) c) ∗ Owe (F := F) c) ⊢ (reg1 X1 X3 X7).pre c := by
  refine Entails.of_eq ?_
  rw [V3_at m X1 X3 X7 h1 h3 c, ← Pipeline.unscopedBufs_held (Ix := Unit) (Name := ℕ) (U := UU) (Lvl := ℕ) c (X3 c)]
  rfl

set_option backward.isDefEq.respectTransparency.types false in
theorem lpost1 (h1 : ∀ c, V1 m c = X1 c) (h3 : ∀ c, StableHlo.after hostOps1 (U0 X1 c) = X3 c) (c : Dev nD) :
    (reg1 X1 X3 X7).post c ⊢ iprop(StableHlo.held (c : Thread nD τ) (Pipeline.ucRefs τ sig) (V4 m (outs X1 X3 X7) c) ∗ Owe (F := F) c) := by
  refine Entails.of_eq ?_
  rw [V4_at m X1 X3 X7 h1 h3 c, ← Pipeline.unscopedBufs_held (Ix := Unit) (Name := ℕ) (U := UU) (Lvl := ℕ) c (U1 X3 c)]
  rfl

set_option backward.isDefEq.respectTransparency.types false in
theorem lpre2 (h1 : ∀ c, V1 m c = X1 c) (h3 : ∀ c, StableHlo.after hostOps1 (U0 X1 c) = X3 c) (h7 : ∀ c, StableHlo.after hostOps2_2 (StableHlo.after hostOps2_1 (StableHlo.after hostOps2 (U1 X3 c))) = X7 c) (c : Dev nD) :
    iprop(StableHlo.held (c : Thread nD τ) (Pipeline.ucRefs τ sig) (V7 m (outs X1 X3 X7) c) ∗ Owe (F := F) c) ⊢ (reg2 X1 X3 X7).pre c := by
  refine Entails.of_eq ?_
  rw [V7_at m X1 X3 X7 h1 h3 h7 c, ← Pipeline.unscopedBufs_held (Ix := Unit) (Name := ℕ) (U := UU) (Lvl := ℕ) c (X7 c)]
  rfl

set_option backward.isDefEq.respectTransparency.types false in
theorem lpost2 (h1 : ∀ c, V1 m c = X1 c) (h3 : ∀ c, StableHlo.after hostOps1 (U0 X1 c) = X3 c) (h7 : ∀ c, StableHlo.after hostOps2_2 (StableHlo.after hostOps2_1 (StableHlo.after hostOps2 (U1 X3 c))) = X7 c) (c : Dev nD) :
    (reg2 X1 X3 X7).post c ⊢ iprop(StableHlo.held (c : Thread nD τ) (Pipeline.ucRefs τ sig) (V8 m (outs X1 X3 X7) c) ∗ Owe (F := F) c) := by
  refine Entails.of_eq ?_
  rw [V8_at m X1 X3 X7 h1 h3 h7 c, ← Pipeline.unscopedBufs_held (Ix := Unit) (Name := ℕ) (U := UU) (Lvl := ℕ) c (U2 X7 c)]
  rfl

/-- What a core is launched with makes the first thread state. -/
theorem launch_one (ρ : Dev nD → PrngReg) (c : Dev nD) :
    iprop(unscopedBufs c (fun b => m ((c.tc : Thread nD τ).loc b)) ∗ unscopedSems0 c
          ∗ owes (c.tc : Thread nD τ) (0 : CellTallies nD τ sig Unit) ∅ ∗ Pipeline.launchCred (fun _ => 0) c ∗ prngReg c (ρ c) ∗ BI.emp)
      ⊢ (iprop(StableHlo.held (c : Thread nD τ) (Pipeline.ucRefs τ sig) (V0 m c) ∗ Owe (F := F) c) : sProp 𝕄) := by
  rw [← Pipeline.unscopedBufs_held (Ix := Unit) (Name := ℕ) (U := UU) (Lvl := ℕ) c (V0 m c)]
  iintro ⟨Hu, -, Ho, -⟩
  isplitl [Hu]; · iexact Hu
  iexists ∅; iexact Ho

set_option backward.isDefEq.respectTransparency.types false in
/-- Every run of the program ends with the result call 2 computes from the buffers as the earlier steps leave them, the
    arguments unchanged and every counter at zero. -/
theorem run_gen (h1 : ∀ c, V1 m c = X1 c) (h3 : ∀ c, StableHlo.after hostOps1 (U0 X1 c) = X3 c)
    (h7 : ∀ c, StableHlo.after hostOps2_2 (StableHlo.after hostOps2_1 (StableHlo.after hostOps2 (U1 X3 c))) = X7 c)
    (ρ : Dev nD → PrngReg) :
    θ_run defs (onTc (τ := τ) (main (F := F))) ⟨m, fun _ => 0, ρ⟩ (fun r => (∀ c : Dev nD,
      r.2.mem ((c.tc : Thread nD τ).loc main_v126) = SEL (En X7) c ∧ r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4) ∧ r.2.mem ((c.tc : Thread nD τ).loc main_arg5) = m ((c.tc : Thread nD τ).loc main_arg5))
      ∧ r.2.sem = fun _ => 0) := by
  refine Pipeline.θ_run_regions_kit_dev_sems (pcfgs (F := F)) adm (pdats X1 X3 X7) () cellOf_inj
    (emb₁ : Emb (UR sig nD τ) (MT nD τ sig Unit (Elt F) ℕ UU ℕ)) defs₀ Variants.none Lz lvz m ρ main
    (segs m (outs X1 X3 X7) Variants.none Lz lvz (fun _ => Owe (F := F)) () (pdats X1 X3 X7) (reg0 X1 X3 X7) (reg1 X1 X3 X7) (reg2 X1 X3 X7))
    (fun c Q => by
      rewrite [main_chain c, Seg.run_eq_chain,
        show (segs m (outs X1 X3 X7) Variants.none Lz lvz (fun _ => Owe (F := F)) () (pdats X1 X3 X7) (reg0 X1 X3 X7) (reg1 X1 X3 X7) (reg2 X1 X3 X7) c).map Seg.prog = [
          StableHlo.seq hostOps0,
          Prog.lift (.customCall (Pipeline.entry 0) ()),
          StableHlo.seq hostOps1,
          Prog.lift (.customCall (Pipeline.entry 1) ()),
          StableHlo.seq hostOps2,
          StableHlo.seq hostOps2_1,
          StableHlo.seq hostOps2_2,
          Prog.lift (.customCall (Pipeline.entry 2) ()) ] from rfl]
      dsimp (config := { failIfUnchanged := false }) only
      exact .rfl)
    (fun c => by simp only [segs, Seg.pipes_host, Seg.pipes_region, Seg.pipes_nil]; decide) (fun _ => 0) (fun _ _ => rfl) (fun _ => BI.emp)
    (initOf (Pipeline.cells cfgs cellOf_inj) (Pipeline.launchToks cfgs cellOf_inj)) ?_
    (T₀ := fun c => iprop(StableHlo.held (c : Thread nD τ) (Pipeline.ucRefs τ sig) (V0 m c) ∗ Owe (F := F) c))
    (Tₙ := fun c => StableHlo.held (c : Thread nD τ) (Pipeline.ucRefs τ sig) (V8 m (outs X1 X3 X7) c))
    (hch := fun c => ⟨.rfl, lpre0 m X1 X3 X7 h1 c, lpost0 m X1 X3 X7 h1 c, lpre1 m X1 X3 X7 h1 h3 c, lpost1 m X1 X3 X7 h1 h3 c, .rfl, .rfl, lpre2 m X1 X3 X7 h1 h3 h7 c, lpost2 m X1 X3 X7 h1 h3 h7 c⟩)
    (hinit := ?_) (QY := fun c s => s.mem ((c.tc : Thread nD τ).loc main_v126) = SEL (En X7) c ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4) ∧ s.mem ((c.tc : Thread nD τ).loc main_arg5) = m ((c.tc : Thread nD τ).loc main_arg5))
    (hfin := fun c s' => ?_) (hQ := fun _ h hz => ⟨h, funext fun g => hz g (.inr (regions_no_unscoped g.2))⟩)
  · iintro H
    imodintro
    isplitl [H]; · iapply (show (ownU _ : sProp 𝕄) ⊢ BI.own (emb₁ (initOf (Pipeline.cells cfgs cellOf_inj) (Pipeline.launchToks cfgs cellOf_inj))) from .rfl); iexact H
    rw [show (bigSep Finset.univ fun _ : Dev nD => (BI.emp : sProp 𝕄)) = BI.emp from bigSep_emp_const _]
    iempintro
  · have hsplit : (bigSep Finset.univ fun c : Dev nD => iprop(unscopedBufs c (fun b => m ((c.tc : Thread nD τ).loc b)) ∗ unscopedSems0 c
          ∗ owes (c.tc : Thread nD τ) (0 : CellTallies nD τ sig Unit) ∅ ∗ Pipeline.launchCred (fun _ => 0) c ∗ prngReg c (ρ c) ∗ BI.emp))
        ⊢ (bigSep Finset.univ fun c : Dev nD => iprop(StableHlo.held (c : Thread nD τ) (Pipeline.ucRefs τ sig) (V0 m c) ∗ Owe (F := F) c) : sProp 𝕄) := by
      refine bigSep_mono fun c _ => ?_
      exact launch_one m ρ c
    iintro ⟨H, -⟩
    imodintro
    iapply hsplit; iexact H
  · unfold StableHlo.held
    iintro ⟨Hh, HSI⟩
    ihave Hr := (pointsTo_read_all (Pipeline.ucRefs τ sig) (fun b => ((c : Thread nD τ).1, b)) (V8 m (outs X1 X3 X7) c) s') $$ [Hh HSI]
    · isplitl [Hh] <;> iassumption
    icases Hr with ⟨%h, HSI⟩
    imodintro
    isplitr
    · ipureintro
      exact ⟨(h (Proc.devRef .tc main_v126) (Finset.mem_filter.mpr ⟨StableHlo.devRef_mem_tcRefs main_v126, by decide⟩)).trans
          ((congrFun (V8_at m X1 X3 X7 h1 h3 h7 c) (Proc.devRef .tc main_v126)).trans (U2_at X7 c)),
        (h (Proc.devRef .tc main_arg0) (Finset.mem_filter.mpr ⟨StableHlo.devRef_mem_tcRefs main_arg0, by decide⟩)).trans (V8_main_arg0 m (outs X1 X3 X7) c),
        (h (Proc.devRef .tc main_arg1) (Finset.mem_filter.mpr ⟨StableHlo.devRef_mem_tcRefs main_arg1, by decide⟩)).trans (V8_main_arg1 m (outs X1 X3 X7) c),
        (h (Proc.devRef .tc main_arg2) (Finset.mem_filter.mpr ⟨StableHlo.devRef_mem_tcRefs main_arg2, by decide⟩)).trans (V8_main_arg2 m (outs X1 X3 X7) c),
        (h (Proc.devRef .tc main_arg3) (Finset.mem_filter.mpr ⟨StableHlo.devRef_mem_tcRefs main_arg3, by decide⟩)).trans (V8_main_arg3 m (outs X1 X3 X7) c),
        (h (Proc.devRef .tc main_arg4) (Finset.mem_filter.mpr ⟨StableHlo.devRef_mem_tcRefs main_arg4, by decide⟩)).trans (V8_main_arg4 m (outs X1 X3 X7) c),
        (h (Proc.devRef .tc main_arg5) (Finset.mem_filter.mpr ⟨StableHlo.devRef_mem_tcRefs main_arg5, by decide⟩)).trans (V8_main_arg5 m (outs X1 X3 X7) c)⟩
    · iexact HSI

end Cert.KernelIdeal.Own

end
-- ==== Proof.Host.lean ====
module

public import proofs.«01_k».proof.Proof.Run
public import Idealize.ShloMosaic.Lib.Routing.OpsSet
public import Idealize.ShloMosaic.Lib.Routing.OpsPair
public import Idealize.ShloMosaic.Lib.StableHlo.RunRead
public import Idealize.ShloMosaic.Lib.Pipeline.Value

@[expose] public section

set_option backward.proofsInPublic true

noncomputable section

namespace Cert.KernelIdeal.Own

open Cert.KernelIdeal Cert.KernelIdeal.Gen
open Idealize.ShloMosaic Idealize.ShloMosaic.TcCoe Idealize.SL.Sem Idealize.ShloMosaic.StableHlo

variable {F : FTy → Type} [FloatOps F]

/-! ## The host operations of the kernel's program, read -/

/-- Rows written at row 0 of a taller array read back as they were written. -/
theorem scat_row {α : Type} (x0 : S8x100000.Idx → α) (idx : IVec S1 32) (h0 : ∀ i, idx i = 0#32) (upd : S4x100000.Idx → α) (c : Fin 4) (d : Fin 100000) :
    Host.scatter scatter_S8x100000_S1_S4x100000_01_n_0_0 (fun _ b => b) x0 idx upd (ix2 (⟨c.val, by omega⟩ : Fin 8) d) = upd (ix2 c d) := by
  have st0 : ∀ k : S4x100000.Idx, scatter_S8x100000_S1_S4x100000_01_n_0_0.start k idx 0 = 0 := by
    intro k
    unfold ScatterDims.start
    split
    · rw [h0]; rfl
    · rfl
  have st1 : ∀ k : S4x100000.Idx, scatter_S8x100000_S1_S4x100000_01_n_0_0.start k idx 1 = 0 := by
    intro k
    unfold ScatterDims.start
    split
    · rw [h0]; rfl
    · rfl
  have w0 : ∀ k : S4x100000.Idx, scatter_S8x100000_S1_S4x100000_01_n_0_0.window k 0 = (k 0).val := fun k => rfl
  have w1 : ∀ k : S4x100000.Idx, scatter_S8x100000_S1_S4x100000_01_n_0_0.window k 1 = (k 1).val := fun k => rfl
  have key : ∀ k : S4x100000.Idx, scatter_S8x100000_S1_S4x100000_01_n_0_0.resultIdx? k idx = some (ix2 (⟨c.val, by omega⟩ : Fin 8) d)
      ↔ (k 0).val = c.val ∧ (k 1).val = d.val := by
    intro k
    refine (Routing.resultIdx?_ix2 (R := 8) (C := 100000) scatter_S8x100000_S1_S4x100000_01_n_0_0 k idx _ _).trans ?_
    rw [st0, st1, w0, w1]
    simp only [zero_add, Nat.cast_inj]
  refine Routing.scatter_set_hit _ x0 idx upd _ _ (fun k hk => ?_) (ix2 c d) ((key _).2 ⟨rfl, rfl⟩)
  obtain ⟨e0, e1⟩ := (key k).1 hk
  exact congrArg upd (funext fun i => by fin_cases i; exacts [Fin.ext e0, Fin.ext e1])

/-- The first row of an array. -/
def row (x : IVec S16x100000 32) : IVec S100000 32 :=
  shapeCast S100000 (extractStridedSlice S1x100000 ![0, 0] x slices_S16x100000_S1x100000_0_0) shapeCasts_S1x100000_S100000

/-- The energy of a row of classes. -/
def ER (r : IVec S100000 32) (W : FVec F S100000x4 .f32) : FVec F S16 .f32 :=
  Host.reduceAdd (mulf (Host.scatter scatter_S16x100000x4_S100000x2_S16x100000_0_12_12_1 (fun _ b => b)
      (broadcastInDim S16x100000x4 ![] bcast_S_S16x100000x4 (constant S_ .f32 0x00000000#32))
      (concatenate S100000x2 1 [⟨S100000x1, broadcastInDim S100000x1 ![0] bcast_S100000_S100000x1_0
          (select (cmpi .slt (iotaInDim S100000 32 0) (broadcastInDim S100000 ![] bcast_S_S100000 (constantI S_ 32 0#32)))
            (addi (iotaInDim S100000 32 0) (broadcastInDim S100000 ![] bcast_S_S100000 (constantI S_ 32 100000#32))) (iotaInDim S100000 32 0))⟩,
        ⟨S100000x1, broadcastInDim S100000x1 ![0] bcast_S100000_S100000x1_0
          (select (cmpi .slt r (broadcastInDim S100000 ![] bcast_S_S100000 (constantI S_ 32 0#32)))
            (addi r (broadcastInDim S100000 ![] bcast_S_S100000 (constantI S_ 32 4#32))) r)⟩] concatenates_S100000x1_S100000x1_S100000x2_d1)
      (broadcastInDim S16x100000 ![] bcast_S_S16x100000 (constant S_ .f32 0x3F800000#32)))
    (broadcastInDim S16x100000x4 ![0, 1, 2] bcast_S1x100000x4_S16x100000x4_0_1_2 (broadcastInDim S1x100000x4 ![1, 2] bcast_S100000x4_S1x100000x4_1_2 W)))
    (constant S_ .f32 0x00000000#32) reducesTo_S16x100000x4_S16_d1_2 h_S_

/-- Whether each row's proposal is accepted, as a number. -/
def acc (e1 e0 : FVec F S16 .f32) (lr lf : FVec F S16x1 .f32) (u : FVec F S16 .f32) : FVec F S16 .f32 :=
  uitofp .f32 (cmpf .ogt (Host.exp (subf (addf (subf e1 e0) (shapeCast S16 lr shapeCasts_S16x1_S16)) (shapeCast S16 lf shapeCasts_S16x1_S16))) u)

/-- A column of numbers. -/
def col (a : FVec F S16 .f32) : FVec F S16x1 .f32 := broadcastInDim S16x1 ![0] bcast_S16_S16x1_0 a

variable (V : Valuation τ sig (Elt F))

theorem h0_v0 : after hostOps0 V main_v0 = transpose S4x16x100000 [2, 0, 1] (V main_arg2) transposes_S16x100000x4_S4x16x100000_2_0_1 := by
  after_reads_simp
theorem h0_v1 : after hostOps0 V main_v1 = transpose S4x16x100000 [2, 0, 1] (V main_arg3) transposes_S16x100000x4_S4x16x100000_2_0_1 := by
  after_reads_simp
theorem h0_v5 : after hostOps0 V main_v5 = Host.scatter scatter_S8x100000_S1_S4x100000_01_n_0_0 (fun _ b => b)
    (broadcastInDim S8x100000 ![] bcast_S_S8x100000 (constant S_ .f32 0x00000000#32)) (broadcastInDim S1 ![] bcast_S_S1 (constantI S_ 32 0#32))
    (transpose S4x100000 [1, 0] (V main_arg1) transposes_S100000x4_S4x100000_1_0) := by
  after_reads_simp
theorem h0_v6 : after hostOps0 V main_v6 = broadcastInDim S16x1 ![] bcast_S_S16x1 (constant S_ .f32 0x00000000#32) := by
  after_reads_simp

set_option maxHeartbeats 4000000 in
theorem h1_v61 : after hostOps1 V main_v61
    = acc (ER (row (V main_v7_0)) (V main_arg1)) (ER (row (V main_arg0)) (V main_arg1)) (V main_v7_2) (V main_v7_1) (V main_arg4) := by
  after_reads_simp
  rfl

set_option maxHeartbeats 4000000 in
theorem h1_v62 : after hostOps1 V main_v62
    = col (acc (ER (row (V main_v7_0)) (V main_arg1)) (ER (row (V main_arg0)) (V main_arg1)) (V main_v7_2) (V main_v7_1) (V main_arg4)) := by
  after_reads_simp
  rfl

/-- Row 0's current classes after the first step. -/
def row2 (a : FVec F S16 .f32) (d x : IVec S16x100000 32) : IVec S100000 32 :=
  select (broadcastInDim S100000 ![] bcast_S_S100000
    (cmpf .ogt (shapeCast S_ (extractStridedSlice S1 ![0] a slices_S16_S1_0) shapeCasts_S1_S_) (constant S_ .f32 0x00000000#32))) (row d) (row x)

theorem h2_v66 : after hostOps2 V main_v66
    = cmpf .ogt (shapeCast S_ (extractStridedSlice S1 ![0] (V main_v61) slices_S16_S1_0) shapeCasts_S1_S_) (constant S_ .f32 0x00000000#32) := by
  after_reads_simp
  rfl
theorem h2_v68 : after hostOps2 V main_v68 = row (V main_v7_0) := by
  after_reads_simp
  rfl
theorem h2_v70 : after hostOps2 V main_v70 = row (V main_arg0) := by
  after_reads_simp
  rfl

theorem h21_v71 : after hostOps2_1 V main_v71 = select (broadcastInDim S100000 ![] bcast_S_S100000 (V main_v66)) (V main_v68) (V main_v70) := by
  after_reads_simp
  rfl

set_option maxHeartbeats 4000000 in
theorem h22_v125 : after hostOps2_2 V main_v125
    = col (acc (ER (row (V main_v63_0)) (V main_arg1)) (ER (V main_v71) (V main_arg1)) (V main_v63_2) (V main_v63_1) (V main_arg5)) := by
  after_reads_simp
  rfl

theorem h22_v124 : after hostOps2_2 V main_v124 = col (V main_v61) := by
  after_reads_simp
  rfl

end Cert.KernelIdeal.Own

end
-- ==== Proof.Two.lean ====
module

public import proofs.«01_k».proof.Proof.Step
public import proofs.«01_k».proof.Proof.Host

@[expose] public section

noncomputable section

namespace Cert.KernelIdeal.Own

open Idealize.ShloMosaic Cert.ReferenceIdeal.Read

/-- The energy of the first row of the current classes. -/
theorem r_v167 (Y : RX) (W : RW) : val_main_v167 (F := Ideal) Y W = ER (F := Ideal) (row Y) W := rfl

/-- The energy of the first row of the proposals. -/
theorem r_v163 (Y : RX) (W : RW) (g : RG) : val_main_v163 (F := Ideal) Y W g = ER (F := Ideal) (row (val_main_v75 (F := Ideal) Y W g)) W := rfl

/-- The second step is the first one again, from the classes the first one left. -/
theorem r_v367 (x0 : RX) (x1 : RW) (x2 x3 : RG) (x4 x5 : RU) :
    val_main_v367 (F := Ideal) x0 x1 x2 x3 x4 x5 = val_main_v185 (F := Ideal) (val_main_v185 (F := Ideal) x0 x1 x2 x4) x1 x3 x5 := by
  rfl

/-- A column of one entry per row, laid out as a vector. -/
theorem col_cast (a : FVec Ideal S16x1 .f32) (b : Fin 16) : shapeCast S16 a Gen.shapeCasts_S16x1_S16 (ix1 b) = a (ix2 b (0 : Fin 1)) :=
  shapeCast_apply a _ (ix1 b) (ix2 b (0 : Fin 1)) (by fin_cases b <;> rfl)

theorem col_at (a : FVec Ideal S16 .f32) (b : Fin 16) (k : Fin 1) : col (F := Ideal) a (ix2 b k) = a (ix1 b) :=
  broadcastInDim_apply _ _ a (ix2 b k) (ix1 b) (fun i => by fin_cases i; rfl)

/-- The acceptances agree. -/
theorem acc_eq (Y : RX) (W : RW) (g : RG) (u : RU) (XD : RX) (lr lf : FVec Ideal S16x1 .f32)
    (hd : ∀ i, XD i = val_main_v75 (F := Ideal) Y W g i)
    (hr : ∀ b : Fin 16, lr (ix2 b (0 : Fin 1)) = val_main_v159 (F := Ideal) Y W g (ix1 b))
    (hf : ∀ b : Fin 16, lf (ix2 b (0 : Fin 1)) = val_main_v85 (F := Ideal) Y W g (ix1 b)) :
    acc (F := Ideal) (ER (row XD) W) (ER (row Y) W) lr lf u = val_main_v173 (F := Ideal) Y W g u := by
  have e : XD = val_main_v75 (F := Ideal) Y W g := funext hd
  have er : shapeCast S16 lr Gen.shapeCasts_S16x1_S16 = val_main_v159 (F := Ideal) Y W g := by
    funext i
    obtain ⟨b, rfl⟩ : ∃ b : Fin 16, i = ix1 b := ⟨i 0, e1 (i 0) rfl⟩
    rw [col_cast, hr]
  have ef : shapeCast S16 lf Gen.shapeCasts_S16x1_S16 = val_main_v85 (F := Ideal) Y W g := by
    funext i
    obtain ⟨b, rfl⟩ : ∃ b : Fin 16, i = ix1 b := ⟨i 0, e1 (i 0) rfl⟩
    rw [col_cast, hf]
  unfold acc val_main_v173 val_main_v172 val_main_v171 val_main_v170 val_main_v169 val_main_v168
  rw [er, ef, e, r_v163, r_v167]

/-- The first row of an array, at a column. -/
theorem row_at (x : RX) (d : Fin 100000) : row x (ix1 d) = x (ix2 (0 : Fin 16) d) := by
  unfold row
  rw [shapeCast_apply (extractStridedSlice S1x100000 ![0, 0] x Gen.slices_S16x100000_S1x100000_0_0) _ (ix1 d) (ix2 (0 : Fin 1) d)
    (by rw [Shape.rowMajor_val_one, Shape.rowMajor_val_two]; simp)]
  exact extractStridedSlice_apply _ x _ _ _ (fun i => by fin_cases i <;> simp)

/-- The first entry of a vector. -/
def hd1 (a : FVec Ideal S16 .f32) : FVec Ideal S_ .f32 :=
  shapeCast S_ (extractStridedSlice S1 ![0] a Gen.slices_S16_S1_0) Gen.shapeCasts_S1_S_

theorem hd1_at (a : FVec Ideal S16 .f32) (k : S_.Idx) : hd1 a k = a (ix1 (0 : Fin 16)) := by
  unfold hd1
  rw [shapeCast_apply (extractStridedSlice S1 ![0] a Gen.slices_S16_S1_0) _ k (ix1 (0 : Fin 1))
    (by rw [Shape.rowMajor_val_one]; exact (Shape.rowMajorPi_zero _ _).symm)]
  exact extractStridedSlice_apply _ a _ _ _ (fun i => by fin_cases i; rfl)

/-- Row 0's current classes after a step are the first row of the step's result. -/
theorem row2_eq (a : FVec Ideal S16 .f32) (xd x : RX) : row2 (F := Ideal) a xd x = row (XCw (F := Ideal) x xd (col a)) := by
  funext i
  obtain ⟨d, rfl⟩ : ∃ d : Fin 100000, i = ix1 d := ⟨i 0, e1 (i 0) rfl⟩
  rw [row_at]
  show Scalar.select (FloatOps.cmpf (F := Ideal) (φ := .f32) .ogt (hd1 a _) zf) (row xd (ix1 d)) (row x (ix1 d))
    = xcS (F := Ideal) (col (F := Ideal) a (ix2 (0 : Fin 16) (0 : Fin 1))) (xd (ix2 (0 : Fin 16) d)) (x (ix2 (0 : Fin 16) d))
  rw [row_at, row_at, col_at, hd1_at]
  rfl

/-- A step's result. -/
theorem XC_eq (Y : RX) (W : RW) (g : RG) (u : RU) (hc : ∀ i, cat (Y i)) (XD : RX)
    (hd : ∀ i, XD i = val_main_v75 (F := Ideal) Y W g i) (i : (⟨2, ![16, 100000]⟩ : Shape).Idx) :
    XCw (F := Ideal) Y XD (col (val_main_v173 (F := Ideal) Y W g u)) i = val_main_v185 (F := Ideal) Y W g u i := by
  obtain ⟨b, d, rfl⟩ : ∃ (b : Fin 16) (d : Fin 100000), i = ix2 b d := ⟨_, _, eq_ix2' i⟩
  rw [r_v185 Y W g u b d (hc _), ← hd]
  show xcS (F := Ideal) (col (F := Ideal) _ (ix2 b (0 : Fin 1))) _ _ = _
  rw [col_at]

/-- Before the first step the current classes are the ones given, whatever the mark. -/
theorem XC_zero (x : RX) (a : FVec Ideal S16x1 .f32) (i : (⟨2, ![16, 100000]⟩ : Shape).Idx) :
    XCw (F := Ideal) x x a i = x i := by
  unfold XCw xcS Scalar.select
  split <;> rfl

end Cert.KernelIdeal.Own

end
-- ==== Proof.Alg.lean ====
module

public import proofs.«01_k».proof.Proof.Two

@[expose] public section

set_option backward.proofsInPublic true

noncomputable section

namespace Cert.KernelIdeal.Own

open Cert.KernelIdeal Cert.KernelIdeal.Gen
open Idealize.ShloMosaic Idealize.ShloMosaic.TcCoe Idealize.SL.Sem Idealize.ShloMosaic.StableHlo Cert.ReferenceIdeal.Read

/-! ## The kernel's program, both steps, is the reference -/

/-- The padded weights, at a class. -/
theorem w8_at (x0 : FVec Ideal S8x100000 .f32) (W : RW) (c : Fin 4) (d : Fin 100000) :
    Host.scatter scatter_S8x100000_S1_S4x100000_01_n_0_0 (fun _ b => b) x0 (broadcastInDim S1 ![] bcast_S_S1 (constantI S_ 32 0#32))
      (transpose S4x100000 [1, 0] W transposes_S100000x4_S4x100000_1_0) (ix2 (⟨c.val, by omega⟩ : Fin 8) d) = W (ix2 d c) := by
  refine (scat_row _ _ (fun _ => rfl) _ c d).trans ?_
  exact transpose_apply _ W _ (ix2 c d) (ix2 d c) (fun b => by fin_cases b <;> rfl)

/-- The noise, its classes first. -/
theorem g_at (g : RG) (b : Fin 16) (d : Fin 100000) (c : Fin 4) :
    transpose S4x16x100000 [2, 0, 1] g transposes_S16x100000x4_S4x16x100000_2_0_1 (ix3 c b d) = g (ix3 b d c) :=
  transpose_apply _ g _ (ix3 c b d) (ix3 b d c) (fun b => by fin_cases b <;> rfl)

section

variable (A X1 X3 X7 : Dev nD → Valuation τ sig (Elt Ideal))
  (h1 : ∀ c, after hostOps0 (A c) = X1 c)
  (h3 : ∀ c, after hostOps1 (U0 X1 c) = X3 c)
  (h7 : ∀ c, after hostOps2_2 (after hostOps2_1 (after hostOps2 (U1 X3 c))) = X7 c)
  (c : Dev nD)

include h1 in
theorem x1_of (r : Ref sig .tc) (h : r ∉ hostOps0_W) : X1 c r = A c r := by
  rw [← h1]; exact after_of_writes_sub hostOps0 _ hostOps0_writes h
include h3 in
theorem x3_of (r : Ref sig .tc) (h : r ∉ hostOps1_W) (h' : r ∉ ([main_v7_0, main_v7_1, main_v7_2] : List (Ref sig .tc))) : X3 c r = X1 c r := by
  rw [← h3]; exact (after_of_writes_sub hostOps1 _ hostOps1_writes h).trans (U0_of X1 c r h')
include h3 in
theorem x3_of' (r : Ref sig .tc) (h : r ∉ hostOps1_W) : X3 c r = U0 X1 c r := by
  rw [← h3]; exact after_of_writes_sub hostOps1 _ hostOps1_writes h
include h7 in
theorem x7_of' (r : Ref sig .tc) (ha : r ∉ hostOps2_W) (hb : r ∉ hostOps2_1_W) (hd : r ∉ hostOps2_2_W) : X7 c r = U1 X3 c r := by
  rw [← h7]
  exact (after_of_writes_sub hostOps2_2 _ hostOps2_2_writes hd).trans
    ((after_of_writes_sub hostOps2_1 _ hostOps2_1_writes hb).trans (after_of_writes_sub hostOps2 _ hostOps2_writes ha))
include h7 in
theorem x7_of (r : Ref sig .tc) (ha : r ∉ hostOps2_W) (hb : r ∉ hostOps2_1_W) (hd : r ∉ hostOps2_2_W)
    (h' : r ∉ ([main_v63_0, main_v63_1, main_v63_2] : List (Ref sig .tc))) : X7 c r = X3 c r :=
  (x7_of' X3 X7 h7 c r ha hb hd).trans (U1_of X3 c r h')

variable (hc : ∀ i, cat (A c main_arg0 i))

include h1 hc in
/-- The first call's results. -/
theorem call0 :
    (∀ i, U0 X1 c main_v7_0 i = val_main_v75 (F := Ideal) (A c main_arg0) (A c main_arg1) (A c main_arg2) i)
    ∧ (∀ b : Fin 16, U0 X1 c main_v7_1 (ix2 b (0 : Fin 1)) = val_main_v85 (F := Ideal) (A c main_arg0) (A c main_arg1) (A c main_arg2) (ix1 b))
    ∧ (∀ b : Fin 16, U0 X1 c main_v7_2 (ix2 b (0 : Fin 1)) = val_main_v159 (F := Ideal) (A c main_arg0) (A c main_arg1) (A c main_arg2) (ix1 b)) := by
  have a0 : X1 c main_arg0 = A c main_arg0 := x1_of A X1 h1 c _ (by decide)
  have hX : ∀ i, XCw (F := Ideal) (ax0 (En X1) c) (axp0 (En X1) c) (aa0 (En X1) c) i = A c main_arg0 i := fun i =>
    (XC_zero _ _ i).trans (congrFun a0 i)
  have hW : ∀ (k : Fin 4) (d : Fin 100000), aw0 (F := Ideal) (En X1) c (ix2 (⟨k.val, by omega⟩ : Fin 8) d) = A c main_arg1 (ix2 d k) := by
    intro k d
    have e : X1 c main_v5 = _ := (congrFun (h1 c).symm _).trans (h0_v5 (A c))
    exact (congrFun e _).trans (w8_at _ _ k d)
  have hG : ∀ (b : Fin 16) (d : Fin 100000) (k : Fin 4), ag0 (F := Ideal) (En X1) c (ix3 k b d) = A c main_arg2 (ix3 b d k) := by
    intro b d k
    have e : X1 c main_v0 = _ := (congrFun (h1 c).symm _).trans (h0_v0 (A c))
    exact (congrFun e _).trans (g_at _ b d k)
  refine ⟨fun i => ?_, fun b => ?_, fun b => ?_⟩
  · exact (congrFun (U0_at0 X1 c) i).trans (IDX_eq _ _ _ _ _ _ _ _ hX hc hW hG i)
  · exact (congrFun (U0_at1 X1 c) _).trans (LF_eq _ _ _ _ _ _ _ _ hX hc hW hG b)
  · exact (congrFun (U0_at2 X1 c) _).trans (LR_eq _ _ _ _ _ _ _ _ hX hc hW hG b)

include h1 h3 hc in
/-- The first step's acceptances. -/
theorem acc1 : X3 c main_v61 = val_main_v173 (F := Ideal) (A c main_arg0) (A c main_arg1) (A c main_arg2) (A c main_arg4) := by
  obtain ⟨hd, hf, hr⟩ := call0 A X1 h1 c hc
  have k : ∀ r : Ref sig .tc, r ∉ hostOps0_W → r ∉ ([main_v7_0, main_v7_1, main_v7_2] : List (Ref sig .tc)) → U0 X1 c r = A c r :=
    fun r h h' => (U0_of X1 c r h').trans (x1_of A X1 h1 c r h)
  have e : X3 c main_v61 = _ := (congrFun (h3 c).symm _).trans (h1_v61 (U0 X1 c))
  rw [e, k main_arg0 (by decide) (by decide), k main_arg1 (by decide) (by decide), k main_arg4 (by decide) (by decide)]
  exact acc_eq _ _ _ _ _ _ _ hd hr hf

include h1 h3 hc in
theorem acc1c : X3 c main_v62 = col (F := Ideal) (val_main_v173 (F := Ideal) (A c main_arg0) (A c main_arg1) (A c main_arg2) (A c main_arg4)) := by
  obtain ⟨hd, hf, hr⟩ := call0 A X1 h1 c hc
  have k : ∀ r : Ref sig .tc, r ∉ hostOps0_W → r ∉ ([main_v7_0, main_v7_1, main_v7_2] : List (Ref sig .tc)) → U0 X1 c r = A c r :=
    fun r h h' => (U0_of X1 c r h').trans (x1_of A X1 h1 c r h)
  have e : X3 c main_v62 = _ := (congrFun (h3 c).symm _).trans (h1_v62 (U0 X1 c))
  rw [e, k main_arg0 (by decide) (by decide), k main_arg1 (by decide) (by decide), k main_arg4 (by decide) (by decide)]
  exact congrArg (col (F := Ideal)) (acc_eq _ _ _ _ _ _ _ hd hr hf)

/-- What the reference's first step leaves. -/
abbrev Y1 : RX := val_main_v185 (F := Ideal) (A c main_arg0) (A c main_arg1) (A c main_arg2) (A c main_arg4)

include h1 h3 in
theorem x3_arg (r : Ref sig .tc) (ha : r ∉ hostOps0_W) (hb : r ∉ hostOps1_W) (h' : r ∉ ([main_v7_0, main_v7_1, main_v7_2] : List (Ref sig .tc))) :
    X3 c r = A c r := (x3_of X1 X3 h3 c r hb h').trans (x1_of A X1 h1 c r ha)

include h1 h3 hc in
/-- The first step's proposals reach the second call. -/
theorem x3_prop (i : S16x100000.Idx) : X3 c main_v7_0 i = val_main_v75 (F := Ideal) (A c main_arg0) (A c main_arg1) (A c main_arg2) i :=
  (congrFun (x3_of' X1 X3 h3 c main_v7_0 (by decide)) i).trans ((call0 A X1 h1 c hc).1 i)

include h1 h3 hc in
/-- The second call starts from what the first step left. -/
theorem start1 (i : S16x100000.Idx) : XCw (F := Ideal) (X3 c main_arg0) (X3 c main_v7_0) (X3 c main_v62) i = Y1 A c i := by
  rw [acc1c A X1 X3 h1 h3 c hc, x3_arg A X1 X3 h1 h3 c main_arg0 (by decide) (by decide) (by decide)]
  exact XC_eq _ _ _ _ hc _ (x3_prop A X1 X3 h1 h3 c hc) i

include h1 h3 hc in
/-- The second call's results. -/
theorem call1 :
    (∀ i, U1 X3 c main_v63_0 i = val_main_v75 (F := Ideal) (Y1 A c) (A c main_arg1) (A c main_arg3) i)
    ∧ (∀ b : Fin 16, U1 X3 c main_v63_1 (ix2 b (0 : Fin 1)) = val_main_v85 (F := Ideal) (Y1 A c) (A c main_arg1) (A c main_arg3) (ix1 b))
    ∧ (∀ b : Fin 16, U1 X3 c main_v63_2 (ix2 b (0 : Fin 1)) = val_main_v159 (F := Ideal) (Y1 A c) (A c main_arg1) (A c main_arg3) (ix1 b)) := by
  have hX : ∀ i, XCw (F := Ideal) (ax1 (En X3) c) (axp1 (En X3) c) (aa1 (En X3) c) i = Y1 A c i := start1 A X1 X3 h1 h3 c hc
  have hc1 : ∀ i, cat (Y1 A c i) := cat_v185 _ _ _ _ hc
  have hW : ∀ (k : Fin 4) (d : Fin 100000), aw1 (F := Ideal) (En X3) c (ix2 (⟨k.val, by omega⟩ : Fin 8) d) = A c main_arg1 (ix2 d k) := by
    intro k d
    have e : X3 c main_v5 = _ := (x3_of X1 X3 h3 c main_v5 (by decide) (by decide)).trans ((congrFun (h1 c).symm _).trans (h0_v5 (A c)))
    exact (congrFun e _).trans (w8_at _ _ k d)
  have hG : ∀ (b : Fin 16) (d : Fin 100000) (k : Fin 4), ag1 (F := Ideal) (En X3) c (ix3 k b d) = A c main_arg3 (ix3 b d k) := by
    intro b d k
    have e : X3 c main_v1 = _ := (x3_of X1 X3 h3 c main_v1 (by decide) (by decide)).trans ((congrFun (h1 c).symm _).trans (h0_v1 (A c)))
    exact (congrFun e _).trans (g_at _ b d k)
  refine ⟨fun i => ?_, fun b => ?_, fun b => ?_⟩
  · exact (congrFun (U1_at0 X3 c) i).trans (IDX_eq _ _ _ _ _ _ _ _ hX hc1 hW hG i)
  · exact (congrFun (U1_at1 X3 c) _).trans (LF_eq _ _ _ _ _ _ _ _ hX hc1 hW hG b)
  · exact (congrFun (U1_at2 X3 c) _).trans (LR_eq _ _ _ _ _ _ _ _ hX hc1 hW hG b)

include h1 h3 h7 hc in
/-- The second step's acceptances. -/
theorem acc2c : X7 c main_v125 = col (F := Ideal) (val_main_v173 (F := Ideal) (Y1 A c) (A c main_arg1) (A c main_arg3) (A c main_arg5)) := by
  obtain ⟨hd, hf, hr⟩ := call1 A X1 X3 h1 h3 c hc
  generalize hP : after hostOps2 (U1 X3 c) = P
  generalize hQ : after hostOps2_1 P = Q
  have kP : ∀ r : Ref sig .tc, r ∉ hostOps2_W → P r = U1 X3 c r := fun r h => by
    rw [← hP]; exact after_of_writes_sub hostOps2 _ hostOps2_writes h
  have kQ : ∀ r : Ref sig .tc, r ∉ hostOps2_W → r ∉ hostOps2_1_W → Q r = U1 X3 c r := fun r h h' => by
    rw [← hQ]; exact (after_of_writes_sub hostOps2_1 _ hostOps2_1_writes h').trans (kP r h)
  have kA : ∀ r : Ref sig .tc, r ∉ hostOps0_W → r ∉ hostOps1_W → r ∉ ([main_v7_0, main_v7_1, main_v7_2] : List (Ref sig .tc)) →
      r ∉ ([main_v63_0, main_v63_1, main_v63_2] : List (Ref sig .tc)) → U1 X3 c r = A c r :=
    fun r ha hb h' h'' => (U1_of X3 c r h'').trans (x3_arg A X1 X3 h1 h3 c r ha hb h')
  have e66 : P main_v66 = _ := (congrFun hP.symm _).trans (h2_v66 (U1 X3 c))
  have e68 : P main_v68 = _ := (congrFun hP.symm _).trans (h2_v68 (U1 X3 c))
  have e70 : P main_v70 = _ := (congrFun hP.symm _).trans (h2_v70 (U1 X3 c))
  have e71 : Q main_v71 = row (Y1 A c) := by
    have e : Q main_v71 = _ := (congrFun hQ.symm _).trans (h21_v71 P)
    rw [e, e66, e68, e70]
    refine (row2_eq (U1 X3 c main_v61) (U1 X3 c main_v7_0) (U1 X3 c main_arg0)).trans (congrArg row (funext fun i => ?_))
    rw [U1_of X3 c main_v61 (by decide), U1_of X3 c main_v7_0 (by decide), U1_of X3 c main_arg0 (by decide), acc1 A X1 X3 h1 h3 c hc,
      ← acc1c A X1 X3 h1 h3 c hc]
    exact start1 A X1 X3 h1 h3 c hc i
  have e : X7 c main_v125 = _ := (congrFun ((h7 c).symm.trans (by rw [hP, hQ])) _).trans (h22_v125 Q)
  rw [e, e71, kQ main_v63_0 (by decide) (by decide), kQ main_v63_1 (by decide) (by decide), kQ main_v63_2 (by decide) (by decide),
    kQ main_arg1 (by decide) (by decide), kQ main_arg5 (by decide) (by decide), kA main_arg1 (by decide) (by decide) (by decide) (by decide),
    kA main_arg5 (by decide) (by decide) (by decide) (by decide)]
  exact congrArg (col (F := Ideal)) (acc_eq _ _ _ _ _ _ _ hd hr hf)

include h1 h3 h7 hc in
/-- The first step's acceptances reach the last call. -/
theorem acc1d : X7 c main_v124 = col (F := Ideal) (val_main_v173 (F := Ideal) (A c main_arg0) (A c main_arg1) (A c main_arg2) (A c main_arg4)) := by
  have e : X7 c main_v124 = _ := (congrFun (h7 c).symm _).trans (h22_v124 (after hostOps2_1 (after hostOps2 (U1 X3 c))))
  refine e.trans (congrArg (col (F := Ideal)) ?_)
  exact (after_of_writes_sub hostOps2_1 _ hostOps2_1_writes (by decide : main_v61 ∉ hostOps2_1_W)).trans
    ((after_of_writes_sub hostOps2 _ hostOps2_writes (by decide : main_v61 ∉ hostOps2_W)).trans
      ((U1_of X3 c main_v61 (by decide)).trans (acc1 A X1 X3 h1 h3 c hc)))

include h1 h3 h7 hc in
/-- What the kernel's program leaves is what the reference computes. -/
theorem sel_ref : SEL (F := Ideal) (En X7) c
    = val_main_v367 (F := Ideal) (A c main_arg0) (A c main_arg1) (A c main_arg2) (A c main_arg3) (A c main_arg4) (A c main_arg5) := by
  rw [r_v367]
  funext i
  have hc1 : ∀ i, cat (Y1 A c i) := cat_v185 _ _ _ _ hc
  have q0 : X7 c main_v7_0 = X3 c main_v7_0 := x7_of X3 X7 h7 c _ (by decide) (by decide) (by decide) (by decide)
  have qx : X7 c main_arg0 = X3 c main_arg0 := x7_of X3 X7 h7 c _ (by decide) (by decide) (by decide) (by decide)
  have q1 : X7 c main_v63_0 = U1 X3 c main_v63_0 := x7_of' X3 X7 h7 c _ (by decide) (by decide) (by decide)
  have hY : ∀ j, XCw (F := Ideal) (X7 c main_arg0) (X7 c main_v7_0) (X7 c main_v124) j = Y1 A c j := by
    intro j
    rw [q0, qx, acc1d A X1 X3 X7 h1 h3 h7 c hc, ← acc1c A X1 X3 h1 h3 c hc]
    exact start1 A X1 X3 h1 h3 c hc j
  have hY' : XCw (F := Ideal) (X7 c main_arg0) (X7 c main_v7_0) (X7 c main_v124) = Y1 A c := funext hY
  refine Eq.trans ?_ (XC_eq (Y1 A c) (A c main_arg1) (A c main_arg3) (A c main_arg5) hc1 (U1 X3 c main_v63_0) (call1 A X1 X3 h1 h3 c hc).1 i)
  rw [← acc2c A X1 X3 X7 h1 h3 h7 c hc, ← hY', ← q1]
  rfl

end

end Cert.KernelIdeal.Own

end
-- ==== Proof.Frames.lean ====
module

public import proofs.«01_k».proof.Defs
public import proofs.«01_k».proof.Proof.Run
public import proofs.«01_k».proof.Proof.KRun
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import Idealize.ShloMosaic.Lib.Quiescent

@[expose] public section

noncomputable section

namespace Cert.Own

open Idealize.ShloMosaic Idealize.SL.Sem

/-- The kernel's frame at bit patterns. -/
theorem frame_kernel : Cert.quiescent_Kernel (hKernel := Cert.Kernel.Gen.facts) := fun m g _ =>
  (θ_run _ _ _).mono (fun _ h => ⟨fun c => (h.1 c).2, h.2⟩)
    (Cert.Kernel.Own.run_gen m _ _ _ (fun _ => rfl) (fun _ => rfl) (fun _ => rfl) g)

/-- The kernel's frame at extended reals. -/
theorem frame_ideal : Cert.quiescent_KernelIdeal (hKernelIdeal := Cert.KernelIdeal.Gen.facts) := fun m g _ =>
  (θ_run _ _ _).mono (fun _ h => ⟨fun c => (h.1 c).2, h.2⟩)
    (Cert.KernelIdeal.Own.run_gen m _ _ _ (fun _ => rfl) (fun _ => rfl) (fun _ => rfl) g)

/-- The reference's frame: it has no semaphore. -/
theorem frame_reference : Cert.quiescent_ReferenceIdeal (hReferenceIdeal := Cert.ReferenceIdeal.Gen.facts) := fun m g _ =>
  (θ_run _ _ _).mono (fun r h => ⟨fun c => (h c).2, sem_eq_zero_of_no_sems rfl r.2⟩)
    (Cert.ReferenceIdeal.Value.run (F := Ideal) m g)

end Cert.Own

end
-- ==== Proof.Claims.lean ====
module

public import proofs.«01_k».proof.Proof.Alg
public import proofs.«01_k».proof.Proof.Frames
public import proofs.«01_k».proof.Proof.Gen.Pre_categories
public import Idealize.ShloMosaic.Lib.Claim

@[expose] public section

set_option backward.proofsInPublic true

noncomputable section

namespace Cert.Own

open Idealize.ShloMosaic Idealize.SL.Sem Cert.KernelIdeal.Own

/-- A word between 0 and 3 is a class. -/
theorem cat_of_bounds (x : BitVec 32) (h : IntOp.andi (IntOp.cmpi .sge x 0#32) (IntOp.cmpi .slt x 4#32) = 1#1) : cat x := by
  have h' : BitVec.ofBool ((0#32).sle x) &&& BitVec.ofBool (x.slt 4#32) = 1#1 := h
  have a : (0#32).sle x = true := by
    cases e : (0#32).sle x
    · rw [e] at h'; simp at h'
    · rfl
  have b : x.slt 4#32 = true := by
    cases e : x.slt 4#32
    · rw [e] at h'; simp at h'
    · rfl
  rw [BitVec.sle_iff_toInt_le] at a
  rw [BitVec.slt_iff_toInt_lt] at b
  have z : (0#32 : BitVec 32).toInt = 0 := by decide
  have f : (4#32 : BitVec 32).toInt = 4 := by decide
  rw [z] at a
  rw [f] at b
  have t : x.toInt = 0 ∨ x.toInt = 1 ∨ x.toInt = 2 ∨ x.toInt = 3 := by omega
  unfold cat
  rcases t with t | t | t | t
  · exact Or.inl (BitVec.eq_of_toInt_eq (t.trans (by decide)))
  · exact Or.inr (Or.inl (BitVec.eq_of_toInt_eq (t.trans (by decide))))
  · exact Or.inr (Or.inr (Or.inl (BitVec.eq_of_toInt_eq (t.trans (by decide)))))
  · exact Or.inr (Or.inr (Or.inr (BitVec.eq_of_toInt_eq (t.trans (by decide)))))

/-- The kernel's frame, the classes being in range. -/
theorem frame_ideal_pre : Cert.quiescent_KernelIdeal_pre_categories (hKernelIdeal := Cert.KernelIdeal.Gen.facts) (hPre_categories := Cert.Pre_categories.Gen.facts) :=
  fun m g _ => frame_ideal m g trivial

/-- The reference's frame, the classes being in range. -/
theorem frame_reference_pre : Cert.quiescent_ReferenceIdeal_pre_categories (hReferenceIdeal := Cert.ReferenceIdeal.Gen.facts) (hPre_categories := Cert.Pre_categories.Gen.facts) :=
  fun m g _ => frame_reference m g trivial

/-- The kernel's program and the reference leave the same classes. -/
theorem algebraic : Cert.algebraic_KernelIdeal_ReferenceIdeal_pre_categories (hKernelIdeal := Cert.KernelIdeal.Gen.facts)
    (hReferenceIdeal := Cert.ReferenceIdeal.Gen.facts) (hPre_categories := Cert.Pre_categories.Gen.facts) := by
  intro m g m' g' hp ha
  refine ⟨_, (θ_run _ _ _).mono (fun r h c => h.1 c)
    (Cert.KernelIdeal.Own.run_gen (F := Ideal) m _ _ _ (fun _ => rfl) (fun _ => rfl) (fun _ => rfl) g), ?_⟩
  refine (θ_run _ _ _).mono (fun r h c => ⟨(h c).1.trans ?_, (h c).2⟩) (Cert.ReferenceIdeal.Value.run (F := Ideal) m' g')
  have hc : ∀ i, cat (Cert.KernelIdeal.Gen.V0 m c (Proc.devRef .tc Cert.KernelIdeal.main_arg0) i) := fun i => cat_of_bounds _ (congrFun (hp c) i)
  refine (Cert.ReferenceIdeal.Read.val_main_v367_eq (F := Ideal) (StableHlo.launchContents m' c)).trans ?_
  refine Eq.trans ?_ (sel_ref (fun c => Cert.KernelIdeal.Gen.V0 m c) _ _ _ (fun _ => rfl) (fun _ => rfl) (fun _ => rfl) c hc).symm
  obtain ⟨q0, q1, q2, q3, q4, q5⟩ := ha c
  rw [StableHlo.launchContents_devRef, StableHlo.launchContents_devRef, StableHlo.launchContents_devRef, StableHlo.launchContents_devRef,
    StableHlo.launchContents_devRef, StableHlo.launchContents_devRef, q0, q1, q2, q3, q4, q5]

end Cert.Own

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_categories
public import proofs.«01_k».proof.Proof.Claims
public import Idealize.ShloMosaic.Adequacy
public import Idealize.ShloMosaic.Init

@[expose] public section

noncomputable section

namespace Cert.Proof

open Idealize.ShloMosaic Idealize.SL.Sem Cert.Kernel

/-- The claims, all of them. -/
theorem claim : Cert.Claim := ⟨Cert.Kernel.Gen.facts, Cert.KernelIdeal.Gen.facts, Cert.ReferenceIdeal.Gen.facts, Cert.Pre_categories.Gen.facts,
  Cert.Own.frame_kernel, Cert.Own.frame_ideal, Cert.Own.frame_ideal_pre, Cert.Own.frame_reference, Cert.Own.frame_reference_pre, trivial,
  Cert.Own.algebraic⟩

end Cert.Proof

end
